-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_window_full [hPre_window_full : Cert.Pre_window_full.Facts] (m : (ℓ : Loc Cert.KernelIdeal.nD Cert.KernelIdeal.τ Cert.KernelIdeal.sig) → Buf (Elt Ideal) ℓ) : Prop :=
  ∀ c : Dev Cert.KernelIdeal.nD,
    (Cert.Pre_window_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_window_full [hPre_window_full : Cert.Pre_window_full.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_window_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_window_full [hKernelIdeal : Cert.KernelIdeal.Facts] [hPre_window_full : Cert.Pre_window_full.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_window_full m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_window_full [hReferenceIdeal : Cert.ReferenceIdeal.Facts] [hPre_window_full : Cert.Pre_window_full.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_window_full m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_window_full [hKernelIdeal : Cert.KernelIdeal.Facts] [hReferenceIdeal : Cert.ReferenceIdeal.Facts] [hPre_window_full : Cert.Pre_window_full.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_window_full m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_window_full : Cert.Pre_window_full.Facts),
    quiescent_Kernel (hKernel := hKernel)
    ∧ quiescent_KernelIdeal (hKernelIdeal := hKernelIdeal)
    ∧ quiescent_KernelIdeal_pre_window_full (hKernelIdeal := hKernelIdeal) (hPre_window_full := hPre_window_full)
    ∧ quiescent_ReferenceIdeal (hReferenceIdeal := hReferenceIdeal)
    ∧ quiescent_ReferenceIdeal_pre_window_full (hReferenceIdeal := hReferenceIdeal) (hPre_window_full := hPre_window_full)
    ∧ preserves_Kernel_KernelIdeal
    ∧ algebraic_KernelIdeal_ReferenceIdeal_pre_window_full (hKernelIdeal := hKernelIdeal) (hReferenceIdeal := hReferenceIdeal) (hPre_window_full := hPre_window_full)
-- ==== Pre_window_full.lean ====
abbrev S8x4x32x64 : Shape := ⟨4, ![8, 4, 32, 64]⟩
abbrev S8x4x4x64 : Shape := ⟨4, ![8, 4, 4, 64]⟩
abbrev S8x32768x4x32 : Shape := ⟨4, ![8, 32768, 4, 32]⟩
abbrev S8x32768x4x4 : Shape := ⟨4, ![8, 32768, 4, 4]⟩
abbrev S_ : Shape := ⟨0, ![]⟩
abbrev S8 : Shape := ⟨1, ![8]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x4x32x64 .bf16) (main_arg1 : FVec F S8x4x4x64 .bf16) (main_arg2 : FVec F S8x4x4x64 .bf16) (main_arg3 : IVec S8x32768x4x32 8) (main_arg4 : IVec S8x32768x4x32 8) (main_arg5 : FVec F S8x32768x4x4 .fp8e4m3) (main_arg6 : FVec F S8x32768x4x4 .fp8e4m3) (main_arg7 : FVec F S_ .f32) (main_arg8 : FVec F S_ .f32) (main_arg9 : IVec S8 32) : IVec S_ 1 :=
  let main_c : IVec S_ 32 := constantI S_ 32 1024#32
  let main_v0 : IVec S8 32 := broadcastInDim S8 ![] bcast_S_S8 main_c
  let main_v1 : IVec S8 1 := cmpi .sge main_arg9 main_v0
  let main_c_0 : IVec S_ 32 := constantI S_ 32 32768#32
  let main_v2 : IVec S8 32 := broadcastInDim S8 ![] bcast_S_S8 main_c_0
  let main_v3 : IVec S8 1 := cmpi .sle main_arg9 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S8x4x32x64 : Shape := ⟨4, ![8, 4, 32, 64]⟩
abbrev S8x4x4x64 : Shape := ⟨4, ![8, 4, 4, 64]⟩
abbrev S8x32768x4x32 : Shape := ⟨4, ![8, 32768, 4, 32]⟩
abbrev S8x32768x4x4 : Shape := ⟨4, ![8, 32768, 4, 4]⟩
abbrev S_ : Shape := ⟨0, ![]⟩
abbrev S8 : Shape := ⟨1, ![8]⟩
abbrev S1 : Shape := ⟨1, ![1]⟩
abbrev S8x4x32x32768 : Shape := ⟨4, ![8, 4, 32, 32768]⟩
abbrev S8x4x4x32768 : Shape := ⟨4, ![8, 4, 4, 32768]⟩
abbrev S8x4x2048 : Shape := ⟨3, ![8, 4, 2048]⟩
abbrev S8x4x32x1152 : Shape := ⟨4, ![8, 4, 32, 1152]⟩
abbrev S8x4x4x1152 : Shape := ⟨4, ![8, 4, 4, 1152]⟩
abbrev S1x4x32x1152 : Shape := ⟨4, ![1, 4, 32, 1152]⟩
abbrev S1x4x4x1152 : Shape := ⟨4, ![1, 4, 4, 1152]⟩
abbrev S128x128 : Shape := ⟨2, ![128, 128]⟩
abbrev S64x256 : Shape := ⟨2, ![64, 256]⟩
abbrev S128x256 : Shape := ⟨2, ![128, 256]⟩
abbrev S128x16 : Shape := ⟨2, ![128, 16]⟩
abbrev S16x128 : Shape := ⟨2, ![16, 128]⟩
abbrev S1x4x32x64 : Shape := ⟨4, ![1, 4, 32, 64]⟩
abbrev S4x32x64 : Shape := ⟨3, ![4, 32, 64]⟩
abbrev S128x64 : Shape := ⟨2, ![128, 64]⟩
abbrev S1x4x4x64 : Shape := ⟨4, ![1, 4, 4, 64]⟩
abbrev S4x4x64 : Shape := ⟨3, ![4, 4, 64]⟩
abbrev S16x64 : Shape := ⟨2, ![16, 64]⟩
abbrev S4x128 : Shape := ⟨2, ![4, 128]⟩
abbrev S8x128 : Shape := ⟨2, ![8, 128]⟩
abbrev S1x1x32x128 : Shape := ⟨4, ![1, 1, 32, 128]⟩
abbrev S32x128 : Shape := ⟨2, ![32, 128]⟩
abbrev S1x1x4x1152 : Shape := ⟨4, ![1, 1, 4, 1152]⟩
abbrev S4x1152 : Shape := ⟨2, ![4, 1152]⟩
abbrev S1x1x32x896 : Shape := ⟨4, ![1, 1, 32, 896]⟩
abbrev S32x896 : Shape := ⟨2, ![32, 896]⟩
abbrev S32x1024 : Shape := ⟨2, ![32, 1024]⟩
abbrev S4x896 : Shape := ⟨2, ![4, 896]⟩
abbrev S4x1024 : Shape := ⟨2, ![4, 1024]⟩
abbrev S32x1x1024 : Shape := ⟨3, ![32, 1, 1024]⟩
abbrev S32x2x1024 : Shape := ⟨3, ![32, 2, 1024]⟩
abbrev S64x1024 : Shape := ⟨2, ![64, 1024]⟩
abbrev S1x1024 : Shape := ⟨2, ![1, 1024]⟩
abbrev S16x1024 : Shape := ⟨2, ![16, 1024]⟩
abbrev S256x1024 : Shape := ⟨2, ![256, 1024]⟩
abbrev S128x1024 : Shape := ⟨2, ![128, 1024]⟩
abbrev S128x768 : Shape := ⟨2, ![128, 768]⟩
abbrev S128 : Shape := ⟨1, ![128]⟩
abbrev S128x1 : Shape := ⟨2, ![128, 1]⟩
abbrev S1x4x128 : Shape := ⟨3, ![1, 4, 128]⟩

abbrev nBuf : Space → Nat
  | .hbm => 17
  | .vmem => 8
  | .smem => 3
  | _ => 0

abbrev bufTy : (tb : Table) → Fin (tcTables nBuf tb) → BufTy
  | .hbm, ⟨0, _⟩ => ⟨S8x4x32x64, .bf16⟩
  | .hbm, ⟨1, _⟩ => ⟨S8x4x4x64, .bf16⟩
  | .hbm, ⟨2, _⟩ => ⟨S8x4x4x64, .bf16⟩
  | .hbm, ⟨3, _⟩ => ⟨S8x32768x4x32, .i8⟩
  | .hbm, ⟨4, _⟩ => ⟨S8x32768x4x32, .i8⟩
  | .hbm, ⟨5, _⟩ => ⟨S8x32768x4x4, .fp8e4m3⟩
  | .hbm, ⟨6, _⟩ => ⟨S8x32768x4x4, .fp8e4m3⟩
  | .hbm, ⟨7, _⟩ => ⟨S_, .f32⟩
  | .hbm, ⟨8, _⟩ => ⟨S_, .f32⟩
  | .hbm, ⟨9, _⟩ => ⟨S8, .i32⟩
  | .hbm, ⟨10, _⟩ => ⟨S1, .f32⟩
  | .hbm, ⟨11, _⟩ => ⟨S1, .f32⟩
  | .hbm, ⟨12, _⟩ => ⟨S8x4x32x32768, .i8⟩
  | .hbm, ⟨13, _⟩ => ⟨S8x4x32x32768, .i8⟩
  | .hbm, ⟨14, _⟩ => ⟨S8x4x4x32768, .fp8e4m3⟩
  | .hbm, ⟨15, _⟩ => ⟨S8x4x4x32768, .fp8e4m3⟩
  | .hbm, ⟨16, _⟩ => ⟨S8x4x2048, .bf16⟩
  | .local _ .vmem, ⟨0, _⟩ => ⟨S8x4x32x64, .bf16⟩
  | .local _ .vmem, ⟨1, _⟩ => ⟨S8x4x4x64, .bf16⟩
  | .local _ .vmem, ⟨2, _⟩ => ⟨S8x4x4x64, .bf16⟩
  | .local _ .vmem, ⟨3, _⟩ => ⟨S8x4x2048, .bf16⟩
  | .local _ .vmem, ⟨4, _⟩ => ⟨S8x4x32x1152, .i8⟩
  | .local _ .vmem, ⟨5, _⟩ => ⟨S8x4x32x1152, .i8⟩
  | .local _ .vmem, ⟨6, _⟩ => ⟨S8x4x4x1152, .fp8e4m3⟩
  | .local _ .vmem, ⟨7, _⟩ => ⟨S8x4x4x1152, .fp8e4m3⟩
  | .local _ .smem, ⟨0, _⟩ => ⟨S8, .i32⟩
  | .local _ .smem, ⟨1, _⟩ => ⟨S1, .f32⟩
  | .local _ .smem, ⟨2, _⟩ => ⟨S1, .f32⟩
  | _, _ => ⟨S8x4x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 (v0 : BitVec 32) : BitVec 32 :=
  let c31744_i32 : BitVec 32 := 31744#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c31744_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c31616_i32 : BitVec 32 := 31616#32
  let v22 : BitVec 32 := Scalar.minsi v21 c31616_i32
  v22

def k0_off1 (v0 : BitVec 32) : Fin 4 → Nat :=
  let c0_i32_11 : BitVec 32 := 0#32
  let c0_i32_12 : BitVec 32 := 0#32
  let c0_i32_13 : BitVec 32 := 0#32
  let c31744_i32 : BitVec 32 := 31744#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c31744_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c31616_i32 : BitVec 32 := 31616#32
  let v22 : BitVec 32 := Scalar.minsi v21 c31616_i32
  let v23 : BitVec 32 := v22
  ![0, 0, 0, v23.toNat]
def k0_off2 (v0 : BitVec 32) : Fin 4 → Nat :=
  let c0_i32_19 : BitVec 32 := 0#32
  let c0_i32_20 : BitVec 32 := 0#32
  let c0_i32_21 : BitVec 32 := 0#32
  let c31744_i32 : BitVec 32 := 31744#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c31744_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c31616_i32 : BitVec 32 := 31616#32
  let v22 : BitVec 32 := Scalar.minsi v21 c31616_i32
  let v23 : BitVec 32 := v22
  ![0, 0, 0, v23.toNat]

def k0_chk1 (v0 : BitVec 32) : Prop :=
  (128 ∣ (k0_mult1 v0).toNat) ∧
  (∀ a, (k0_off1 v0) a + S1x4x32x1152.size a ≤ S8x4x32x32768.size a) ∧
  (∀ (hinb : ∀ a, (k0_off1 v0) a + S1x4x32x1152.size a ≤ S8x4x32x32768.size a), (Rect.unit (s := S8x4x32x32768) (k0_off1 v0) S1x4x32x1152.size hinb).WholeWords (EltTy.packing .i8)) ∧
  (∀ a, (k0_off2 v0) a + S1x4x4x1152.size a ≤ S8x4x4x32768.size a) ∧
  (∀ (hinb : ∀ a, (k0_off2 v0) a + S1x4x4x1152.size a ≤ S8x4x4x32768.size a), (Rect.unit (s := S8x4x4x32768) (k0_off2 v0) S1x4x4x1152.size hinb).WholeWords (EltTy.packing .fp8e4m3))
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0), ∀ a, (k0_off1 v0) a + S1x4x32x1152.size a ≤ S8x4x32x32768.size a := fun v0 k0_hw1 => k0_hw1.2.1
theorem k0_off1_wordsi8 : ∀ (v0 : BitVec 32) (k0_hw1 : k0_chk1 v0), (Rect.unit (s := S8x4x32x32768) (k0_off1 v0) S1x4x32x1152.size (k0_off1_inb v0 k0_hw1)).WholeWords (EltTy.packing .i8) := fun v0 k0_hw1 => k0_hw1.2.2.1 (k0_off1_inb v0 k0_hw1)
theorem k0_off2_inb : ∀ (v0 : BitVec 32) (k0_hw1 : k0_chk1 v0), ∀ a, (k0_off2 v0) a + S1x4x4x1152.size a ≤ S8x4x4x32768.size a := fun v0 k0_hw1 => k0_hw1.2.2.2.1
theorem k0_off2_wordsfp8e4m3 : ∀ (v0 : BitVec 32) (k0_hw1 : k0_chk1 v0), (Rect.unit (s := S8x4x4x32768) (k0_off2 v0) S1x4x4x1152.size (k0_off2_inb v0 k0_hw1)).WholeWords (EltTy.packing .fp8e4m3) := fun v0 k0_hw1 => k0_hw1.2.2.2.2 (k0_off2_inb v0 k0_hw1)

def k0_mult2 (v40 : BitVec 32) : BitVec 32 :=
  let c31744_i32_40 : BitVec 32 := 31744#32
  let c0_i32_39 : BitVec 32 := 0#32
  let c1024_i32_38 : BitVec 32 := 1024#32
  let v41 : BitVec 32 := Scalar.subi v40 c1024_i32_38
  let v42 : BitVec 32 := Scalar.maxsi c0_i32_39 v41
  let v43 : BitVec 32 := Scalar.minsi c31744_i32_40 v42
  let c0_i32_42 : BitVec 32 := 0#32
  let v45 : BitVec 1 := Scalar.cmpi .sgt v43 c0_i32_42
  let v46 : BitVec 32 := Scalar.extui v45
  let c0_i32_43 : BitVec 32 := 0#32
  let v47 : BitVec 1 := Scalar.cmpi .slt v43 c0_i32_43
  let v48 : BitVec 32 := Scalar.extui v47
  let v49 : BitVec 32 := Scalar.subi v46 v48
  let c128_i32_41 : BitVec 32 := 128#32
  let c0_i32_44 : BitVec 32 := 0#32
  let v50 : BitVec 1 := Scalar.cmpi .sgt c128_i32_41 c0_i32_44
  let v51 : BitVec 32 := Scalar.extui v50
  let c0_i32_45 : BitVec 32 := 0#32
  let v52 : BitVec 1 := Scalar.cmpi .slt c128_i32_41 c0_i32_45
  let v53 : BitVec 32 := Scalar.extui v52
  let v54 : BitVec 32 := Scalar.subi v51 v53
  let v55 : BitVec 1 := Scalar.cmpi .ne v49 v54
  let v56 : BitVec 32 := Scalar.remsi v43 c128_i32_41
  let c0_i32_46 : BitVec 32 := 0#32
  let v57 : BitVec 1 := Scalar.cmpi .ne v56 c0_i32_46
  let v58 : BitVec 1 := Scalar.andi v55 v57
  let v44 : BitVec 32 := Scalar.divsi v43 c128_i32_41
  let c1_i32_47 : BitVec 32 := 1#32
  let v59 : BitVec 32 := Scalar.subi v44 c1_i32_47
  let v60 : BitVec 32 := Scalar.select v58 v59 v44
  let c128_i32_48 : BitVec 32 := 128#32
  let v61 : BitVec 32 := Scalar.muli v60 c128_i32_48
  let c31616_i32_49 : BitVec 32 := 31616#32
  let v62 : BitVec 32 := Scalar.minsi v61 c31616_i32_49
  v62

def k0_off3 (v40 : BitVec 32) : Fin 4 → Nat :=
  let c1_i32_55 : BitVec 32 := 1#32
  let c0_i32_56 : BitVec 32 := 0#32
  let c0_i32_57 : BitVec 32 := 0#32
  let c31744_i32_40 : BitVec 32 := 31744#32
  let c0_i32_39 : BitVec 32 := 0#32
  let c1024_i32_38 : BitVec 32 := 1024#32
  let v41 : BitVec 32 := Scalar.subi v40 c1024_i32_38
  let v42 : BitVec 32 := Scalar.maxsi c0_i32_39 v41
  let v43 : BitVec 32 := Scalar.minsi c31744_i32_40 v42
  let c0_i32_42 : BitVec 32 := 0#32
  let v45 : BitVec 1 := Scalar.cmpi .sgt v43 c0_i32_42
  let v46 : BitVec 32 := Scalar.extui v45
  let c0_i32_43 : BitVec 32 := 0#32
  let v47 : BitVec 1 := Scalar.cmpi .slt v43 c0_i32_43
  let v48 : BitVec 32 := Scalar.extui v47
  let v49 : BitVec 32 := Scalar.subi v46 v48
  let c128_i32_41 : BitVec 32 := 128#32
  let c0_i32_44 : BitVec 32 := 0#32
  let v50 : BitVec 1 := Scalar.cmpi .sgt c128_i32_41 c0_i32_44
  let v51 : BitVec 32 := Scalar.extui v50
  let c0_i32_45 : BitVec 32 := 0#32
  let v52 : BitVec 1 := Scalar.cmpi .slt c128_i32_41 c0_i32_45
  let v53 : BitVec 32 := Scalar.extui v52
  let v54 : BitVec 32 := Scalar.subi v51 v53
  let v55 : BitVec 1 := Scalar.cmpi .ne v49 v54
  let v56 : BitVec 32 := Scalar.remsi v43 c128_i32_41
  let c0_i32_46 : BitVec 32 := 0#32
  let v57 : BitVec 1 := Scalar.cmpi .ne v56 c0_i32_46
  let v58 : BitVec 1 := Scalar.andi v55 v57
  let v44 : BitVec 32 := Scalar.divsi v43 c128_i32_41
  let c1_i32_47 : BitVec 32 := 1#32
  let v59 : BitVec 32 := Scalar.subi v44 c1_i32_47
  let v60 : BitVec 32 := Scalar.select v58 v59 v44
  let c128_i32_48 : BitVec 32 := 128#32
  let v61 : BitVec 32 := Scalar.muli v60 c128_i32_48
  let c31616_i32_49 : BitVec 32 := 31616#32
  let v62 : BitVec 32 := Scalar.minsi v61 c31616_i32_49
  let v63 : BitVec 32 := v62
  ![1, 0, 0, v63.toNat]
def k0_off4 (v40 : BitVec 32) : Fin 4 → Nat :=
  let c1_i32_63 : BitVec 32 := 1#32
  let c0_i32_64 : BitVec 32 := 0#32
  let c0_i32_65 : BitVec 32 := 0#32
  let c31744_i32_40 : BitVec 32 := 31744#32
  let c0_i32_39 : BitVec 32 := 0#32
  let c1024_i32_38 : BitVec 32 := 1024#32
  let v41 : BitVec 32 := Scalar.subi v40 c1024_i32_38
  let v42 : BitVec 32 := Scalar.maxsi c0_i32_39 v41
  let v43 : BitVec 32 := Scalar.minsi c31744_i32_40 v42
  let c0_i32_42 : BitVec 32 := 0#32
  let v45 : BitVec 1 := Scalar.cmpi .sgt v43 c0_i32_42
  let v46 : BitVec 32 := Scalar.extui v45
  let c0_i32_43 : BitVec 32 := 0#32
  let v47 : BitVec 1 := Scalar.cmpi .slt v43 c0_i32_43
  let v48 : BitVec 32 := Scalar.extui v47
  let v49 : BitVec 32 := Scalar.subi v46 v48
  let c128_i32_41 : BitVec 32 := 128#32
  let c0_i32_44 : BitVec 32 := 0#32
  let v50 : BitVec 1 := Scalar.cmpi .sgt c128_i32_41 c0_i32_44
  let v51 : BitVec 32 := Scalar.extui v50
  let c0_i32_45 : BitVec 32 := 0#32
  let v52 : BitVec 1 := Scalar.cmpi .slt c128_i32_41 c0_i32_45
  let v53 : BitVec 32 := Scalar.extui v52
  let v54 : BitVec 32 := Scalar.subi v51 v53
  let v55 : BitVec 1 := Scalar.cmpi .ne v49 v54
  let v56 : BitVec 32 := Scalar.remsi v43 c128_i32_41
  let c0_i32_46 : BitVec 32 := 0#32
  let v57 : BitVec 1 := Scalar.cmpi .ne v56 c0_i32_46
  let v58 : BitVec 1 := Scalar.andi v55 v57
  let v44 : BitVec 32 := Scalar.divsi v43 c128_i32_41
  let c1_i32_47 : BitVec 32 := 1#32
  let v59 : BitVec 32 := Scalar.subi v44 c1_i32_47
  let v60 : BitVec 32 := Scalar.select v58 v59 v44
  let c128_i32_48 : BitVec 32 := 128#32
  let v61 : BitVec 32 := Scalar.muli v60 c128_i32_48
  let c31616_i32_49 : BitVec 32 := 31616#32
  let v62 : BitVec 32 := Scalar.minsi v61 c31616_i32_49
  let v63 : BitVec 32 := v62
  ![1, 0, 0, v63.toNat]

def k0_chk2 (v40 : BitVec 32) : Prop :=
  (128 ∣ (k0_mult2 v40).toNat) ∧
  (∀ a, (k0_off3 v40) a + S1x4x32x1152.size a ≤ S8x4x32x32768.size a) ∧
  (∀ (hinb : ∀ a, (k0_off3 v40) a + S1x4x32x1152.size a ≤ S8x4x32x32768.size a), (Rect.unit (s := S8x4x32x32768) (k0_off3 v40) S1x4x32x1152.size hinb).WholeWords (EltTy.packing .i8)) ∧
  (∀ a, (k0_off4 v40) a + S1x4x4x1152.size a ≤ S8x4x4x32768.size a) ∧
  (∀ (hinb : ∀ a, (k0_off4 v40) a + S1x4x4x1152.size a ≤ S8x4x4x32768.size a), (Rect.unit (s := S8x4x4x32768) (k0_off4 v40) S1x4x4x1152.size hinb).WholeWords (EltTy.packing .fp8e4m3))
theorem k0_mult2_dvd : ∀ (v40 : BitVec 32) (k0_hw2 : k0_chk2 v40), 128 ∣ (k0_mult2 v40).toNat := fun v40 k0_hw2 => k0_hw2.1
theorem k0_off3_inb : ∀ (v40 : BitVec 32) (k0_hw2 : k0_chk2 v40), ∀ a, (k0_off3 v40) a + S1x4x32x1152.size a ≤ S8x4x32x32768.size a := fun v40 k0_hw2 => k0_hw2.2.1
theorem k0_off3_wordsi8 : ∀ (v40 : BitVec 32) (k0_hw2 : k0_chk2 v40), (Rect.unit (s := S8x4x32x32768) (k0_off3 v40) S1x4x32x1152.size (k0_off3_inb v40 k0_hw2)).WholeWords (EltTy.packing .i8) := fun v40 k0_hw2 => k0_hw2.2.2.1 (k0_off3_inb v40 k0_hw2)
theorem k0_off4_inb : ∀ (v40 : BitVec 32) (k0_hw2 : k0_chk2 v40), ∀ a, (k0_off4 v40) a + S1x4x4x1152.size a ≤ S8x4x4x32768.size a := fun v40 k0_hw2 => k0_hw2.2.2.2.1
theorem k0_off4_wordsfp8e4m3 : ∀ (v40 : BitVec 32) (k0_hw2 : k0_chk2 v40), (Rect.unit (s := S8x4x4x32768) (k0_off4 v40) S1x4x4x1152.size (k0_off4_inb v40 k0_hw2)).WholeWords (EltTy.packing .fp8e4m3) := fun v40 k0_hw2 => k0_hw2.2.2.2.2 (k0_off4_inb v40 k0_hw2)

def k0_mult3 (v80 : BitVec 32) : BitVec 32 :=
  let c31744_i32_84 : BitVec 32 := 31744#32
  let c0_i32_83 : BitVec 32 := 0#32
  let c1024_i32_82 : BitVec 32 := 1024#32
  let v81 : BitVec 32 := Scalar.subi v80 c1024_i32_82
  let v82 : BitVec 32 := Scalar.maxsi c0_i32_83 v81
  let v83 : BitVec 32 := Scalar.minsi c31744_i32_84 v82
  let c0_i32_86 : BitVec 32 := 0#32
  let v85 : BitVec 1 := Scalar.cmpi .sgt v83 c0_i32_86
  let v86 : BitVec 32 := Scalar.extui v85
  let c0_i32_87 : BitVec 32 := 0#32
  let v87 : BitVec 1 := Scalar.cmpi .slt v83 c0_i32_87
  let v88 : BitVec 32 := Scalar.extui v87
  let v89 : BitVec 32 := Scalar.subi v86 v88
  let c128_i32_85 : BitVec 32 := 128#32
  let c0_i32_88 : BitVec 32 := 0#32
  let v90 : BitVec 1 := Scalar.cmpi .sgt c128_i32_85 c0_i32_88
  let v91 : BitVec 32 := Scalar.extui v90
  let c0_i32_89 : BitVec 32 := 0#32
  let v92 : BitVec 1 := Scalar.cmpi .slt c128_i32_85 c0_i32_89
  let v93 : BitVec 32 := Scalar.extui v92
  let v94 : BitVec 32 := Scalar.subi v91 v93
  let v95 : BitVec 1 := Scalar.cmpi .ne v89 v94
  let v96 : BitVec 32 := Scalar.remsi v83 c128_i32_85
  let c0_i32_90 : BitVec 32 := 0#32
  let v97 : BitVec 1 := Scalar.cmpi .ne v96 c0_i32_90
  let v98 : BitVec 1 := Scalar.andi v95 v97
  let v84 : BitVec 32 := Scalar.divsi v83 c128_i32_85
  let c1_i32_91 : BitVec 32 := 1#32
  let v99 : BitVec 32 := Scalar.subi v84 c1_i32_91
  let v100 : BitVec 32 := Scalar.select v98 v99 v84
  let c128_i32_92 : BitVec 32 := 128#32
  let v101 : BitVec 32 := Scalar.muli v100 c128_i32_92
  let c31616_i32_93 : BitVec 32 := 31616#32
  let v102 : BitVec 32 := Scalar.minsi v101 c31616_i32_93
  v102

def k0_off5 (v80 : BitVec 32) : Fin 4 → Nat :=
  let c2_i32_98 : BitVec 32 := 2#32
  let c0_i32_99 : BitVec 32 := 0#32
  let c0_i32_100 : BitVec 32 := 0#32
  let c31744_i32_84 : BitVec 32 := 31744#32
  let c0_i32_83 : BitVec 32 := 0#32
  let c1024_i32_82 : BitVec 32 := 1024#32
  let v81 : BitVec 32 := Scalar.subi v80 c1024_i32_82
  let v82 : BitVec 32 := Scalar.maxsi c0_i32_83 v81
  let v83 : BitVec 32 := Scalar.minsi c31744_i32_84 v82
  let c0_i32_86 : BitVec 32 := 0#32
  let v85 : BitVec 1 := Scalar.cmpi .sgt v83 c0_i32_86
  let v86 : BitVec 32 := Scalar.extui v85
  let c0_i32_87 : BitVec 32 := 0#32
  let v87 : BitVec 1 := Scalar.cmpi .slt v83 c0_i32_87
  let v88 : BitVec 32 := Scalar.extui v87
  let v89 : BitVec 32 := Scalar.subi v86 v88
  let c128_i32_85 : BitVec 32 := 128#32
  let c0_i32_88 : BitVec 32 := 0#32
  let v90 : BitVec 1 := Scalar.cmpi .sgt c128_i32_85 c0_i32_88
  let v91 : BitVec 32 := Scalar.extui v90
  let c0_i32_89 : BitVec 32 := 0#32
  let v92 : BitVec 1 := Scalar.cmpi .slt c128_i32_85 c0_i32_89
  let v93 : BitVec 32 := Scalar.extui v92
  let v94 : BitVec 32 := Scalar.subi v91 v93
  let v95 : BitVec 1 := Scalar.cmpi .ne v89 v94
  let v96 : BitVec 32 := Scalar.remsi v83 c128_i32_85
  let c0_i32_90 : BitVec 32 := 0#32
  let v97 : BitVec 1 := Scalar.cmpi .ne v96 c0_i32_90
  let v98 : BitVec 1 := Scalar.andi v95 v97
  let v84 : BitVec 32 := Scalar.divsi v83 c128_i32_85
  let c1_i32_91 : BitVec 32 := 1#32
  let v99 : BitVec 32 := Scalar.subi v84 c1_i32_91
  let v100 : BitVec 32 := Scalar.select v98 v99 v84
  let c128_i32_92 : BitVec 32 := 128#32
  let v101 : BitVec 32 := Scalar.muli v100 c128_i32_92
  let c31616_i32_93 : BitVec 32 := 31616#32
  let v102 : BitVec 32 := Scalar.minsi v101 c31616_i32_93
  let v103 : BitVec 32 := v102
  ![2, 0, 0, v103.toNat]
def k0_off6 (v80 : BitVec 32) : Fin 4 → Nat :=
  let c2_i32_106 : BitVec 32 := 2#32
  let c0_i32_107 : BitVec 32 := 0#32
  let c0_i32_108 : BitVec 32 := 0#32
  let c31744_i32_84 : BitVec 32 := 31744#32
  let c0_i32_83 : BitVec 32 := 0#32
  let c1024_i32_82 : BitVec 32 := 1024#32
  let v81 : BitVec 32 := Scalar.subi v80 c1024_i32_82
  let v82 : BitVec 32 := Scalar.maxsi c0_i32_83 v81
  let v83 : BitVec 32 := Scalar.minsi c31744_i32_84 v82
  let c0_i32_86 : BitVec 32 := 0#32
  let v85 : BitVec 1 := Scalar.cmpi .sgt v83 c0_i32_86
  let v86 : BitVec 32 := Scalar.extui v85
  let c0_i32_87 : BitVec 32 := 0#32
  let v87 : BitVec 1 := Scalar.cmpi .slt v83 c0_i32_87
  let v88 : BitVec 32 := Scalar.extui v87
  let v89 : BitVec 32 := Scalar.subi v86 v88
  let c128_i32_85 : BitVec 32 := 128#32
  let c0_i32_88 : BitVec 32 := 0#32
  let v90 : BitVec 1 := Scalar.cmpi .sgt c128_i32_85 c0_i32_88
  let v91 : BitVec 32 := Scalar.extui v90
  let c0_i32_89 : BitVec 32 := 0#32
  let v92 : BitVec 1 := Scalar.cmpi .slt c128_i32_85 c0_i32_89
  let v93 : BitVec 32 := Scalar.extui v92
  let v94 : BitVec 32 := Scalar.subi v91 v93
  let v95 : BitVec 1 := Scalar.cmpi .ne v89 v94
  let v96 : BitVec 32 := Scalar.remsi v83 c128_i32_85
  let c0_i32_90 : BitVec 32 := 0#32
  let v97 : BitVec 1 := Scalar.cmpi .ne v96 c0_i32_90
  let v98 : BitVec 1 := Scalar.andi v95 v97
  let v84 : BitVec 32 := Scalar.divsi v83 c128_i32_85
  let c1_i32_91 : BitVec 32 := 1#32
  let v99 : BitVec 32 := Scalar.subi v84 c1_i32_91
  let v100 : BitVec 32 := Scalar.select v98 v99 v84
  let c128_i32_92 : BitVec 32 := 128#32
  let v101 : BitVec 32 := Scalar.muli v100 c128_i32_92
  let c31616_i32_93 : BitVec 32 := 31616#32
  let v102 : BitVec 32 := Scalar.minsi v101 c31616_i32_93
  let v103 : BitVec 32 := v102
  ![2, 0, 0, v103.toNat]

def k0_chk3 (v80 : BitVec 32) : Prop :=
  (128 ∣ (k0_mult3 v80).toNat) ∧
  (∀ a, (k0_off5 v80) a + S1x4x32x1152.size a ≤ S8x4x32x32768.size a) ∧
  (∀ (hinb : ∀ a, (k0_off5 v80) a + S1x4x32x1152.size a ≤ S8x4x32x32768.size a), (Rect.unit (s := S8x4x32x32768) (k0_off5 v80) S1x4x32x1152.size hinb).WholeWords (EltTy.packing .i8)) ∧
  (∀ a, (k0_off6 v80) a + S1x4x4x1152.size a ≤ S8x4x4x32768.size a) ∧
  (∀ (hinb : ∀ a, (k0_off6 v80) a + S1x4x4x1152.size a ≤ S8x4x4x32768.size a), (Rect.unit (s := S8x4x4x32768) (k0_off6 v80) S1x4x4x1152.size hinb).WholeWords (EltTy.packing .fp8e4m3))
theorem k0_mult3_dvd : ∀ (v80 : BitVec 32) (k0_hw3 : k0_chk3 v80), 128 ∣ (k0_mult3 v80).toNat := fun v80 k0_hw3 => k0_hw3.1
theorem k0_off5_inb : ∀ (v80 : BitVec 32) (k0_hw3 : k0_chk3 v80), ∀ a, (k0_off5 v80) a + S1x4x32x1152.size a ≤ S8x4x32x32768.size a := fun v80 k0_hw3 => k0_hw3.2.1
theorem k0_off5_wordsi8 : ∀ (v80 : BitVec 32) (k0_hw3 : k0_chk3 v80), (Rect.unit (s := S8x4x32x32768) (k0_off5 v80) S1x4x32x1152.size (k0_off5_inb v80 k0_hw3)).WholeWords (EltTy.packing .i8) := fun v80 k0_hw3 => k0_hw3.2.2.1 (k0_off5_inb v80 k0_hw3)
theorem k0_off6_inb : ∀ (v80 : BitVec 32) (k0_hw3 : k0_chk3 v80), ∀ a, (k0_off6 v80) a + S1x4x4x1152.size a ≤ S8x4x4x32768.size a := fun v80 k0_hw3 => k0_hw3.2.2.2.1
theorem k0_off6_wordsfp8e4m3 : ∀ (v80 : BitVec 32) (k0_hw3 : k0_chk3 v80), (Rect.unit (s := S8x4x4x32768) (k0_off6 v80) S1x4x4x1152.size (k0_off6_inb v80 k0_hw3)).WholeWords (EltTy.packing .fp8e4m3) := fun v80 k0_hw3 => k0_hw3.2.2.2.2 (k0_off6_inb v80 k0_hw3)

def k0_mult4 (v120 : BitVec 32) : BitVec 32 :=
  let c31744_i32_127 : BitVec 32 := 31744#32
  let c0_i32_126 : BitVec 32 := 0#32
  let c1024_i32_125 : BitVec 32 := 1024#32
  let v121 : BitVec 32 := Scalar.subi v120 c1024_i32_125
  let v122 : BitVec 32 := Scalar.maxsi c0_i32_126 v121
  let v123 : BitVec 32 := Scalar.minsi c31744_i32_127 v122
  let c0_i32_129 : BitVec 32 := 0#32
  let v125 : BitVec 1 := Scalar.cmpi .sgt v123 c0_i32_129
  let v126 : BitVec 32 := Scalar.extui v125
  let c0_i32_130 : BitVec 32 := 0#32
  let v127 : BitVec 1 := Scalar.cmpi .slt v123 c0_i32_130
  let v128 : BitVec 32 := Scalar.extui v127
  let v129 : BitVec 32 := Scalar.subi v126 v128
  let c128_i32_128 : BitVec 32 := 128#32
  let c0_i32_131 : BitVec 32 := 0#32
  let v130 : BitVec 1 := Scalar.cmpi .sgt c128_i32_128 c0_i32_131
  let v131 : BitVec 32 := Scalar.extui v130
  let c0_i32_132 : BitVec 32 := 0#32
  let v132 : BitVec 1 := Scalar.cmpi .slt c128_i32_128 c0_i32_132
  let v133 : BitVec 32 := Scalar.extui v132
  let v134 : BitVec 32 := Scalar.subi v131 v133
  let v135 : BitVec 1 := Scalar.cmpi .ne v129 v134
  let v136 : BitVec 32 := Scalar.remsi v123 c128_i32_128
  let c0_i32_133 : BitVec 32 := 0#32
  let v137 : BitVec 1 := Scalar.cmpi .ne v136 c0_i32_133
  let v138 : BitVec 1 := Scalar.andi v135 v137
  let v124 : BitVec 32 := Scalar.divsi v123 c128_i32_128
  let c1_i32_134 : BitVec 32 := 1#32
  let v139 : BitVec 32 := Scalar.subi v124 c1_i32_134
  let v140 : BitVec 32 := Scalar.select v138 v139 v124
  let c128_i32_135 : BitVec 32 := 128#32
  let v141 : BitVec 32 := Scalar.muli v140 c128_i32_135
  let c31616_i32_136 : BitVec 32 := 31616#32
  let v142 : BitVec 32 := Scalar.minsi v141 c31616_i32_136
  v142

def k0_off7 (v120 : BitVec 32) : Fin 4 → Nat :=
  let c3_i32_141 : BitVec 32 := 3#32
  let c0_i32_142 : BitVec 32 := 0#32
  let c0_i32_143 : BitVec 32 := 0#32
  let c31744_i32_127 : BitVec 32 := 31744#32
  let c0_i32_126 : BitVec 32 := 0#32
  let c1024_i32_125 : BitVec 32 := 1024#32
  let v121 : BitVec 32 := Scalar.subi v120 c1024_i32_125
  let v122 : BitVec 32 := Scalar.maxsi c0_i32_126 v121
  let v123 : BitVec 32 := Scalar.minsi c31744_i32_127 v122
  let c0_i32_129 : BitVec 32 := 0#32
  let v125 : BitVec 1 := Scalar.cmpi .sgt v123 c0_i32_129
  let v126 : BitVec 32 := Scalar.extui v125
  let c0_i32_130 : BitVec 32 := 0#32
  let v127 : BitVec 1 := Scalar.cmpi .slt v123 c0_i32_130
  let v128 : BitVec 32 := Scalar.extui v127
  let v129 : BitVec 32 := Scalar.subi v126 v128
  let c128_i32_128 : BitVec 32 := 128#32
  let c0_i32_131 : BitVec 32 := 0#32
  let v130 : BitVec 1 := Scalar.cmpi .sgt c128_i32_128 c0_i32_131
  let v131 : BitVec 32 := Scalar.extui v130
  let c0_i32_132 : BitVec 32 := 0#32
  let v132 : BitVec 1 := Scalar.cmpi .slt c128_i32_128 c0_i32_132
  let v133 : BitVec 32 := Scalar.extui v132
  let v134 : BitVec 32 := Scalar.subi v131 v133
  let v135 : BitVec 1 := Scalar.cmpi .ne v129 v134
  let v136 : BitVec 32 := Scalar.remsi v123 c128_i32_128
  let c0_i32_133 : BitVec 32 := 0#32
  let v137 : BitVec 1 := Scalar.cmpi .ne v136 c0_i32_133
  let v138 : BitVec 1 := Scalar.andi v135 v137
  let v124 : BitVec 32 := Scalar.divsi v123 c128_i32_128
  let c1_i32_134 : BitVec 32 := 1#32
  let v139 : BitVec 32 := Scalar.subi v124 c1_i32_134
  let v140 : BitVec 32 := Scalar.select v138 v139 v124
  let c128_i32_135 : BitVec 32 := 128#32
  let v141 : BitVec 32 := Scalar.muli v140 c128_i32_135
  let c31616_i32_136 : BitVec 32 := 31616#32
  let v142 : BitVec 32 := Scalar.minsi v141 c31616_i32_136
  let v143 : BitVec 32 := v142
  ![3, 0, 0, v143.toNat]
def k0_off8 (v120 : BitVec 32) : Fin 4 → Nat :=
  let c3_i32_149 : BitVec 32 := 3#32
  let c0_i32_150 : BitVec 32 := 0#32
  let c0_i32_151 : BitVec 32 := 0#32
  let c31744_i32_127 : BitVec 32 := 31744#32
  let c0_i32_126 : BitVec 32 := 0#32
  let c1024_i32_125 : BitVec 32 := 1024#32
  let v121 : BitVec 32 := Scalar.subi v120 c1024_i32_125
  let v122 : BitVec 32 := Scalar.maxsi c0_i32_126 v121
  let v123 : BitVec 32 := Scalar.minsi c31744_i32_127 v122
  let c0_i32_129 : BitVec 32 := 0#32
  let v125 : BitVec 1 := Scalar.cmpi .sgt v123 c0_i32_129
  let v126 : BitVec 32 := Scalar.extui v125
  let c0_i32_130 : BitVec 32 := 0#32
  let v127 : BitVec 1 := Scalar.cmpi .slt v123 c0_i32_130
  let v128 : BitVec 32 := Scalar.extui v127
  let v129 : BitVec 32 := Scalar.subi v126 v128
  let c128_i32_128 : BitVec 32 := 128#32
  let c0_i32_131 : BitVec 32 := 0#32
  let v130 : BitVec 1 := Scalar.cmpi .sgt c128_i32_128 c0_i32_131
  let v131 : BitVec 32 := Scalar.extui v130
  let c0_i32_132 : BitVec 32 := 0#32
  let v132 : BitVec 1 := Scalar.cmpi .slt c128_i32_128 c0_i32_132
  let v133 : BitVec 32 := Scalar.extui v132
  let v134 : BitVec 32 := Scalar.subi v131 v133
  let v135 : BitVec 1 := Scalar.cmpi .ne v129 v134
  let v136 : BitVec 32 := Scalar.remsi v123 c128_i32_128
  let c0_i32_133 : BitVec 32 := 0#32
  let v137 : BitVec 1 := Scalar.cmpi .ne v136 c0_i32_133
  let v138 : BitVec 1 := Scalar.andi v135 v137
  let v124 : BitVec 32 := Scalar.divsi v123 c128_i32_128
  let c1_i32_134 : BitVec 32 := 1#32
  let v139 : BitVec 32 := Scalar.subi v124 c1_i32_134
  let v140 : BitVec 32 := Scalar.select v138 v139 v124
  let c128_i32_135 : BitVec 32 := 128#32
  let v141 : BitVec 32 := Scalar.muli v140 c128_i32_135
  let c31616_i32_136 : BitVec 32 := 31616#32
  let v142 : BitVec 32 := Scalar.minsi v141 c31616_i32_136
  let v143 : BitVec 32 := v142
  ![3, 0, 0, v143.toNat]

def k0_chk4 (v120 : BitVec 32) : Prop :=
  (128 ∣ (k0_mult4 v120).toNat) ∧
  (∀ a, (k0_off7 v120) a + S1x4x32x1152.size a ≤ S8x4x32x32768.size a) ∧
  (∀ (hinb : ∀ a, (k0_off7 v120) a + S1x4x32x1152.size a ≤ S8x4x32x32768.size a), (Rect.unit (s := S8x4x32x32768) (k0_off7 v120) S1x4x32x1152.size hinb).WholeWords (EltTy.packing .i8)) ∧
  (∀ a, (k0_off8 v120) a + S1x4x4x1152.size a ≤ S8x4x4x32768.size a) ∧
  (∀ (hinb : ∀ a, (k0_off8 v120) a + S1x4x4x1152.size a ≤ S8x4x4x32768.size a), (Rect.unit (s := S8x4x4x32768) (k0_off8 v120) S1x4x4x1152.size hinb).WholeWords (EltTy.packing .fp8e4m3))
theorem k0_mult4_dvd : ∀ (v120 : BitVec 32) (k0_hw4 : k0_chk4 v120), 128 ∣ (k0_mult4 v120).toNat := fun v120 k0_hw4 => k0_hw4.1
theorem k0_off7_inb : ∀ (v120 : BitVec 32) (k0_hw4 : k0_chk4 v120), ∀ a, (k0_off7 v120) a + S1x4x32x1152.size a ≤ S8x4x32x32768.size a := fun v120 k0_hw4 => k0_hw4.2.1
theorem k0_off7_wordsi8 : ∀ (v120 : BitVec 32) (k0_hw4 : k0_chk4 v120), (Rect.unit (s := S8x4x32x32768) (k0_off7 v120) S1x4x32x1152.size (k0_off7_inb v120 k0_hw4)).WholeWords (EltTy.packing .i8) := fun v120 k0_hw4 => k0_hw4.2.2.1 (k0_off7_inb v120 k0_hw4)
theorem k0_off8_inb : ∀ (v120 : BitVec 32) (k0_hw4 : k0_chk4 v120), ∀ a, (k0_off8 v120) a + S1x4x4x1152.size a ≤ S8x4x4x32768.size a := fun v120 k0_hw4 => k0_hw4.2.2.2.1
theorem k0_off8_wordsfp8e4m3 : ∀ (v120 : BitVec 32) (k0_hw4 : k0_chk4 v120), (Rect.unit (s := S8x4x4x32768) (k0_off8 v120) S1x4x4x1152.size (k0_off8_inb v120 k0_hw4)).WholeWords (EltTy.packing .fp8e4m3) := fun v120 k0_hw4 => k0_hw4.2.2.2.2 (k0_off8_inb v120 k0_hw4)

def k0_mult5 (v160 : BitVec 32) : BitVec 32 :=
  let c31744_i32_170 : BitVec 32 := 31744#32
  let c0_i32_169 : BitVec 32 := 0#32
  let c1024_i32_168 : BitVec 32 := 1024#32
  let v161 : BitVec 32 := Scalar.subi v160 c1024_i32_168
  let v162 : BitVec 32 := Scalar.maxsi c0_i32_169 v161
  let v163 : BitVec 32 := Scalar.minsi c31744_i32_170 v162
  let c0_i32_172 : BitVec 32 := 0#32
  let v165 : BitVec 1 := Scalar.cmpi .sgt v163 c0_i32_172
  let v166 : BitVec 32 := Scalar.extui v165
  let c0_i32_173 : BitVec 32 := 0#32
  let v167 : BitVec 1 := Scalar.cmpi .slt v163 c0_i32_173
  let v168 : BitVec 32 := Scalar.extui v167
  let v169 : BitVec 32 := Scalar.subi v166 v168
  let c128_i32_171 : BitVec 32 := 128#32
  let c0_i32_174 : BitVec 32 := 0#32
  let v170 : BitVec 1 := Scalar.cmpi .sgt c128_i32_171 c0_i32_174
  let v171 : BitVec 32 := Scalar.extui v170
  let c0_i32_175 : BitVec 32 := 0#32
  let v172 : BitVec 1 := Scalar.cmpi .slt c128_i32_171 c0_i32_175
  let v173 : BitVec 32 := Scalar.extui v172
  let v174 : BitVec 32 := Scalar.subi v171 v173
  let v175 : BitVec 1 := Scalar.cmpi .ne v169 v174
  let v176 : BitVec 32 := Scalar.remsi v163 c128_i32_171
  let c0_i32_176 : BitVec 32 := 0#32
  let v177 : BitVec 1 := Scalar.cmpi .ne v176 c0_i32_176
  let v178 : BitVec 1 := Scalar.andi v175 v177
  let v164 : BitVec 32 := Scalar.divsi v163 c128_i32_171
  let c1_i32_177 : BitVec 32 := 1#32
  let v179 : BitVec 32 := Scalar.subi v164 c1_i32_177
  let v180 : BitVec 32 := Scalar.select v178 v179 v164
  let c128_i32_178 : BitVec 32 := 128#32
  let v181 : BitVec 32 := Scalar.muli v180 c128_i32_178
  let c31616_i32_179 : BitVec 32 := 31616#32
  let v182 : BitVec 32 := Scalar.minsi v181 c31616_i32_179
  v182

def k0_off9 (v160 : BitVec 32) : Fin 4 → Nat :=
  let c4_i32_184 : BitVec 32 := 4#32
  let c0_i32_185 : BitVec 32 := 0#32
  let c0_i32_186 : BitVec 32 := 0#32
  let c31744_i32_170 : BitVec 32 := 31744#32
  let c0_i32_169 : BitVec 32 := 0#32
  let c1024_i32_168 : BitVec 32 := 1024#32
  let v161 : BitVec 32 := Scalar.subi v160 c1024_i32_168
  let v162 : BitVec 32 := Scalar.maxsi c0_i32_169 v161
  let v163 : BitVec 32 := Scalar.minsi c31744_i32_170 v162
  let c0_i32_172 : BitVec 32 := 0#32
  let v165 : BitVec 1 := Scalar.cmpi .sgt v163 c0_i32_172
  let v166 : BitVec 32 := Scalar.extui v165
  let c0_i32_173 : BitVec 32 := 0#32
  let v167 : BitVec 1 := Scalar.cmpi .slt v163 c0_i32_173
  let v168 : BitVec 32 := Scalar.extui v167
  let v169 : BitVec 32 := Scalar.subi v166 v168
  let c128_i32_171 : BitVec 32 := 128#32
  let c0_i32_174 : BitVec 32 := 0#32
  let v170 : BitVec 1 := Scalar.cmpi .sgt c128_i32_171 c0_i32_174
  let v171 : BitVec 32 := Scalar.extui v170
  let c0_i32_175 : BitVec 32 := 0#32
  let v172 : BitVec 1 := Scalar.cmpi .slt c128_i32_171 c0_i32_175
  let v173 : BitVec 32 := Scalar.extui v172
  let v174 : BitVec 32 := Scalar.subi v171 v173
  let v175 : BitVec 1 := Scalar.cmpi .ne v169 v174
  let v176 : BitVec 32 := Scalar.remsi v163 c128_i32_171
  let c0_i32_176 : BitVec 32 := 0#32
  let v177 : BitVec 1 := Scalar.cmpi .ne v176 c0_i32_176
  let v178 : BitVec 1 := Scalar.andi v175 v177
  let v164 : BitVec 32 := Scalar.divsi v163 c128_i32_171
  let c1_i32_177 : BitVec 32 := 1#32
  let v179 : BitVec 32 := Scalar.subi v164 c1_i32_177
  let v180 : BitVec 32 := Scalar.select v178 v179 v164
  let c128_i32_178 : BitVec 32 := 128#32
  let v181 : BitVec 32 := Scalar.muli v180 c128_i32_178
  let c31616_i32_179 : BitVec 32 := 31616#32
  let v182 : BitVec 32 := Scalar.minsi v181 c31616_i32_179
  let v183 : BitVec 32 := v182
  ![4, 0, 0, v183.toNat]
def k0_off10 (v160 : BitVec 32) : Fin 4 → Nat :=
  let c4_i32_192 : BitVec 32 := 4#32
  let c0_i32_193 : BitVec 32 := 0#32
  let c0_i32_194 : BitVec 32 := 0#32
  let c31744_i32_170 : BitVec 32 := 31744#32
  let c0_i32_169 : BitVec 32 := 0#32
  let c1024_i32_168 : BitVec 32 := 1024#32
  let v161 : BitVec 32 := Scalar.subi v160 c1024_i32_168
  let v162 : BitVec 32 := Scalar.maxsi c0_i32_169 v161
  let v163 : BitVec 32 := Scalar.minsi c31744_i32_170 v162
  let c0_i32_172 : BitVec 32 := 0#32
  let v165 : BitVec 1 := Scalar.cmpi .sgt v163 c0_i32_172
  let v166 : BitVec 32 := Scalar.extui v165
  let c0_i32_173 : BitVec 32 := 0#32
  let v167 : BitVec 1 := Scalar.cmpi .slt v163 c0_i32_173
  let v168 : BitVec 32 := Scalar.extui v167
  let v169 : BitVec 32 := Scalar.subi v166 v168
  let c128_i32_171 : BitVec 32 := 128#32
  let c0_i32_174 : BitVec 32 := 0#32
  let v170 : BitVec 1 := Scalar.cmpi .sgt c128_i32_171 c0_i32_174
  let v171 : BitVec 32 := Scalar.extui v170
  let c0_i32_175 : BitVec 32 := 0#32
  let v172 : BitVec 1 := Scalar.cmpi .slt c128_i32_171 c0_i32_175
  let v173 : BitVec 32 := Scalar.extui v172
  let v174 : BitVec 32 := Scalar.subi v171 v173
  let v175 : BitVec 1 := Scalar.cmpi .ne v169 v174
  let v176 : BitVec 32 := Scalar.remsi v163 c128_i32_171
  let c0_i32_176 : BitVec 32 := 0#32
  let v177 : BitVec 1 := Scalar.cmpi .ne v176 c0_i32_176
  let v178 : BitVec 1 := Scalar.andi v175 v177
  let v164 : BitVec 32 := Scalar.divsi v163 c128_i32_171
  let c1_i32_177 : BitVec 32 := 1#32
  let v179 : BitVec 32 := Scalar.subi v164 c1_i32_177
  let v180 : BitVec 32 := Scalar.select v178 v179 v164
  let c128_i32_178 : BitVec 32 := 128#32
  let v181 : BitVec 32 := Scalar.muli v180 c128_i32_178
  let c31616_i32_179 : BitVec 32 := 31616#32
  let v182 : BitVec 32 := Scalar.minsi v181 c31616_i32_179
  let v183 : BitVec 32 := v182
  ![4, 0, 0, v183.toNat]

def k0_chk5 (v160 : BitVec 32) : Prop :=
  (128 ∣ (k0_mult5 v160).toNat) ∧
  (∀ a, (k0_off9 v160) a + S1x4x32x1152.size a ≤ S8x4x32x32768.size a) ∧
  (∀ (hinb : ∀ a, (k0_off9 v160) a + S1x4x32x1152.size a ≤ S8x4x32x32768.size a), (Rect.unit (s := S8x4x32x32768) (k0_off9 v160) S1x4x32x1152.size hinb).WholeWords (EltTy.packing .i8)) ∧
  (∀ a, (k0_off10 v160) a + S1x4x4x1152.size a ≤ S8x4x4x32768.size a) ∧
  (∀ (hinb : ∀ a, (k0_off10 v160) a + S1x4x4x1152.size a ≤ S8x4x4x32768.size a), (Rect.unit (s := S8x4x4x32768) (k0_off10 v160) S1x4x4x1152.size hinb).WholeWords (EltTy.packing .fp8e4m3))
theorem k0_mult5_dvd : ∀ (v160 : BitVec 32) (k0_hw5 : k0_chk5 v160), 128 ∣ (k0_mult5 v160).toNat := fun v160 k0_hw5 => k0_hw5.1
theorem k0_off9_inb : ∀ (v160 : BitVec 32) (k0_hw5 : k0_chk5 v160), ∀ a, (k0_off9 v160) a + S1x4x32x1152.size a ≤ S8x4x32x32768.size a := fun v160 k0_hw5 => k0_hw5.2.1
theorem k0_off9_wordsi8 : ∀ (v160 : BitVec 32) (k0_hw5 : k0_chk5 v160), (Rect.unit (s := S8x4x32x32768) (k0_off9 v160) S1x4x32x1152.size (k0_off9_inb v160 k0_hw5)).WholeWords (EltTy.packing .i8) := fun v160 k0_hw5 => k0_hw5.2.2.1 (k0_off9_inb v160 k0_hw5)
theorem k0_off10_inb : ∀ (v160 : BitVec 32) (k0_hw5 : k0_chk5 v160), ∀ a, (k0_off10 v160) a + S1x4x4x1152.size a ≤ S8x4x4x32768.size a := fun v160 k0_hw5 => k0_hw5.2.2.2.1
theorem k0_off10_wordsfp8e4m3 : ∀ (v160 : BitVec 32) (k0_hw5 : k0_chk5 v160), (Rect.unit (s := S8x4x4x32768) (k0_off10 v160) S1x4x4x1152.size (k0_off10_inb v160 k0_hw5)).WholeWords (EltTy.packing .fp8e4m3) := fun v160 k0_hw5 => k0_hw5.2.2.2.2 (k0_off10_inb v160 k0_hw5)

def k0_mult6 (v200 : BitVec 32) : BitVec 32 :=
  let c31744_i32_213 : BitVec 32 := 31744#32
  let c0_i32_212 : BitVec 32 := 0#32
  let c1024_i32_211 : BitVec 32 := 1024#32
  let v201 : BitVec 32 := Scalar.subi v200 c1024_i32_211
  let v202 : BitVec 32 := Scalar.maxsi c0_i32_212 v201
  let v203 : BitVec 32 := Scalar.minsi c31744_i32_213 v202
  let c0_i32_215 : BitVec 32 := 0#32
  let v205 : BitVec 1 := Scalar.cmpi .sgt v203 c0_i32_215
  let v206 : BitVec 32 := Scalar.extui v205
  let c0_i32_216 : BitVec 32 := 0#32
  let v207 : BitVec 1 := Scalar.cmpi .slt v203 c0_i32_216
  let v208 : BitVec 32 := Scalar.extui v207
  let v209 : BitVec 32 := Scalar.subi v206 v208
  let c128_i32_214 : BitVec 32 := 128#32
  let c0_i32_217 : BitVec 32 := 0#32
  let v210 : BitVec 1 := Scalar.cmpi .sgt c128_i32_214 c0_i32_217
  let v211 : BitVec 32 := Scalar.extui v210
  let c0_i32_218 : BitVec 32 := 0#32
  let v212 : BitVec 1 := Scalar.cmpi .slt c128_i32_214 c0_i32_218
  let v213 : BitVec 32 := Scalar.extui v212
  let v214 : BitVec 32 := Scalar.subi v211 v213
  let v215 : BitVec 1 := Scalar.cmpi .ne v209 v214
  let v216 : BitVec 32 := Scalar.remsi v203 c128_i32_214
  let c0_i32_219 : BitVec 32 := 0#32
  let v217 : BitVec 1 := Scalar.cmpi .ne v216 c0_i32_219
  let v218 : BitVec 1 := Scalar.andi v215 v217
  let v204 : BitVec 32 := Scalar.divsi v203 c128_i32_214
  let c1_i32_220 : BitVec 32 := 1#32
  let v219 : BitVec 32 := Scalar.subi v204 c1_i32_220
  let v220 : BitVec 32 := Scalar.select v218 v219 v204
  let c128_i32_221 : BitVec 32 := 128#32
  let v221 : BitVec 32 := Scalar.muli v220 c128_i32_221
  let c31616_i32_222 : BitVec 32 := 31616#32
  let v222 : BitVec 32 := Scalar.minsi v221 c31616_i32_222
  v222

def k0_off11 (v200 : BitVec 32) : Fin 4 → Nat :=
  let c5_i32_227 : BitVec 32 := 5#32
  let c0_i32_228 : BitVec 32 := 0#32
  let c0_i32_229 : BitVec 32 := 0#32
  let c31744_i32_213 : BitVec 32 := 31744#32
  let c0_i32_212 : BitVec 32 := 0#32
  let c1024_i32_211 : BitVec 32 := 1024#32
  let v201 : BitVec 32 := Scalar.subi v200 c1024_i32_211
  let v202 : BitVec 32 := Scalar.maxsi c0_i32_212 v201
  let v203 : BitVec 32 := Scalar.minsi c31744_i32_213 v202
  let c0_i32_215 : BitVec 32 := 0#32
  let v205 : BitVec 1 := Scalar.cmpi .sgt v203 c0_i32_215
  let v206 : BitVec 32 := Scalar.extui v205
  let c0_i32_216 : BitVec 32 := 0#32
  let v207 : BitVec 1 := Scalar.cmpi .slt v203 c0_i32_216
  let v208 : BitVec 32 := Scalar.extui v207
  let v209 : BitVec 32 := Scalar.subi v206 v208
  let c128_i32_214 : BitVec 32 := 128#32
  let c0_i32_217 : BitVec 32 := 0#32
  let v210 : BitVec 1 := Scalar.cmpi .sgt c128_i32_214 c0_i32_217
  let v211 : BitVec 32 := Scalar.extui v210
  let c0_i32_218 : BitVec 32 := 0#32
  let v212 : BitVec 1 := Scalar.cmpi .slt c128_i32_214 c0_i32_218
  let v213 : BitVec 32 := Scalar.extui v212
  let v214 : BitVec 32 := Scalar.subi v211 v213
  let v215 : BitVec 1 := Scalar.cmpi .ne v209 v214
  let v216 : BitVec 32 := Scalar.remsi v203 c128_i32_214
  let c0_i32_219 : BitVec 32 := 0#32
  let v217 : BitVec 1 := Scalar.cmpi .ne v216 c0_i32_219
  let v218 : BitVec 1 := Scalar.andi v215 v217
  let v204 : BitVec 32 := Scalar.divsi v203 c128_i32_214
  let c1_i32_220 : BitVec 32 := 1#32
  let v219 : BitVec 32 := Scalar.subi v204 c1_i32_220
  let v220 : BitVec 32 := Scalar.select v218 v219 v204
  let c128_i32_221 : BitVec 32 := 128#32
  let v221 : BitVec 32 := Scalar.muli v220 c128_i32_221
  let c31616_i32_222 : BitVec 32 := 31616#32
  let v222 : BitVec 32 := Scalar.minsi v221 c31616_i32_222
  let v223 : BitVec 32 := v222
  ![5, 0, 0, v223.toNat]
def k0_off12 (v200 : BitVec 32) : Fin 4 → Nat :=
  let c5_i32_235 : BitVec 32 := 5#32
  let c0_i32_236 : BitVec 32 := 0#32
  let c0_i32_237 : BitVec 32 := 0#32
  let c31744_i32_213 : BitVec 32 := 31744#32
  let c0_i32_212 : BitVec 32 := 0#32
  let c1024_i32_211 : BitVec 32 := 1024#32
  let v201 : BitVec 32 := Scalar.subi v200 c1024_i32_211
  let v202 : BitVec 32 := Scalar.maxsi c0_i32_212 v201
  let v203 : BitVec 32 := Scalar.minsi c31744_i32_213 v202
  let c0_i32_215 : BitVec 32 := 0#32
  let v205 : BitVec 1 := Scalar.cmpi .sgt v203 c0_i32_215
  let v206 : BitVec 32 := Scalar.extui v205
  let c0_i32_216 : BitVec 32 := 0#32
  let v207 : BitVec 1 := Scalar.cmpi .slt v203 c0_i32_216
  let v208 : BitVec 32 := Scalar.extui v207
  let v209 : BitVec 32 := Scalar.subi v206 v208
  let c128_i32_214 : BitVec 32 := 128#32
  let c0_i32_217 : BitVec 32 := 0#32
  let v210 : BitVec 1 := Scalar.cmpi .sgt c128_i32_214 c0_i32_217
  let v211 : BitVec 32 := Scalar.extui v210
  let c0_i32_218 : BitVec 32 := 0#32
  let v212 : BitVec 1 := Scalar.cmpi .slt c128_i32_214 c0_i32_218
  let v213 : BitVec 32 := Scalar.extui v212
  let v214 : BitVec 32 := Scalar.subi v211 v213
  let v215 : BitVec 1 := Scalar.cmpi .ne v209 v214
  let v216 : BitVec 32 := Scalar.remsi v203 c128_i32_214
  let c0_i32_219 : BitVec 32 := 0#32
  let v217 : BitVec 1 := Scalar.cmpi .ne v216 c0_i32_219
  let v218 : BitVec 1 := Scalar.andi v215 v217
  let v204 : BitVec 32 := Scalar.divsi v203 c128_i32_214
  let c1_i32_220 : BitVec 32 := 1#32
  let v219 : BitVec 32 := Scalar.subi v204 c1_i32_220
  let v220 : BitVec 32 := Scalar.select v218 v219 v204
  let c128_i32_221 : BitVec 32 := 128#32
  let v221 : BitVec 32 := Scalar.muli v220 c128_i32_221
  let c31616_i32_222 : BitVec 32 := 31616#32
  let v222 : BitVec 32 := Scalar.minsi v221 c31616_i32_222
  let v223 : BitVec 32 := v222
  ![5, 0, 0, v223.toNat]

def k0_chk6 (v200 : BitVec 32) : Prop :=
  (128 ∣ (k0_mult6 v200).toNat) ∧
  (∀ a, (k0_off11 v200) a + S1x4x32x1152.size a ≤ S8x4x32x32768.size a) ∧
  (∀ (hinb : ∀ a, (k0_off11 v200) a + S1x4x32x1152.size a ≤ S8x4x32x32768.size a), (Rect.unit (s := S8x4x32x32768) (k0_off11 v200) S1x4x32x1152.size hinb).WholeWords (EltTy.packing .i8)) ∧
  (∀ a, (k0_off12 v200) a + S1x4x4x1152.size a ≤ S8x4x4x32768.size a) ∧
  (∀ (hinb : ∀ a, (k0_off12 v200) a + S1x4x4x1152.size a ≤ S8x4x4x32768.size a), (Rect.unit (s := S8x4x4x32768) (k0_off12 v200) S1x4x4x1152.size hinb).WholeWords (EltTy.packing .fp8e4m3))
theorem k0_mult6_dvd : ∀ (v200 : BitVec 32) (k0_hw6 : k0_chk6 v200), 128 ∣ (k0_mult6 v200).toNat := fun v200 k0_hw6 => k0_hw6.1
theorem k0_off11_inb : ∀ (v200 : BitVec 32) (k0_hw6 : k0_chk6 v200), ∀ a, (k0_off11 v200) a + S1x4x32x1152.size a ≤ S8x4x32x32768.size a := fun v200 k0_hw6 => k0_hw6.2.1
theorem k0_off11_wordsi8 : ∀ (v200 : BitVec 32) (k0_hw6 : k0_chk6 v200), (Rect.unit (s := S8x4x32x32768) (k0_off11 v200) S1x4x32x1152.size (k0_off11_inb v200 k0_hw6)).WholeWords (EltTy.packing .i8) := fun v200 k0_hw6 => k0_hw6.2.2.1 (k0_off11_inb v200 k0_hw6)
theorem k0_off12_inb : ∀ (v200 : BitVec 32) (k0_hw6 : k0_chk6 v200), ∀ a, (k0_off12 v200) a + S1x4x4x1152.size a ≤ S8x4x4x32768.size a := fun v200 k0_hw6 => k0_hw6.2.2.2.1
theorem k0_off12_wordsfp8e4m3 : ∀ (v200 : BitVec 32) (k0_hw6 : k0_chk6 v200), (Rect.unit (s := S8x4x4x32768) (k0_off12 v200) S1x4x4x1152.size (k0_off12_inb v200 k0_hw6)).WholeWords (EltTy.packing .fp8e4m3) := fun v200 k0_hw6 => k0_hw6.2.2.2.2 (k0_off12_inb v200 k0_hw6)

def k0_mult7 (v240 : BitVec 32) : BitVec 32 :=
  let c31744_i32_256 : BitVec 32 := 31744#32
  let c0_i32_255 : BitVec 32 := 0#32
  let c1024_i32_254 : BitVec 32 := 1024#32
  let v241 : BitVec 32 := Scalar.subi v240 c1024_i32_254
  let v242 : BitVec 32 := Scalar.maxsi c0_i32_255 v241
  let v243 : BitVec 32 := Scalar.minsi c31744_i32_256 v242
  let c0_i32_258 : BitVec 32 := 0#32
  let v245 : BitVec 1 := Scalar.cmpi .sgt v243 c0_i32_258
  let v246 : BitVec 32 := Scalar.extui v245
  let c0_i32_259 : BitVec 32 := 0#32
  let v247 : BitVec 1 := Scalar.cmpi .slt v243 c0_i32_259
  let v248 : BitVec 32 := Scalar.extui v247
  let v249 : BitVec 32 := Scalar.subi v246 v248
  let c128_i32_257 : BitVec 32 := 128#32
  let c0_i32_260 : BitVec 32 := 0#32
  let v250 : BitVec 1 := Scalar.cmpi .sgt c128_i32_257 c0_i32_260
  let v251 : BitVec 32 := Scalar.extui v250
  let c0_i32_261 : BitVec 32 := 0#32
  let v252 : BitVec 1 := Scalar.cmpi .slt c128_i32_257 c0_i32_261
  let v253 : BitVec 32 := Scalar.extui v252
  let v254 : BitVec 32 := Scalar.subi v251 v253
  let v255 : BitVec 1 := Scalar.cmpi .ne v249 v254
  let v256 : BitVec 32 := Scalar.remsi v243 c128_i32_257
  let c0_i32_262 : BitVec 32 := 0#32
  let v257 : BitVec 1 := Scalar.cmpi .ne v256 c0_i32_262
  let v258 : BitVec 1 := Scalar.andi v255 v257
  let v244 : BitVec 32 := Scalar.divsi v243 c128_i32_257
  let c1_i32_263 : BitVec 32 := 1#32
  let v259 : BitVec 32 := Scalar.subi v244 c1_i32_263
  let v260 : BitVec 32 := Scalar.select v258 v259 v244
  let c128_i32_264 : BitVec 32 := 128#32
  let v261 : BitVec 32 := Scalar.muli v260 c128_i32_264
  let c31616_i32_265 : BitVec 32 := 31616#32
  let v262 : BitVec 32 := Scalar.minsi v261 c31616_i32_265
  v262

def k0_off13 (v240 : BitVec 32) : Fin 4 → Nat :=
  let c6_i32_270 : BitVec 32 := 6#32
  let c0_i32_271 : BitVec 32 := 0#32
  let c0_i32_272 : BitVec 32 := 0#32
  let c31744_i32_256 : BitVec 32 := 31744#32
  let c0_i32_255 : BitVec 32 := 0#32
  let c1024_i32_254 : BitVec 32 := 1024#32
  let v241 : BitVec 32 := Scalar.subi v240 c1024_i32_254
  let v242 : BitVec 32 := Scalar.maxsi c0_i32_255 v241
  let v243 : BitVec 32 := Scalar.minsi c31744_i32_256 v242
  let c0_i32_258 : BitVec 32 := 0#32
  let v245 : BitVec 1 := Scalar.cmpi .sgt v243 c0_i32_258
  let v246 : BitVec 32 := Scalar.extui v245
  let c0_i32_259 : BitVec 32 := 0#32
  let v247 : BitVec 1 := Scalar.cmpi .slt v243 c0_i32_259
  let v248 : BitVec 32 := Scalar.extui v247
  let v249 : BitVec 32 := Scalar.subi v246 v248
  let c128_i32_257 : BitVec 32 := 128#32
  let c0_i32_260 : BitVec 32 := 0#32
  let v250 : BitVec 1 := Scalar.cmpi .sgt c128_i32_257 c0_i32_260
  let v251 : BitVec 32 := Scalar.extui v250
  let c0_i32_261 : BitVec 32 := 0#32
  let v252 : BitVec 1 := Scalar.cmpi .slt c128_i32_257 c0_i32_261
  let v253 : BitVec 32 := Scalar.extui v252
  let v254 : BitVec 32 := Scalar.subi v251 v253
  let v255 : BitVec 1 := Scalar.cmpi .ne v249 v254
  let v256 : BitVec 32 := Scalar.remsi v243 c128_i32_257
  let c0_i32_262 : BitVec 32 := 0#32
  let v257 : BitVec 1 := Scalar.cmpi .ne v256 c0_i32_262
  let v258 : BitVec 1 := Scalar.andi v255 v257
  let v244 : BitVec 32 := Scalar.divsi v243 c128_i32_257
  let c1_i32_263 : BitVec 32 := 1#32
  let v259 : BitVec 32 := Scalar.subi v244 c1_i32_263
  let v260 : BitVec 32 := Scalar.select v258 v259 v244
  let c128_i32_264 : BitVec 32 := 128#32
  let v261 : BitVec 32 := Scalar.muli v260 c128_i32_264
  let c31616_i32_265 : BitVec 32 := 31616#32
  let v262 : BitVec 32 := Scalar.minsi v261 c31616_i32_265
  let v263 : BitVec 32 := v262
  ![6, 0, 0, v263.toNat]
def k0_off14 (v240 : BitVec 32) : Fin 4 → Nat :=
  let c6_i32_278 : BitVec 32 := 6#32
  let c0_i32_279 : BitVec 32 := 0#32
  let c0_i32_280 : BitVec 32 := 0#32
  let c31744_i32_256 : BitVec 32 := 31744#32
  let c0_i32_255 : BitVec 32 := 0#32
  let c1024_i32_254 : BitVec 32 := 1024#32
  let v241 : BitVec 32 := Scalar.subi v240 c1024_i32_254
  let v242 : BitVec 32 := Scalar.maxsi c0_i32_255 v241
  let v243 : BitVec 32 := Scalar.minsi c31744_i32_256 v242
  let c0_i32_258 : BitVec 32 := 0#32
  let v245 : BitVec 1 := Scalar.cmpi .sgt v243 c0_i32_258
  let v246 : BitVec 32 := Scalar.extui v245
  let c0_i32_259 : BitVec 32 := 0#32
  let v247 : BitVec 1 := Scalar.cmpi .slt v243 c0_i32_259
  let v248 : BitVec 32 := Scalar.extui v247
  let v249 : BitVec 32 := Scalar.subi v246 v248
  let c128_i32_257 : BitVec 32 := 128#32
  let c0_i32_260 : BitVec 32 := 0#32
  let v250 : BitVec 1 := Scalar.cmpi .sgt c128_i32_257 c0_i32_260
  let v251 : BitVec 32 := Scalar.extui v250
  let c0_i32_261 : BitVec 32 := 0#32
  let v252 : BitVec 1 := Scalar.cmpi .slt c128_i32_257 c0_i32_261
  let v253 : BitVec 32 := Scalar.extui v252
  let v254 : BitVec 32 := Scalar.subi v251 v253
  let v255 : BitVec 1 := Scalar.cmpi .ne v249 v254
  let v256 : BitVec 32 := Scalar.remsi v243 c128_i32_257
  let c0_i32_262 : BitVec 32 := 0#32
  let v257 : BitVec 1 := Scalar.cmpi .ne v256 c0_i32_262
  let v258 : BitVec 1 := Scalar.andi v255 v257
  let v244 : BitVec 32 := Scalar.divsi v243 c128_i32_257
  let c1_i32_263 : BitVec 32 := 1#32
  let v259 : BitVec 32 := Scalar.subi v244 c1_i32_263
  let v260 : BitVec 32 := Scalar.select v258 v259 v244
  let c128_i32_264 : BitVec 32 := 128#32
  let v261 : BitVec 32 := Scalar.muli v260 c128_i32_264
  let c31616_i32_265 : BitVec 32 := 31616#32
  let v262 : BitVec 32 := Scalar.minsi v261 c31616_i32_265
  let v263 : BitVec 32 := v262
  ![6, 0, 0, v263.toNat]

def k0_chk7 (v240 : BitVec 32) : Prop :=
  (128 ∣ (k0_mult7 v240).toNat) ∧
  (∀ a, (k0_off13 v240) a + S1x4x32x1152.size a ≤ S8x4x32x32768.size a) ∧
  (∀ (hinb : ∀ a, (k0_off13 v240) a + S1x4x32x1152.size a ≤ S8x4x32x32768.size a), (Rect.unit (s := S8x4x32x32768) (k0_off13 v240) S1x4x32x1152.size hinb).WholeWords (EltTy.packing .i8)) ∧
  (∀ a, (k0_off14 v240) a + S1x4x4x1152.size a ≤ S8x4x4x32768.size a) ∧
  (∀ (hinb : ∀ a, (k0_off14 v240) a + S1x4x4x1152.size a ≤ S8x4x4x32768.size a), (Rect.unit (s := S8x4x4x32768) (k0_off14 v240) S1x4x4x1152.size hinb).WholeWords (EltTy.packing .fp8e4m3))
theorem k0_mult7_dvd : ∀ (v240 : BitVec 32) (k0_hw7 : k0_chk7 v240), 128 ∣ (k0_mult7 v240).toNat := fun v240 k0_hw7 => k0_hw7.1
theorem k0_off13_inb : ∀ (v240 : BitVec 32) (k0_hw7 : k0_chk7 v240), ∀ a, (k0_off13 v240) a + S1x4x32x1152.size a ≤ S8x4x32x32768.size a := fun v240 k0_hw7 => k0_hw7.2.1
theorem k0_off13_wordsi8 : ∀ (v240 : BitVec 32) (k0_hw7 : k0_chk7 v240), (Rect.unit (s := S8x4x32x32768) (k0_off13 v240) S1x4x32x1152.size (k0_off13_inb v240 k0_hw7)).WholeWords (EltTy.packing .i8) := fun v240 k0_hw7 => k0_hw7.2.2.1 (k0_off13_inb v240 k0_hw7)
theorem k0_off14_inb : ∀ (v240 : BitVec 32) (k0_hw7 : k0_chk7 v240), ∀ a, (k0_off14 v240) a + S1x4x4x1152.size a ≤ S8x4x4x32768.size a := fun v240 k0_hw7 => k0_hw7.2.2.2.1
theorem k0_off14_wordsfp8e4m3 : ∀ (v240 : BitVec 32) (k0_hw7 : k0_chk7 v240), (Rect.unit (s := S8x4x4x32768) (k0_off14 v240) S1x4x4x1152.size (k0_off14_inb v240 k0_hw7)).WholeWords (EltTy.packing .fp8e4m3) := fun v240 k0_hw7 => k0_hw7.2.2.2.2 (k0_off14_inb v240 k0_hw7)

def k0_mult8 (v280 : BitVec 32) : BitVec 32 :=
  let c31744_i32_299 : BitVec 32 := 31744#32
  let c0_i32_298 : BitVec 32 := 0#32
  let c1024_i32_297 : BitVec 32 := 1024#32
  let v281 : BitVec 32 := Scalar.subi v280 c1024_i32_297
  let v282 : BitVec 32 := Scalar.maxsi c0_i32_298 v281
  let v283 : BitVec 32 := Scalar.minsi c31744_i32_299 v282
  let c0_i32_301 : BitVec 32 := 0#32
  let v285 : BitVec 1 := Scalar.cmpi .sgt v283 c0_i32_301
  let v286 : BitVec 32 := Scalar.extui v285
  let c0_i32_302 : BitVec 32 := 0#32
  let v287 : BitVec 1 := Scalar.cmpi .slt v283 c0_i32_302
  let v288 : BitVec 32 := Scalar.extui v287
  let v289 : BitVec 32 := Scalar.subi v286 v288
  let c128_i32_300 : BitVec 32 := 128#32
  let c0_i32_303 : BitVec 32 := 0#32
  let v290 : BitVec 1 := Scalar.cmpi .sgt c128_i32_300 c0_i32_303
  let v291 : BitVec 32 := Scalar.extui v290
  let c0_i32_304 : BitVec 32 := 0#32
  let v292 : BitVec 1 := Scalar.cmpi .slt c128_i32_300 c0_i32_304
  let v293 : BitVec 32 := Scalar.extui v292
  let v294 : BitVec 32 := Scalar.subi v291 v293
  let v295 : BitVec 1 := Scalar.cmpi .ne v289 v294
  let v296 : BitVec 32 := Scalar.remsi v283 c128_i32_300
  let c0_i32_305 : BitVec 32 := 0#32
  let v297 : BitVec 1 := Scalar.cmpi .ne v296 c0_i32_305
  let v298 : BitVec 1 := Scalar.andi v295 v297
  let v284 : BitVec 32 := Scalar.divsi v283 c128_i32_300
  let c1_i32_306 : BitVec 32 := 1#32
  let v299 : BitVec 32 := Scalar.subi v284 c1_i32_306
  let v300 : BitVec 32 := Scalar.select v298 v299 v284
  let c128_i32_307 : BitVec 32 := 128#32
  let v301 : BitVec 32 := Scalar.muli v300 c128_i32_307
  let c31616_i32_308 : BitVec 32 := 31616#32
  let v302 : BitVec 32 := Scalar.minsi v301 c31616_i32_308
  v302

def k0_off15 (v280 : BitVec 32) : Fin 4 → Nat :=
  let c7_i32_313 : BitVec 32 := 7#32
  let c0_i32_314 : BitVec 32 := 0#32
  let c0_i32_315 : BitVec 32 := 0#32
  let c31744_i32_299 : BitVec 32 := 31744#32
  let c0_i32_298 : BitVec 32 := 0#32
  let c1024_i32_297 : BitVec 32 := 1024#32
  let v281 : BitVec 32 := Scalar.subi v280 c1024_i32_297
  let v282 : BitVec 32 := Scalar.maxsi c0_i32_298 v281
  let v283 : BitVec 32 := Scalar.minsi c31744_i32_299 v282
  let c0_i32_301 : BitVec 32 := 0#32
  let v285 : BitVec 1 := Scalar.cmpi .sgt v283 c0_i32_301
  let v286 : BitVec 32 := Scalar.extui v285
  let c0_i32_302 : BitVec 32 := 0#32
  let v287 : BitVec 1 := Scalar.cmpi .slt v283 c0_i32_302
  let v288 : BitVec 32 := Scalar.extui v287
  let v289 : BitVec 32 := Scalar.subi v286 v288
  let c128_i32_300 : BitVec 32 := 128#32
  let c0_i32_303 : BitVec 32 := 0#32
  let v290 : BitVec 1 := Scalar.cmpi .sgt c128_i32_300 c0_i32_303
  let v291 : BitVec 32 := Scalar.extui v290
  let c0_i32_304 : BitVec 32 := 0#32
  let v292 : BitVec 1 := Scalar.cmpi .slt c128_i32_300 c0_i32_304
  let v293 : BitVec 32 := Scalar.extui v292
  let v294 : BitVec 32 := Scalar.subi v291 v293
  let v295 : BitVec 1 := Scalar.cmpi .ne v289 v294
  let v296 : BitVec 32 := Scalar.remsi v283 c128_i32_300
  let c0_i32_305 : BitVec 32 := 0#32
  let v297 : BitVec 1 := Scalar.cmpi .ne v296 c0_i32_305
  let v298 : BitVec 1 := Scalar.andi v295 v297
  let v284 : BitVec 32 := Scalar.divsi v283 c128_i32_300
  let c1_i32_306 : BitVec 32 := 1#32
  let v299 : BitVec 32 := Scalar.subi v284 c1_i32_306
  let v300 : BitVec 32 := Scalar.select v298 v299 v284
  let c128_i32_307 : BitVec 32 := 128#32
  let v301 : BitVec 32 := Scalar.muli v300 c128_i32_307
  let c31616_i32_308 : BitVec 32 := 31616#32
  let v302 : BitVec 32 := Scalar.minsi v301 c31616_i32_308
  let v303 : BitVec 32 := v302
  ![7, 0, 0, v303.toNat]
def k0_off16 (v280 : BitVec 32) : Fin 4 → Nat :=
  let c7_i32_321 : BitVec 32 := 7#32
  let c0_i32_322 : BitVec 32 := 0#32
  let c0_i32_323 : BitVec 32 := 0#32
  let c31744_i32_299 : BitVec 32 := 31744#32
  let c0_i32_298 : BitVec 32 := 0#32
  let c1024_i32_297 : BitVec 32 := 1024#32
  let v281 : BitVec 32 := Scalar.subi v280 c1024_i32_297
  let v282 : BitVec 32 := Scalar.maxsi c0_i32_298 v281
  let v283 : BitVec 32 := Scalar.minsi c31744_i32_299 v282
  let c0_i32_301 : BitVec 32 := 0#32
  let v285 : BitVec 1 := Scalar.cmpi .sgt v283 c0_i32_301
  let v286 : BitVec 32 := Scalar.extui v285
  let c0_i32_302 : BitVec 32 := 0#32
  let v287 : BitVec 1 := Scalar.cmpi .slt v283 c0_i32_302
  let v288 : BitVec 32 := Scalar.extui v287
  let v289 : BitVec 32 := Scalar.subi v286 v288
  let c128_i32_300 : BitVec 32 := 128#32
  let c0_i32_303 : BitVec 32 := 0#32
  let v290 : BitVec 1 := Scalar.cmpi .sgt c128_i32_300 c0_i32_303
  let v291 : BitVec 32 := Scalar.extui v290
  let c0_i32_304 : BitVec 32 := 0#32
  let v292 : BitVec 1 := Scalar.cmpi .slt c128_i32_300 c0_i32_304
  let v293 : BitVec 32 := Scalar.extui v292
  let v294 : BitVec 32 := Scalar.subi v291 v293
  let v295 : BitVec 1 := Scalar.cmpi .ne v289 v294
  let v296 : BitVec 32 := Scalar.remsi v283 c128_i32_300
  let c0_i32_305 : BitVec 32 := 0#32
  let v297 : BitVec 1 := Scalar.cmpi .ne v296 c0_i32_305
  let v298 : BitVec 1 := Scalar.andi v295 v297
  let v284 : BitVec 32 := Scalar.divsi v283 c128_i32_300
  let c1_i32_306 : BitVec 32 := 1#32
  let v299 : BitVec 32 := Scalar.subi v284 c1_i32_306
  let v300 : BitVec 32 := Scalar.select v298 v299 v284
  let c128_i32_307 : BitVec 32 := 128#32
  let v301 : BitVec 32 := Scalar.muli v300 c128_i32_307
  let c31616_i32_308 : BitVec 32 := 31616#32
  let v302 : BitVec 32 := Scalar.minsi v301 c31616_i32_308
  let v303 : BitVec 32 := v302
  ![7, 0, 0, v303.toNat]

def k0_chk8 (v280 : BitVec 32) : Prop :=
  (128 ∣ (k0_mult8 v280).toNat) ∧
  (∀ a, (k0_off15 v280) a + S1x4x32x1152.size a ≤ S8x4x32x32768.size a) ∧
  (∀ (hinb : ∀ a, (k0_off15 v280) a + S1x4x32x1152.size a ≤ S8x4x32x32768.size a), (Rect.unit (s := S8x4x32x32768) (k0_off15 v280) S1x4x32x1152.size hinb).WholeWords (EltTy.packing .i8)) ∧
  (∀ a, (k0_off16 v280) a + S1x4x4x1152.size a ≤ S8x4x4x32768.size a) ∧
  (∀ (hinb : ∀ a, (k0_off16 v280) a + S1x4x4x1152.size a ≤ S8x4x4x32768.size a), (Rect.unit (s := S8x4x4x32768) (k0_off16 v280) S1x4x4x1152.size hinb).WholeWords (EltTy.packing .fp8e4m3))
theorem k0_mult8_dvd : ∀ (v280 : BitVec 32) (k0_hw8 : k0_chk8 v280), 128 ∣ (k0_mult8 v280).toNat := fun v280 k0_hw8 => k0_hw8.1
theorem k0_off15_inb : ∀ (v280 : BitVec 32) (k0_hw8 : k0_chk8 v280), ∀ a, (k0_off15 v280) a + S1x4x32x1152.size a ≤ S8x4x32x32768.size a := fun v280 k0_hw8 => k0_hw8.2.1
theorem k0_off15_wordsi8 : ∀ (v280 : BitVec 32) (k0_hw8 : k0_chk8 v280), (Rect.unit (s := S8x4x32x32768) (k0_off15 v280) S1x4x32x1152.size (k0_off15_inb v280 k0_hw8)).WholeWords (EltTy.packing .i8) := fun v280 k0_hw8 => k0_hw8.2.2.1 (k0_off15_inb v280 k0_hw8)
theorem k0_off16_inb : ∀ (v280 : BitVec 32) (k0_hw8 : k0_chk8 v280), ∀ a, (k0_off16 v280) a + S1x4x4x1152.size a ≤ S8x4x4x32768.size a := fun v280 k0_hw8 => k0_hw8.2.2.2.1
theorem k0_off16_wordsfp8e4m3 : ∀ (v280 : BitVec 32) (k0_hw8 : k0_chk8 v280), (Rect.unit (s := S8x4x4x32768) (k0_off16 v280) S1x4x4x1152.size (k0_off16_inb v280 k0_hw8)).WholeWords (EltTy.packing .fp8e4m3) := fun v280 k0_hw8 => k0_hw8.2.2.2.2 (k0_off16_inb v280 k0_hw8)

def k0_mult9 (v681 : BitVec 32) : BitVec 32 :=
  let c31744_i32_467 : BitVec 32 := 31744#32
  let c0_i32_466 : BitVec 32 := 0#32
  let c1024_i32_465 : BitVec 32 := 1024#32
  let v682 : BitVec 32 := Scalar.subi v681 c1024_i32_465
  let v683 : BitVec 32 := Scalar.maxsi c0_i32_466 v682
  let v684 : BitVec 32 := Scalar.minsi c31744_i32_467 v683
  let c0_i32_469 : BitVec 32 := 0#32
  let v686 : BitVec 1 := Scalar.cmpi .sgt v684 c0_i32_469
  let v687 : BitVec 32 := Scalar.extui v686
  let c0_i32_470 : BitVec 32 := 0#32
  let v688 : BitVec 1 := Scalar.cmpi .slt v684 c0_i32_470
  let v689 : BitVec 32 := Scalar.extui v688
  let v690 : BitVec 32 := Scalar.subi v687 v689
  let c128_i32_468 : BitVec 32 := 128#32
  let c0_i32_471 : BitVec 32 := 0#32
  let v691 : BitVec 1 := Scalar.cmpi .sgt c128_i32_468 c0_i32_471
  let v692 : BitVec 32 := Scalar.extui v691
  let c0_i32_472 : BitVec 32 := 0#32
  let v693 : BitVec 1 := Scalar.cmpi .slt c128_i32_468 c0_i32_472
  let v694 : BitVec 32 := Scalar.extui v693
  let v695 : BitVec 32 := Scalar.subi v692 v694
  let v696 : BitVec 1 := Scalar.cmpi .ne v690 v695
  let v697 : BitVec 32 := Scalar.remsi v684 c128_i32_468
  let c0_i32_473 : BitVec 32 := 0#32
  let v698 : BitVec 1 := Scalar.cmpi .ne v697 c0_i32_473
  let v699 : BitVec 1 := Scalar.andi v696 v698
  let v685 : BitVec 32 := Scalar.divsi v684 c128_i32_468
  let c1_i32_474 : BitVec 32 := 1#32
  let v700 : BitVec 32 := Scalar.subi v685 c1_i32_474
  let v701 : BitVec 32 := Scalar.select v699 v700 v685
  let c128_i32_475 : BitVec 32 := 128#32
  let v702 : BitVec 32 := Scalar.muli v701 c128_i32_475
  let c31616_i32_476 : BitVec 32 := 31616#32
  let v703 : BitVec 32 := Scalar.minsi v702 c31616_i32_476
  v703

def k0_off17 (v681 : BitVec 32) : Fin 4 → Nat :=
  let c0_i32_482 : BitVec 32 := 0#32
  let c0_i32_483 : BitVec 32 := 0#32
  let c0_i32_484 : BitVec 32 := 0#32
  let c31744_i32_467 : BitVec 32 := 31744#32
  let c0_i32_466 : BitVec 32 := 0#32
  let c1024_i32_465 : BitVec 32 := 1024#32
  let v682 : BitVec 32 := Scalar.subi v681 c1024_i32_465
  let v683 : BitVec 32 := Scalar.maxsi c0_i32_466 v682
  let v684 : BitVec 32 := Scalar.minsi c31744_i32_467 v683
  let c0_i32_469 : BitVec 32 := 0#32
  let v686 : BitVec 1 := Scalar.cmpi .sgt v684 c0_i32_469
  let v687 : BitVec 32 := Scalar.extui v686
  let c0_i32_470 : BitVec 32 := 0#32
  let v688 : BitVec 1 := Scalar.cmpi .slt v684 c0_i32_470
  let v689 : BitVec 32 := Scalar.extui v688
  let v690 : BitVec 32 := Scalar.subi v687 v689
  let c128_i32_468 : BitVec 32 := 128#32
  let c0_i32_471 : BitVec 32 := 0#32
  let v691 : BitVec 1 := Scalar.cmpi .sgt c128_i32_468 c0_i32_471
  let v692 : BitVec 32 := Scalar.extui v691
  let c0_i32_472 : BitVec 32 := 0#32
  let v693 : BitVec 1 := Scalar.cmpi .slt c128_i32_468 c0_i32_472
  let v694 : BitVec 32 := Scalar.extui v693
  let v695 : BitVec 32 := Scalar.subi v692 v694
  let v696 : BitVec 1 := Scalar.cmpi .ne v690 v695
  let v697 : BitVec 32 := Scalar.remsi v684 c128_i32_468
  let c0_i32_473 : BitVec 32 := 0#32
  let v698 : BitVec 1 := Scalar.cmpi .ne v697 c0_i32_473
  let v699 : BitVec 1 := Scalar.andi v696 v698
  let v685 : BitVec 32 := Scalar.divsi v684 c128_i32_468
  let c1_i32_474 : BitVec 32 := 1#32
  let v700 : BitVec 32 := Scalar.subi v685 c1_i32_474
  let v701 : BitVec 32 := Scalar.select v699 v700 v685
  let c128_i32_475 : BitVec 32 := 128#32
  let v702 : BitVec 32 := Scalar.muli v701 c128_i32_475
  let c31616_i32_476 : BitVec 32 := 31616#32
  let v703 : BitVec 32 := Scalar.minsi v702 c31616_i32_476
  let v704 : BitVec 32 := v703
  ![0, 0, 0, v704.toNat]
def k0_off18 (v681 : BitVec 32) : Fin 4 → Nat :=
  let c0_i32_490 : BitVec 32 := 0#32
  let c0_i32_491 : BitVec 32 := 0#32
  let c0_i32_492 : BitVec 32 := 0#32
  let c31744_i32_467 : BitVec 32 := 31744#32
  let c0_i32_466 : BitVec 32 := 0#32
  let c1024_i32_465 : BitVec 32 := 1024#32
  let v682 : BitVec 32 := Scalar.subi v681 c1024_i32_465
  let v683 : BitVec 32 := Scalar.maxsi c0_i32_466 v682
  let v684 : BitVec 32 := Scalar.minsi c31744_i32_467 v683
  let c0_i32_469 : BitVec 32 := 0#32
  let v686 : BitVec 1 := Scalar.cmpi .sgt v684 c0_i32_469
  let v687 : BitVec 32 := Scalar.extui v686
  let c0_i32_470 : BitVec 32 := 0#32
  let v688 : BitVec 1 := Scalar.cmpi .slt v684 c0_i32_470
  let v689 : BitVec 32 := Scalar.extui v688
  let v690 : BitVec 32 := Scalar.subi v687 v689
  let c128_i32_468 : BitVec 32 := 128#32
  let c0_i32_471 : BitVec 32 := 0#32
  let v691 : BitVec 1 := Scalar.cmpi .sgt c128_i32_468 c0_i32_471
  let v692 : BitVec 32 := Scalar.extui v691
  let c0_i32_472 : BitVec 32 := 0#32
  let v693 : BitVec 1 := Scalar.cmpi .slt c128_i32_468 c0_i32_472
  let v694 : BitVec 32 := Scalar.extui v693
  let v695 : BitVec 32 := Scalar.subi v692 v694
  let v696 : BitVec 1 := Scalar.cmpi .ne v690 v695
  let v697 : BitVec 32 := Scalar.remsi v684 c128_i32_468
  let c0_i32_473 : BitVec 32 := 0#32
  let v698 : BitVec 1 := Scalar.cmpi .ne v697 c0_i32_473
  let v699 : BitVec 1 := Scalar.andi v696 v698
  let v685 : BitVec 32 := Scalar.divsi v684 c128_i32_468
  let c1_i32_474 : BitVec 32 := 1#32
  let v700 : BitVec 32 := Scalar.subi v685 c1_i32_474
  let v701 : BitVec 32 := Scalar.select v699 v700 v685
  let c128_i32_475 : BitVec 32 := 128#32
  let v702 : BitVec 32 := Scalar.muli v701 c128_i32_475
  let c31616_i32_476 : BitVec 32 := 31616#32
  let v703 : BitVec 32 := Scalar.minsi v702 c31616_i32_476
  let v704 : BitVec 32 := v703
  ![0, 0, 0, v704.toNat]

def k0_chk9 (v681 : BitVec 32) : Prop :=
  (128 ∣ (k0_mult9 v681).toNat) ∧
  (∀ a, (k0_off17 v681) a + S1x4x32x1152.size a ≤ S8x4x32x32768.size a) ∧
  (∀ (hinb : ∀ a, (k0_off17 v681) a + S1x4x32x1152.size a ≤ S8x4x32x32768.size a), (Rect.unit (s := S8x4x32x32768) (k0_off17 v681) S1x4x32x1152.size hinb).WholeWords (EltTy.packing .i8)) ∧
  (∀ a, (k0_off18 v681) a + S1x4x4x1152.size a ≤ S8x4x4x32768.size a) ∧
  (∀ (hinb : ∀ a, (k0_off18 v681) a + S1x4x4x1152.size a ≤ S8x4x4x32768.size a), (Rect.unit (s := S8x4x4x32768) (k0_off18 v681) S1x4x4x1152.size hinb).WholeWords (EltTy.packing .fp8e4m3))
theorem k0_mult9_dvd : ∀ (v681 : BitVec 32) (k0_hw9 : k0_chk9 v681), 128 ∣ (k0_mult9 v681).toNat := fun v681 k0_hw9 => k0_hw9.1
theorem k0_off17_inb : ∀ (v681 : BitVec 32) (k0_hw9 : k0_chk9 v681), ∀ a, (k0_off17 v681) a + S1x4x32x1152.size a ≤ S8x4x32x32768.size a := fun v681 k0_hw9 => k0_hw9.2.1
theorem k0_off17_wordsi8 : ∀ (v681 : BitVec 32) (k0_hw9 : k0_chk9 v681), (Rect.unit (s := S8x4x32x32768) (k0_off17 v681) S1x4x32x1152.size (k0_off17_inb v681 k0_hw9)).WholeWords (EltTy.packing .i8) := fun v681 k0_hw9 => k0_hw9.2.2.1 (k0_off17_inb v681 k0_hw9)
theorem k0_off18_inb : ∀ (v681 : BitVec 32) (k0_hw9 : k0_chk9 v681), ∀ a, (k0_off18 v681) a + S1x4x4x1152.size a ≤ S8x4x4x32768.size a := fun v681 k0_hw9 => k0_hw9.2.2.2.1
theorem k0_off18_wordsfp8e4m3 : ∀ (v681 : BitVec 32) (k0_hw9 : k0_chk9 v681), (Rect.unit (s := S8x4x4x32768) (k0_off18 v681) S1x4x4x1152.size (k0_off18_inb v681 k0_hw9)).WholeWords (EltTy.packing .fp8e4m3) := fun v681 k0_hw9 => k0_hw9.2.2.2.2 (k0_off18_inb v681 k0_hw9)

def k0_mult10 (v1497 : BitVec 32) : BitVec 32 :=
  let c31744_i32_806 : BitVec 32 := 31744#32
  let c0_i32_805 : BitVec 32 := 0#32
  let c1024_i32_804 : BitVec 32 := 1024#32
  let v1498 : BitVec 32 := Scalar.subi v1497 c1024_i32_804
  let v1499 : BitVec 32 := Scalar.maxsi c0_i32_805 v1498
  let v1500 : BitVec 32 := Scalar.minsi c31744_i32_806 v1499
  let c0_i32_808 : BitVec 32 := 0#32
  let v1502 : BitVec 1 := Scalar.cmpi .sgt v1500 c0_i32_808
  let v1503 : BitVec 32 := Scalar.extui v1502
  let c0_i32_809 : BitVec 32 := 0#32
  let v1504 : BitVec 1 := Scalar.cmpi .slt v1500 c0_i32_809
  let v1505 : BitVec 32 := Scalar.extui v1504
  let v1506 : BitVec 32 := Scalar.subi v1503 v1505
  let c128_i32_807 : BitVec 32 := 128#32
  let c0_i32_810 : BitVec 32 := 0#32
  let v1507 : BitVec 1 := Scalar.cmpi .sgt c128_i32_807 c0_i32_810
  let v1508 : BitVec 32 := Scalar.extui v1507
  let c0_i32_811 : BitVec 32 := 0#32
  let v1509 : BitVec 1 := Scalar.cmpi .slt c128_i32_807 c0_i32_811
  let v1510 : BitVec 32 := Scalar.extui v1509
  let v1511 : BitVec 32 := Scalar.subi v1508 v1510
  let v1512 : BitVec 1 := Scalar.cmpi .ne v1506 v1511
  let v1513 : BitVec 32 := Scalar.remsi v1500 c128_i32_807
  let c0_i32_812 : BitVec 32 := 0#32
  let v1514 : BitVec 1 := Scalar.cmpi .ne v1513 c0_i32_812
  let v1515 : BitVec 1 := Scalar.andi v1512 v1514
  let v1501 : BitVec 32 := Scalar.divsi v1500 c128_i32_807
  let c1_i32_813 : BitVec 32 := 1#32
  let v1516 : BitVec 32 := Scalar.subi v1501 c1_i32_813
  let v1517 : BitVec 32 := Scalar.select v1515 v1516 v1501
  let c128_i32_814 : BitVec 32 := 128#32
  let v1518 : BitVec 32 := Scalar.muli v1517 c128_i32_814
  let c31616_i32_815 : BitVec 32 := 31616#32
  let v1519 : BitVec 32 := Scalar.minsi v1518 c31616_i32_815
  v1519

def k0_off19 (v1497 : BitVec 32) : Fin 4 → Nat :=
  let c1_i32_821 : BitVec 32 := 1#32
  let c0_i32_822 : BitVec 32 := 0#32
  let c0_i32_823 : BitVec 32 := 0#32
  let c31744_i32_806 : BitVec 32 := 31744#32
  let c0_i32_805 : BitVec 32 := 0#32
  let c1024_i32_804 : BitVec 32 := 1024#32
  let v1498 : BitVec 32 := Scalar.subi v1497 c1024_i32_804
  let v1499 : BitVec 32 := Scalar.maxsi c0_i32_805 v1498
  let v1500 : BitVec 32 := Scalar.minsi c31744_i32_806 v1499
  let c0_i32_808 : BitVec 32 := 0#32
  let v1502 : BitVec 1 := Scalar.cmpi .sgt v1500 c0_i32_808
  let v1503 : BitVec 32 := Scalar.extui v1502
  let c0_i32_809 : BitVec 32 := 0#32
  let v1504 : BitVec 1 := Scalar.cmpi .slt v1500 c0_i32_809
  let v1505 : BitVec 32 := Scalar.extui v1504
  let v1506 : BitVec 32 := Scalar.subi v1503 v1505
  let c128_i32_807 : BitVec 32 := 128#32
  let c0_i32_810 : BitVec 32 := 0#32
  let v1507 : BitVec 1 := Scalar.cmpi .sgt c128_i32_807 c0_i32_810
  let v1508 : BitVec 32 := Scalar.extui v1507
  let c0_i32_811 : BitVec 32 := 0#32
  let v1509 : BitVec 1 := Scalar.cmpi .slt c128_i32_807 c0_i32_811
  let v1510 : BitVec 32 := Scalar.extui v1509
  let v1511 : BitVec 32 := Scalar.subi v1508 v1510
  let v1512 : BitVec 1 := Scalar.cmpi .ne v1506 v1511
  let v1513 : BitVec 32 := Scalar.remsi v1500 c128_i32_807
  let c0_i32_812 : BitVec 32 := 0#32
  let v1514 : BitVec 1 := Scalar.cmpi .ne v1513 c0_i32_812
  let v1515 : BitVec 1 := Scalar.andi v1512 v1514
  let v1501 : BitVec 32 := Scalar.divsi v1500 c128_i32_807
  let c1_i32_813 : BitVec 32 := 1#32
  let v1516 : BitVec 32 := Scalar.subi v1501 c1_i32_813
  let v1517 : BitVec 32 := Scalar.select v1515 v1516 v1501
  let c128_i32_814 : BitVec 32 := 128#32
  let v1518 : BitVec 32 := Scalar.muli v1517 c128_i32_814
  let c31616_i32_815 : BitVec 32 := 31616#32
  let v1519 : BitVec 32 := Scalar.minsi v1518 c31616_i32_815
  let v1520 : BitVec 32 := v1519
  ![1, 0, 0, v1520.toNat]
def k0_off20 (v1497 : BitVec 32) : Fin 4 → Nat :=
  let c1_i32_829 : BitVec 32 := 1#32
  let c0_i32_830 : BitVec 32 := 0#32
  let c0_i32_831 : BitVec 32 := 0#32
  let c31744_i32_806 : BitVec 32 := 31744#32
  let c0_i32_805 : BitVec 32 := 0#32
  let c1024_i32_804 : BitVec 32 := 1024#32
  let v1498 : BitVec 32 := Scalar.subi v1497 c1024_i32_804
  let v1499 : BitVec 32 := Scalar.maxsi c0_i32_805 v1498
  let v1500 : BitVec 32 := Scalar.minsi c31744_i32_806 v1499
  let c0_i32_808 : BitVec 32 := 0#32
  let v1502 : BitVec 1 := Scalar.cmpi .sgt v1500 c0_i32_808
  let v1503 : BitVec 32 := Scalar.extui v1502
  let c0_i32_809 : BitVec 32 := 0#32
  let v1504 : BitVec 1 := Scalar.cmpi .slt v1500 c0_i32_809
  let v1505 : BitVec 32 := Scalar.extui v1504
  let v1506 : BitVec 32 := Scalar.subi v1503 v1505
  let c128_i32_807 : BitVec 32 := 128#32
  let c0_i32_810 : BitVec 32 := 0#32
  let v1507 : BitVec 1 := Scalar.cmpi .sgt c128_i32_807 c0_i32_810
  let v1508 : BitVec 32 := Scalar.extui v1507
  let c0_i32_811 : BitVec 32 := 0#32
  let v1509 : BitVec 1 := Scalar.cmpi .slt c128_i32_807 c0_i32_811
  let v1510 : BitVec 32 := Scalar.extui v1509
  let v1511 : BitVec 32 := Scalar.subi v1508 v1510
  let v1512 : BitVec 1 := Scalar.cmpi .ne v1506 v1511
  let v1513 : BitVec 32 := Scalar.remsi v1500 c128_i32_807
  let c0_i32_812 : BitVec 32 := 0#32
  let v1514 : BitVec 1 := Scalar.cmpi .ne v1513 c0_i32_812
  let v1515 : BitVec 1 := Scalar.andi v1512 v1514
  let v1501 : BitVec 32 := Scalar.divsi v1500 c128_i32_807
  let c1_i32_813 : BitVec 32 := 1#32
  let v1516 : BitVec 32 := Scalar.subi v1501 c1_i32_813
  let v1517 : BitVec 32 := Scalar.select v1515 v1516 v1501
  let c128_i32_814 : BitVec 32 := 128#32
  let v1518 : BitVec 32 := Scalar.muli v1517 c128_i32_814
  let c31616_i32_815 : BitVec 32 := 31616#32
  let v1519 : BitVec 32 := Scalar.minsi v1518 c31616_i32_815
  let v1520 : BitVec 32 := v1519
  ![1, 0, 0, v1520.toNat]

def k0_chk10 (v1497 : BitVec 32) : Prop :=
  (128 ∣ (k0_mult10 v1497).toNat) ∧
  (∀ a, (k0_off19 v1497) a + S1x4x32x1152.size a ≤ S8x4x32x32768.size a) ∧
  (∀ (hinb : ∀ a, (k0_off19 v1497) a + S1x4x32x1152.size a ≤ S8x4x32x32768.size a), (Rect.unit (s := S8x4x32x32768) (k0_off19 v1497) S1x4x32x1152.size hinb).WholeWords (EltTy.packing .i8)) ∧
  (∀ a, (k0_off20 v1497) a + S1x4x4x1152.size a ≤ S8x4x4x32768.size a) ∧
  (∀ (hinb : ∀ a, (k0_off20 v1497) a + S1x4x4x1152.size a ≤ S8x4x4x32768.size a), (Rect.unit (s := S8x4x4x32768) (k0_off20 v1497) S1x4x4x1152.size hinb).WholeWords (EltTy.packing .fp8e4m3))
theorem k0_mult10_dvd : ∀ (v1497 : BitVec 32) (k0_hw10 : k0_chk10 v1497), 128 ∣ (k0_mult10 v1497).toNat := fun v1497 k0_hw10 => k0_hw10.1
theorem k0_off19_inb : ∀ (v1497 : BitVec 32) (k0_hw10 : k0_chk10 v1497), ∀ a, (k0_off19 v1497) a + S1x4x32x1152.size a ≤ S8x4x32x32768.size a := fun v1497 k0_hw10 => k0_hw10.2.1
theorem k0_off19_wordsi8 : ∀ (v1497 : BitVec 32) (k0_hw10 : k0_chk10 v1497), (Rect.unit (s := S8x4x32x32768) (k0_off19 v1497) S1x4x32x1152.size (k0_off19_inb v1497 k0_hw10)).WholeWords (EltTy.packing .i8) := fun v1497 k0_hw10 => k0_hw10.2.2.1 (k0_off19_inb v1497 k0_hw10)
theorem k0_off20_inb : ∀ (v1497 : BitVec 32) (k0_hw10 : k0_chk10 v1497), ∀ a, (k0_off20 v1497) a + S1x4x4x1152.size a ≤ S8x4x4x32768.size a := fun v1497 k0_hw10 => k0_hw10.2.2.2.1
theorem k0_off20_wordsfp8e4m3 : ∀ (v1497 : BitVec 32) (k0_hw10 : k0_chk10 v1497), (Rect.unit (s := S8x4x4x32768) (k0_off20 v1497) S1x4x4x1152.size (k0_off20_inb v1497 k0_hw10)).WholeWords (EltTy.packing .fp8e4m3) := fun v1497 k0_hw10 => k0_hw10.2.2.2.2 (k0_off20_inb v1497 k0_hw10)

def k0_mult11 (v2313 : BitVec 32) : BitVec 32 :=
  let c31744_i32_1162 : BitVec 32 := 31744#32
  let c0_i32_1161 : BitVec 32 := 0#32
  let c1024_i32_1160 : BitVec 32 := 1024#32
  let v2314 : BitVec 32 := Scalar.subi v2313 c1024_i32_1160
  let v2315 : BitVec 32 := Scalar.maxsi c0_i32_1161 v2314
  let v2316 : BitVec 32 := Scalar.minsi c31744_i32_1162 v2315
  let c0_i32_1164 : BitVec 32 := 0#32
  let v2318 : BitVec 1 := Scalar.cmpi .sgt v2316 c0_i32_1164
  let v2319 : BitVec 32 := Scalar.extui v2318
  let c0_i32_1165 : BitVec 32 := 0#32
  let v2320 : BitVec 1 := Scalar.cmpi .slt v2316 c0_i32_1165
  let v2321 : BitVec 32 := Scalar.extui v2320
  let v2322 : BitVec 32 := Scalar.subi v2319 v2321
  let c128_i32_1163 : BitVec 32 := 128#32
  let c0_i32_1166 : BitVec 32 := 0#32
  let v2323 : BitVec 1 := Scalar.cmpi .sgt c128_i32_1163 c0_i32_1166
  let v2324 : BitVec 32 := Scalar.extui v2323
  let c0_i32_1167 : BitVec 32 := 0#32
  let v2325 : BitVec 1 := Scalar.cmpi .slt c128_i32_1163 c0_i32_1167
  let v2326 : BitVec 32 := Scalar.extui v2325
  let v2327 : BitVec 32 := Scalar.subi v2324 v2326
  let v2328 : BitVec 1 := Scalar.cmpi .ne v2322 v2327
  let v2329 : BitVec 32 := Scalar.remsi v2316 c128_i32_1163
  let c0_i32_1168 : BitVec 32 := 0#32
  let v2330 : BitVec 1 := Scalar.cmpi .ne v2329 c0_i32_1168
  let v2331 : BitVec 1 := Scalar.andi v2328 v2330
  let v2317 : BitVec 32 := Scalar.divsi v2316 c128_i32_1163
  let c1_i32_1169 : BitVec 32 := 1#32
  let v2332 : BitVec 32 := Scalar.subi v2317 c1_i32_1169
  let v2333 : BitVec 32 := Scalar.select v2331 v2332 v2317
  let c128_i32_1170 : BitVec 32 := 128#32
  let v2334 : BitVec 32 := Scalar.muli v2333 c128_i32_1170
  let c31616_i32_1171 : BitVec 32 := 31616#32
  let v2335 : BitVec 32 := Scalar.minsi v2334 c31616_i32_1171
  v2335

def k0_off21 (v2313 : BitVec 32) : Fin 4 → Nat :=
  let c2_i32_1177 : BitVec 32 := 2#32
  let c0_i32_1178 : BitVec 32 := 0#32
  let c0_i32_1179 : BitVec 32 := 0#32
  let c31744_i32_1162 : BitVec 32 := 31744#32
  let c0_i32_1161 : BitVec 32 := 0#32
  let c1024_i32_1160 : BitVec 32 := 1024#32
  let v2314 : BitVec 32 := Scalar.subi v2313 c1024_i32_1160
  let v2315 : BitVec 32 := Scalar.maxsi c0_i32_1161 v2314
  let v2316 : BitVec 32 := Scalar.minsi c31744_i32_1162 v2315
  let c0_i32_1164 : BitVec 32 := 0#32
  let v2318 : BitVec 1 := Scalar.cmpi .sgt v2316 c0_i32_1164
  let v2319 : BitVec 32 := Scalar.extui v2318
  let c0_i32_1165 : BitVec 32 := 0#32
  let v2320 : BitVec 1 := Scalar.cmpi .slt v2316 c0_i32_1165
  let v2321 : BitVec 32 := Scalar.extui v2320
  let v2322 : BitVec 32 := Scalar.subi v2319 v2321
  let c128_i32_1163 : BitVec 32 := 128#32
  let c0_i32_1166 : BitVec 32 := 0#32
  let v2323 : BitVec 1 := Scalar.cmpi .sgt c128_i32_1163 c0_i32_1166
  let v2324 : BitVec 32 := Scalar.extui v2323
  let c0_i32_1167 : BitVec 32 := 0#32
  let v2325 : BitVec 1 := Scalar.cmpi .slt c128_i32_1163 c0_i32_1167
  let v2326 : BitVec 32 := Scalar.extui v2325
  let v2327 : BitVec 32 := Scalar.subi v2324 v2326
  let v2328 : BitVec 1 := Scalar.cmpi .ne v2322 v2327
  let v2329 : BitVec 32 := Scalar.remsi v2316 c128_i32_1163
  let c0_i32_1168 : BitVec 32 := 0#32
  let v2330 : BitVec 1 := Scalar.cmpi .ne v2329 c0_i32_1168
  let v2331 : BitVec 1 := Scalar.andi v2328 v2330
  let v2317 : BitVec 32 := Scalar.divsi v2316 c128_i32_1163
  let c1_i32_1169 : BitVec 32 := 1#32
  let v2332 : BitVec 32 := Scalar.subi v2317 c1_i32_1169
  let v2333 : BitVec 32 := Scalar.select v2331 v2332 v2317
  let c128_i32_1170 : BitVec 32 := 128#32
  let v2334 : BitVec 32 := Scalar.muli v2333 c128_i32_1170
  let c31616_i32_1171 : BitVec 32 := 31616#32
  let v2335 : BitVec 32 := Scalar.minsi v2334 c31616_i32_1171
  let v2336 : BitVec 32 := v2335
  ![2, 0, 0, v2336.toNat]
def k0_off22 (v2313 : BitVec 32) : Fin 4 → Nat :=
  let c2_i32_1185 : BitVec 32 := 2#32
  let c0_i32_1186 : BitVec 32 := 0#32
  let c0_i32_1187 : BitVec 32 := 0#32
  let c31744_i32_1162 : BitVec 32 := 31744#32
  let c0_i32_1161 : BitVec 32 := 0#32
  let c1024_i32_1160 : BitVec 32 := 1024#32
  let v2314 : BitVec 32 := Scalar.subi v2313 c1024_i32_1160
  let v2315 : BitVec 32 := Scalar.maxsi c0_i32_1161 v2314
  let v2316 : BitVec 32 := Scalar.minsi c31744_i32_1162 v2315
  let c0_i32_1164 : BitVec 32 := 0#32
  let v2318 : BitVec 1 := Scalar.cmpi .sgt v2316 c0_i32_1164
  let v2319 : BitVec 32 := Scalar.extui v2318
  let c0_i32_1165 : BitVec 32 := 0#32
  let v2320 : BitVec 1 := Scalar.cmpi .slt v2316 c0_i32_1165
  let v2321 : BitVec 32 := Scalar.extui v2320
  let v2322 : BitVec 32 := Scalar.subi v2319 v2321
  let c128_i32_1163 : BitVec 32 := 128#32
  let c0_i32_1166 : BitVec 32 := 0#32
  let v2323 : BitVec 1 := Scalar.cmpi .sgt c128_i32_1163 c0_i32_1166
  let v2324 : BitVec 32 := Scalar.extui v2323
  let c0_i32_1167 : BitVec 32 := 0#32
  let v2325 : BitVec 1 := Scalar.cmpi .slt c128_i32_1163 c0_i32_1167
  let v2326 : BitVec 32 := Scalar.extui v2325
  let v2327 : BitVec 32 := Scalar.subi v2324 v2326
  let v2328 : BitVec 1 := Scalar.cmpi .ne v2322 v2327
  let v2329 : BitVec 32 := Scalar.remsi v2316 c128_i32_1163
  let c0_i32_1168 : BitVec 32 := 0#32
  let v2330 : BitVec 1 := Scalar.cmpi .ne v2329 c0_i32_1168
  let v2331 : BitVec 1 := Scalar.andi v2328 v2330
  let v2317 : BitVec 32 := Scalar.divsi v2316 c128_i32_1163
  let c1_i32_1169 : BitVec 32 := 1#32
  let v2332 : BitVec 32 := Scalar.subi v2317 c1_i32_1169
  let v2333 : BitVec 32 := Scalar.select v2331 v2332 v2317
  let c128_i32_1170 : BitVec 32 := 128#32
  let v2334 : BitVec 32 := Scalar.muli v2333 c128_i32_1170
  let c31616_i32_1171 : BitVec 32 := 31616#32
  let v2335 : BitVec 32 := Scalar.minsi v2334 c31616_i32_1171
  let v2336 : BitVec 32 := v2335
  ![2, 0, 0, v2336.toNat]

def k0_chk11 (v2313 : BitVec 32) : Prop :=
  (128 ∣ (k0_mult11 v2313).toNat) ∧
  (∀ a, (k0_off21 v2313) a + S1x4x32x1152.size a ≤ S8x4x32x32768.size a) ∧
  (∀ (hinb : ∀ a, (k0_off21 v2313) a + S1x4x32x1152.size a ≤ S8x4x32x32768.size a), (Rect.unit (s := S8x4x32x32768) (k0_off21 v2313) S1x4x32x1152.size hinb).WholeWords (EltTy.packing .i8)) ∧
  (∀ a, (k0_off22 v2313) a + S1x4x4x1152.size a ≤ S8x4x4x32768.size a) ∧
  (∀ (hinb : ∀ a, (k0_off22 v2313) a + S1x4x4x1152.size a ≤ S8x4x4x32768.size a), (Rect.unit (s := S8x4x4x32768) (k0_off22 v2313) S1x4x4x1152.size hinb).WholeWords (EltTy.packing .fp8e4m3))
theorem k0_mult11_dvd : ∀ (v2313 : BitVec 32) (k0_hw11 : k0_chk11 v2313), 128 ∣ (k0_mult11 v2313).toNat := fun v2313 k0_hw11 => k0_hw11.1
theorem k0_off21_inb : ∀ (v2313 : BitVec 32) (k0_hw11 : k0_chk11 v2313), ∀ a, (k0_off21 v2313) a + S1x4x32x1152.size a ≤ S8x4x32x32768.size a := fun v2313 k0_hw11 => k0_hw11.2.1
theorem k0_off21_wordsi8 : ∀ (v2313 : BitVec 32) (k0_hw11 : k0_chk11 v2313), (Rect.unit (s := S8x4x32x32768) (k0_off21 v2313) S1x4x32x1152.size (k0_off21_inb v2313 k0_hw11)).WholeWords (EltTy.packing .i8) := fun v2313 k0_hw11 => k0_hw11.2.2.1 (k0_off21_inb v2313 k0_hw11)
theorem k0_off22_inb : ∀ (v2313 : BitVec 32) (k0_hw11 : k0_chk11 v2313), ∀ a, (k0_off22 v2313) a + S1x4x4x1152.size a ≤ S8x4x4x32768.size a := fun v2313 k0_hw11 => k0_hw11.2.2.2.1
theorem k0_off22_wordsfp8e4m3 : ∀ (v2313 : BitVec 32) (k0_hw11 : k0_chk11 v2313), (Rect.unit (s := S8x4x4x32768) (k0_off22 v2313) S1x4x4x1152.size (k0_off22_inb v2313 k0_hw11)).WholeWords (EltTy.packing .fp8e4m3) := fun v2313 k0_hw11 => k0_hw11.2.2.2.2 (k0_off22_inb v2313 k0_hw11)

def k0_mult12 (v3129 : BitVec 32) : BitVec 32 :=
  let c31744_i32_1518 : BitVec 32 := 31744#32
  let c0_i32_1517 : BitVec 32 := 0#32
  let c1024_i32_1516 : BitVec 32 := 1024#32
  let v3130 : BitVec 32 := Scalar.subi v3129 c1024_i32_1516
  let v3131 : BitVec 32 := Scalar.maxsi c0_i32_1517 v3130
  let v3132 : BitVec 32 := Scalar.minsi c31744_i32_1518 v3131
  let c0_i32_1520 : BitVec 32 := 0#32
  let v3134 : BitVec 1 := Scalar.cmpi .sgt v3132 c0_i32_1520
  let v3135 : BitVec 32 := Scalar.extui v3134
  let c0_i32_1521 : BitVec 32 := 0#32
  let v3136 : BitVec 1 := Scalar.cmpi .slt v3132 c0_i32_1521
  let v3137 : BitVec 32 := Scalar.extui v3136
  let v3138 : BitVec 32 := Scalar.subi v3135 v3137
  let c128_i32_1519 : BitVec 32 := 128#32
  let c0_i32_1522 : BitVec 32 := 0#32
  let v3139 : BitVec 1 := Scalar.cmpi .sgt c128_i32_1519 c0_i32_1522
  let v3140 : BitVec 32 := Scalar.extui v3139
  let c0_i32_1523 : BitVec 32 := 0#32
  let v3141 : BitVec 1 := Scalar.cmpi .slt c128_i32_1519 c0_i32_1523
  let v3142 : BitVec 32 := Scalar.extui v3141
  let v3143 : BitVec 32 := Scalar.subi v3140 v3142
  let v3144 : BitVec 1 := Scalar.cmpi .ne v3138 v3143
  let v3145 : BitVec 32 := Scalar.remsi v3132 c128_i32_1519
  let c0_i32_1524 : BitVec 32 := 0#32
  let v3146 : BitVec 1 := Scalar.cmpi .ne v3145 c0_i32_1524
  let v3147 : BitVec 1 := Scalar.andi v3144 v3146
  let v3133 : BitVec 32 := Scalar.divsi v3132 c128_i32_1519
  let c1_i32_1525 : BitVec 32 := 1#32
  let v3148 : BitVec 32 := Scalar.subi v3133 c1_i32_1525
  let v3149 : BitVec 32 := Scalar.select v3147 v3148 v3133
  let c128_i32_1526 : BitVec 32 := 128#32
  let v3150 : BitVec 32 := Scalar.muli v3149 c128_i32_1526
  let c31616_i32_1527 : BitVec 32 := 31616#32
  let v3151 : BitVec 32 := Scalar.minsi v3150 c31616_i32_1527
  v3151

def k0_off23 (v3129 : BitVec 32) : Fin 4 → Nat :=
  let c3_i32_1533 : BitVec 32 := 3#32
  let c0_i32_1534 : BitVec 32 := 0#32
  let c0_i32_1535 : BitVec 32 := 0#32
  let c31744_i32_1518 : BitVec 32 := 31744#32
  let c0_i32_1517 : BitVec 32 := 0#32
  let c1024_i32_1516 : BitVec 32 := 1024#32
  let v3130 : BitVec 32 := Scalar.subi v3129 c1024_i32_1516
  let v3131 : BitVec 32 := Scalar.maxsi c0_i32_1517 v3130
  let v3132 : BitVec 32 := Scalar.minsi c31744_i32_1518 v3131
  let c0_i32_1520 : BitVec 32 := 0#32
  let v3134 : BitVec 1 := Scalar.cmpi .sgt v3132 c0_i32_1520
  let v3135 : BitVec 32 := Scalar.extui v3134
  let c0_i32_1521 : BitVec 32 := 0#32
  let v3136 : BitVec 1 := Scalar.cmpi .slt v3132 c0_i32_1521
  let v3137 : BitVec 32 := Scalar.extui v3136
  let v3138 : BitVec 32 := Scalar.subi v3135 v3137
  let c128_i32_1519 : BitVec 32 := 128#32
  let c0_i32_1522 : BitVec 32 := 0#32
  let v3139 : BitVec 1 := Scalar.cmpi .sgt c128_i32_1519 c0_i32_1522
  let v3140 : BitVec 32 := Scalar.extui v3139
  let c0_i32_1523 : BitVec 32 := 0#32
  let v3141 : BitVec 1 := Scalar.cmpi .slt c128_i32_1519 c0_i32_1523
  let v3142 : BitVec 32 := Scalar.extui v3141
  let v3143 : BitVec 32 := Scalar.subi v3140 v3142
  let v3144 : BitVec 1 := Scalar.cmpi .ne v3138 v3143
  let v3145 : BitVec 32 := Scalar.remsi v3132 c128_i32_1519
  let c0_i32_1524 : BitVec 32 := 0#32
  let v3146 : BitVec 1 := Scalar.cmpi .ne v3145 c0_i32_1524
  let v3147 : BitVec 1 := Scalar.andi v3144 v3146
  let v3133 : BitVec 32 := Scalar.divsi v3132 c128_i32_1519
  let c1_i32_1525 : BitVec 32 := 1#32
  let v3148 : BitVec 32 := Scalar.subi v3133 c1_i32_1525
  let v3149 : BitVec 32 := Scalar.select v3147 v3148 v3133
  let c128_i32_1526 : BitVec 32 := 128#32
  let v3150 : BitVec 32 := Scalar.muli v3149 c128_i32_1526
  let c31616_i32_1527 : BitVec 32 := 31616#32
  let v3151 : BitVec 32 := Scalar.minsi v3150 c31616_i32_1527
  let v3152 : BitVec 32 := v3151
  ![3, 0, 0, v3152.toNat]
def k0_off24 (v3129 : BitVec 32) : Fin 4 → Nat :=
  let c3_i32_1541 : BitVec 32 := 3#32
  let c0_i32_1542 : BitVec 32 := 0#32
  let c0_i32_1543 : BitVec 32 := 0#32
  let c31744_i32_1518 : BitVec 32 := 31744#32
  let c0_i32_1517 : BitVec 32 := 0#32
  let c1024_i32_1516 : BitVec 32 := 1024#32
  let v3130 : BitVec 32 := Scalar.subi v3129 c1024_i32_1516
  let v3131 : BitVec 32 := Scalar.maxsi c0_i32_1517 v3130
  let v3132 : BitVec 32 := Scalar.minsi c31744_i32_1518 v3131
  let c0_i32_1520 : BitVec 32 := 0#32
  let v3134 : BitVec 1 := Scalar.cmpi .sgt v3132 c0_i32_1520
  let v3135 : BitVec 32 := Scalar.extui v3134
  let c0_i32_1521 : BitVec 32 := 0#32
  let v3136 : BitVec 1 := Scalar.cmpi .slt v3132 c0_i32_1521
  let v3137 : BitVec 32 := Scalar.extui v3136
  let v3138 : BitVec 32 := Scalar.subi v3135 v3137
  let c128_i32_1519 : BitVec 32 := 128#32
  let c0_i32_1522 : BitVec 32 := 0#32
  let v3139 : BitVec 1 := Scalar.cmpi .sgt c128_i32_1519 c0_i32_1522
  let v3140 : BitVec 32 := Scalar.extui v3139
  let c0_i32_1523 : BitVec 32 := 0#32
  let v3141 : BitVec 1 := Scalar.cmpi .slt c128_i32_1519 c0_i32_1523
  let v3142 : BitVec 32 := Scalar.extui v3141
  let v3143 : BitVec 32 := Scalar.subi v3140 v3142
  let v3144 : BitVec 1 := Scalar.cmpi .ne v3138 v3143
  let v3145 : BitVec 32 := Scalar.remsi v3132 c128_i32_1519
  let c0_i32_1524 : BitVec 32 := 0#32
  let v3146 : BitVec 1 := Scalar.cmpi .ne v3145 c0_i32_1524
  let v3147 : BitVec 1 := Scalar.andi v3144 v3146
  let v3133 : BitVec 32 := Scalar.divsi v3132 c128_i32_1519
  let c1_i32_1525 : BitVec 32 := 1#32
  let v3148 : BitVec 32 := Scalar.subi v3133 c1_i32_1525
  let v3149 : BitVec 32 := Scalar.select v3147 v3148 v3133
  let c128_i32_1526 : BitVec 32 := 128#32
  let v3150 : BitVec 32 := Scalar.muli v3149 c128_i32_1526
  let c31616_i32_1527 : BitVec 32 := 31616#32
  let v3151 : BitVec 32 := Scalar.minsi v3150 c31616_i32_1527
  let v3152 : BitVec 32 := v3151
  ![3, 0, 0, v3152.toNat]

def k0_chk12 (v3129 : BitVec 32) : Prop :=
  (128 ∣ (k0_mult12 v3129).toNat) ∧
  (∀ a, (k0_off23 v3129) a + S1x4x32x1152.size a ≤ S8x4x32x32768.size a) ∧
  (∀ (hinb : ∀ a, (k0_off23 v3129) a + S1x4x32x1152.size a ≤ S8x4x32x32768.size a), (Rect.unit (s := S8x4x32x32768) (k0_off23 v3129) S1x4x32x1152.size hinb).WholeWords (EltTy.packing .i8)) ∧
  (∀ a, (k0_off24 v3129) a + S1x4x4x1152.size a ≤ S8x4x4x32768.size a) ∧
  (∀ (hinb : ∀ a, (k0_off24 v3129) a + S1x4x4x1152.size a ≤ S8x4x4x32768.size a), (Rect.unit (s := S8x4x4x32768) (k0_off24 v3129) S1x4x4x1152.size hinb).WholeWords (EltTy.packing .fp8e4m3))
theorem k0_mult12_dvd : ∀ (v3129 : BitVec 32) (k0_hw12 : k0_chk12 v3129), 128 ∣ (k0_mult12 v3129).toNat := fun v3129 k0_hw12 => k0_hw12.1
theorem k0_off23_inb : ∀ (v3129 : BitVec 32) (k0_hw12 : k0_chk12 v3129), ∀ a, (k0_off23 v3129) a + S1x4x32x1152.size a ≤ S8x4x32x32768.size a := fun v3129 k0_hw12 => k0_hw12.2.1
theorem k0_off23_wordsi8 : ∀ (v3129 : BitVec 32) (k0_hw12 : k0_chk12 v3129), (Rect.unit (s := S8x4x32x32768) (k0_off23 v3129) S1x4x32x1152.size (k0_off23_inb v3129 k0_hw12)).WholeWords (EltTy.packing .i8) := fun v3129 k0_hw12 => k0_hw12.2.2.1 (k0_off23_inb v3129 k0_hw12)
theorem k0_off24_inb : ∀ (v3129 : BitVec 32) (k0_hw12 : k0_chk12 v3129), ∀ a, (k0_off24 v3129) a + S1x4x4x1152.size a ≤ S8x4x4x32768.size a := fun v3129 k0_hw12 => k0_hw12.2.2.2.1
theorem k0_off24_wordsfp8e4m3 : ∀ (v3129 : BitVec 32) (k0_hw12 : k0_chk12 v3129), (Rect.unit (s := S8x4x4x32768) (k0_off24 v3129) S1x4x4x1152.size (k0_off24_inb v3129 k0_hw12)).WholeWords (EltTy.packing .fp8e4m3) := fun v3129 k0_hw12 => k0_hw12.2.2.2.2 (k0_off24_inb v3129 k0_hw12)

def k0_mult13 (v3945 : BitVec 32) : BitVec 32 :=
  let c31744_i32_1874 : BitVec 32 := 31744#32
  let c0_i32_1873 : BitVec 32 := 0#32
  let c1024_i32_1872 : BitVec 32 := 1024#32
  let v3946 : BitVec 32 := Scalar.subi v3945 c1024_i32_1872
  let v3947 : BitVec 32 := Scalar.maxsi c0_i32_1873 v3946
  let v3948 : BitVec 32 := Scalar.minsi c31744_i32_1874 v3947
  let c0_i32_1876 : BitVec 32 := 0#32
  let v3950 : BitVec 1 := Scalar.cmpi .sgt v3948 c0_i32_1876
  let v3951 : BitVec 32 := Scalar.extui v3950
  let c0_i32_1877 : BitVec 32 := 0#32
  let v3952 : BitVec 1 := Scalar.cmpi .slt v3948 c0_i32_1877
  let v3953 : BitVec 32 := Scalar.extui v3952
  let v3954 : BitVec 32 := Scalar.subi v3951 v3953
  let c128_i32_1875 : BitVec 32 := 128#32
  let c0_i32_1878 : BitVec 32 := 0#32
  let v3955 : BitVec 1 := Scalar.cmpi .sgt c128_i32_1875 c0_i32_1878
  let v3956 : BitVec 32 := Scalar.extui v3955
  let c0_i32_1879 : BitVec 32 := 0#32
  let v3957 : BitVec 1 := Scalar.cmpi .slt c128_i32_1875 c0_i32_1879
  let v3958 : BitVec 32 := Scalar.extui v3957
  let v3959 : BitVec 32 := Scalar.subi v3956 v3958
  let v3960 : BitVec 1 := Scalar.cmpi .ne v3954 v3959
  let v3961 : BitVec 32 := Scalar.remsi v3948 c128_i32_1875
  let c0_i32_1880 : BitVec 32 := 0#32
  let v3962 : BitVec 1 := Scalar.cmpi .ne v3961 c0_i32_1880
  let v3963 : BitVec 1 := Scalar.andi v3960 v3962
  let v3949 : BitVec 32 := Scalar.divsi v3948 c128_i32_1875
  let c1_i32_1881 : BitVec 32 := 1#32
  let v3964 : BitVec 32 := Scalar.subi v3949 c1_i32_1881
  let v3965 : BitVec 32 := Scalar.select v3963 v3964 v3949
  let c128_i32_1882 : BitVec 32 := 128#32
  let v3966 : BitVec 32 := Scalar.muli v3965 c128_i32_1882
  let c31616_i32_1883 : BitVec 32 := 31616#32
  let v3967 : BitVec 32 := Scalar.minsi v3966 c31616_i32_1883
  v3967

def k0_off25 (v3945 : BitVec 32) : Fin 4 → Nat :=
  let c4_i32_1889 : BitVec 32 := 4#32
  let c0_i32_1890 : BitVec 32 := 0#32
  let c0_i32_1891 : BitVec 32 := 0#32
  let c31744_i32_1874 : BitVec 32 := 31744#32
  let c0_i32_1873 : BitVec 32 := 0#32
  let c1024_i32_1872 : BitVec 32 := 1024#32
  let v3946 : BitVec 32 := Scalar.subi v3945 c1024_i32_1872
  let v3947 : BitVec 32 := Scalar.maxsi c0_i32_1873 v3946
  let v3948 : BitVec 32 := Scalar.minsi c31744_i32_1874 v3947
  let c0_i32_1876 : BitVec 32 := 0#32
  let v3950 : BitVec 1 := Scalar.cmpi .sgt v3948 c0_i32_1876
  let v3951 : BitVec 32 := Scalar.extui v3950
  let c0_i32_1877 : BitVec 32 := 0#32
  let v3952 : BitVec 1 := Scalar.cmpi .slt v3948 c0_i32_1877
  let v3953 : BitVec 32 := Scalar.extui v3952
  let v3954 : BitVec 32 := Scalar.subi v3951 v3953
  let c128_i32_1875 : BitVec 32 := 128#32
  let c0_i32_1878 : BitVec 32 := 0#32
  let v3955 : BitVec 1 := Scalar.cmpi .sgt c128_i32_1875 c0_i32_1878
  let v3956 : BitVec 32 := Scalar.extui v3955
  let c0_i32_1879 : BitVec 32 := 0#32
  let v3957 : BitVec 1 := Scalar.cmpi .slt c128_i32_1875 c0_i32_1879
  let v3958 : BitVec 32 := Scalar.extui v3957
  let v3959 : BitVec 32 := Scalar.subi v3956 v3958
  let v3960 : BitVec 1 := Scalar.cmpi .ne v3954 v3959
  let v3961 : BitVec 32 := Scalar.remsi v3948 c128_i32_1875
  let c0_i32_1880 : BitVec 32 := 0#32
  let v3962 : BitVec 1 := Scalar.cmpi .ne v3961 c0_i32_1880
  let v3963 : BitVec 1 := Scalar.andi v3960 v3962
  let v3949 : BitVec 32 := Scalar.divsi v3948 c128_i32_1875
  let c1_i32_1881 : BitVec 32 := 1#32
  let v3964 : BitVec 32 := Scalar.subi v3949 c1_i32_1881
  let v3965 : BitVec 32 := Scalar.select v3963 v3964 v3949
  let c128_i32_1882 : BitVec 32 := 128#32
  let v3966 : BitVec 32 := Scalar.muli v3965 c128_i32_1882
  let c31616_i32_1883 : BitVec 32 := 31616#32
  let v3967 : BitVec 32 := Scalar.minsi v3966 c31616_i32_1883
  let v3968 : BitVec 32 := v3967
  ![4, 0, 0, v3968.toNat]
def k0_off26 (v3945 : BitVec 32) : Fin 4 → Nat :=
  let c4_i32_1897 : BitVec 32 := 4#32
  let c0_i32_1898 : BitVec 32 := 0#32
  let c0_i32_1899 : BitVec 32 := 0#32
  let c31744_i32_1874 : BitVec 32 := 31744#32
  let c0_i32_1873 : BitVec 32 := 0#32
  let c1024_i32_1872 : BitVec 32 := 1024#32
  let v3946 : BitVec 32 := Scalar.subi v3945 c1024_i32_1872
  let v3947 : BitVec 32 := Scalar.maxsi c0_i32_1873 v3946
  let v3948 : BitVec 32 := Scalar.minsi c31744_i32_1874 v3947
  let c0_i32_1876 : BitVec 32 := 0#32
  let v3950 : BitVec 1 := Scalar.cmpi .sgt v3948 c0_i32_1876
  let v3951 : BitVec 32 := Scalar.extui v3950
  let c0_i32_1877 : BitVec 32 := 0#32
  let v3952 : BitVec 1 := Scalar.cmpi .slt v3948 c0_i32_1877
  let v3953 : BitVec 32 := Scalar.extui v3952
  let v3954 : BitVec 32 := Scalar.subi v3951 v3953
  let c128_i32_1875 : BitVec 32 := 128#32
  let c0_i32_1878 : BitVec 32 := 0#32
  let v3955 : BitVec 1 := Scalar.cmpi .sgt c128_i32_1875 c0_i32_1878
  let v3956 : BitVec 32 := Scalar.extui v3955
  let c0_i32_1879 : BitVec 32 := 0#32
  let v3957 : BitVec 1 := Scalar.cmpi .slt c128_i32_1875 c0_i32_1879
  let v3958 : BitVec 32 := Scalar.extui v3957
  let v3959 : BitVec 32 := Scalar.subi v3956 v3958
  let v3960 : BitVec 1 := Scalar.cmpi .ne v3954 v3959
  let v3961 : BitVec 32 := Scalar.remsi v3948 c128_i32_1875
  let c0_i32_1880 : BitVec 32 := 0#32
  let v3962 : BitVec 1 := Scalar.cmpi .ne v3961 c0_i32_1880
  let v3963 : BitVec 1 := Scalar.andi v3960 v3962
  let v3949 : BitVec 32 := Scalar.divsi v3948 c128_i32_1875
  let c1_i32_1881 : BitVec 32 := 1#32
  let v3964 : BitVec 32 := Scalar.subi v3949 c1_i32_1881
  let v3965 : BitVec 32 := Scalar.select v3963 v3964 v3949
  let c128_i32_1882 : BitVec 32 := 128#32
  let v3966 : BitVec 32 := Scalar.muli v3965 c128_i32_1882
  let c31616_i32_1883 : BitVec 32 := 31616#32
  let v3967 : BitVec 32 := Scalar.minsi v3966 c31616_i32_1883
  let v3968 : BitVec 32 := v3967
  ![4, 0, 0, v3968.toNat]

def k0_chk13 (v3945 : BitVec 32) : Prop :=
  (128 ∣ (k0_mult13 v3945).toNat) ∧
  (∀ a, (k0_off25 v3945) a + S1x4x32x1152.size a ≤ S8x4x32x32768.size a) ∧
  (∀ (hinb : ∀ a, (k0_off25 v3945) a + S1x4x32x1152.size a ≤ S8x4x32x32768.size a), (Rect.unit (s := S8x4x32x32768) (k0_off25 v3945) S1x4x32x1152.size hinb).WholeWords (EltTy.packing .i8)) ∧
  (∀ a, (k0_off26 v3945) a + S1x4x4x1152.size a ≤ S8x4x4x32768.size a) ∧
  (∀ (hinb : ∀ a, (k0_off26 v3945) a + S1x4x4x1152.size a ≤ S8x4x4x32768.size a), (Rect.unit (s := S8x4x4x32768) (k0_off26 v3945) S1x4x4x1152.size hinb).WholeWords (EltTy.packing .fp8e4m3))
theorem k0_mult13_dvd : ∀ (v3945 : BitVec 32) (k0_hw13 : k0_chk13 v3945), 128 ∣ (k0_mult13 v3945).toNat := fun v3945 k0_hw13 => k0_hw13.1
theorem k0_off25_inb : ∀ (v3945 : BitVec 32) (k0_hw13 : k0_chk13 v3945), ∀ a, (k0_off25 v3945) a + S1x4x32x1152.size a ≤ S8x4x32x32768.size a := fun v3945 k0_hw13 => k0_hw13.2.1
theorem k0_off25_wordsi8 : ∀ (v3945 : BitVec 32) (k0_hw13 : k0_chk13 v3945), (Rect.unit (s := S8x4x32x32768) (k0_off25 v3945) S1x4x32x1152.size (k0_off25_inb v3945 k0_hw13)).WholeWords (EltTy.packing .i8) := fun v3945 k0_hw13 => k0_hw13.2.2.1 (k0_off25_inb v3945 k0_hw13)
theorem k0_off26_inb : ∀ (v3945 : BitVec 32) (k0_hw13 : k0_chk13 v3945), ∀ a, (k0_off26 v3945) a + S1x4x4x1152.size a ≤ S8x4x4x32768.size a := fun v3945 k0_hw13 => k0_hw13.2.2.2.1
theorem k0_off26_wordsfp8e4m3 : ∀ (v3945 : BitVec 32) (k0_hw13 : k0_chk13 v3945), (Rect.unit (s := S8x4x4x32768) (k0_off26 v3945) S1x4x4x1152.size (k0_off26_inb v3945 k0_hw13)).WholeWords (EltTy.packing .fp8e4m3) := fun v3945 k0_hw13 => k0_hw13.2.2.2.2 (k0_off26_inb v3945 k0_hw13)

def k0_mult14 (v4761 : BitVec 32) : BitVec 32 :=
  let c31744_i32_2230 : BitVec 32 := 31744#32
  let c0_i32_2229 : BitVec 32 := 0#32
  let c1024_i32_2228 : BitVec 32 := 1024#32
  let v4762 : BitVec 32 := Scalar.subi v4761 c1024_i32_2228
  let v4763 : BitVec 32 := Scalar.maxsi c0_i32_2229 v4762
  let v4764 : BitVec 32 := Scalar.minsi c31744_i32_2230 v4763
  let c0_i32_2232 : BitVec 32 := 0#32
  let v4766 : BitVec 1 := Scalar.cmpi .sgt v4764 c0_i32_2232
  let v4767 : BitVec 32 := Scalar.extui v4766
  let c0_i32_2233 : BitVec 32 := 0#32
  let v4768 : BitVec 1 := Scalar.cmpi .slt v4764 c0_i32_2233
  let v4769 : BitVec 32 := Scalar.extui v4768
  let v4770 : BitVec 32 := Scalar.subi v4767 v4769
  let c128_i32_2231 : BitVec 32 := 128#32
  let c0_i32_2234 : BitVec 32 := 0#32
  let v4771 : BitVec 1 := Scalar.cmpi .sgt c128_i32_2231 c0_i32_2234
  let v4772 : BitVec 32 := Scalar.extui v4771
  let c0_i32_2235 : BitVec 32 := 0#32
  let v4773 : BitVec 1 := Scalar.cmpi .slt c128_i32_2231 c0_i32_2235
  let v4774 : BitVec 32 := Scalar.extui v4773
  let v4775 : BitVec 32 := Scalar.subi v4772 v4774
  let v4776 : BitVec 1 := Scalar.cmpi .ne v4770 v4775
  let v4777 : BitVec 32 := Scalar.remsi v4764 c128_i32_2231
  let c0_i32_2236 : BitVec 32 := 0#32
  let v4778 : BitVec 1 := Scalar.cmpi .ne v4777 c0_i32_2236
  let v4779 : BitVec 1 := Scalar.andi v4776 v4778
  let v4765 : BitVec 32 := Scalar.divsi v4764 c128_i32_2231
  let c1_i32_2237 : BitVec 32 := 1#32
  let v4780 : BitVec 32 := Scalar.subi v4765 c1_i32_2237
  let v4781 : BitVec 32 := Scalar.select v4779 v4780 v4765
  let c128_i32_2238 : BitVec 32 := 128#32
  let v4782 : BitVec 32 := Scalar.muli v4781 c128_i32_2238
  let c31616_i32_2239 : BitVec 32 := 31616#32
  let v4783 : BitVec 32 := Scalar.minsi v4782 c31616_i32_2239
  v4783

def k0_off27 (v4761 : BitVec 32) : Fin 4 → Nat :=
  let c5_i32_2245 : BitVec 32 := 5#32
  let c0_i32_2246 : BitVec 32 := 0#32
  let c0_i32_2247 : BitVec 32 := 0#32
  let c31744_i32_2230 : BitVec 32 := 31744#32
  let c0_i32_2229 : BitVec 32 := 0#32
  let c1024_i32_2228 : BitVec 32 := 1024#32
  let v4762 : BitVec 32 := Scalar.subi v4761 c1024_i32_2228
  let v4763 : BitVec 32 := Scalar.maxsi c0_i32_2229 v4762
  let v4764 : BitVec 32 := Scalar.minsi c31744_i32_2230 v4763
  let c0_i32_2232 : BitVec 32 := 0#32
  let v4766 : BitVec 1 := Scalar.cmpi .sgt v4764 c0_i32_2232
  let v4767 : BitVec 32 := Scalar.extui v4766
  let c0_i32_2233 : BitVec 32 := 0#32
  let v4768 : BitVec 1 := Scalar.cmpi .slt v4764 c0_i32_2233
  let v4769 : BitVec 32 := Scalar.extui v4768
  let v4770 : BitVec 32 := Scalar.subi v4767 v4769
  let c128_i32_2231 : BitVec 32 := 128#32
  let c0_i32_2234 : BitVec 32 := 0#32
  let v4771 : BitVec 1 := Scalar.cmpi .sgt c128_i32_2231 c0_i32_2234
  let v4772 : BitVec 32 := Scalar.extui v4771
  let c0_i32_2235 : BitVec 32 := 0#32
  let v4773 : BitVec 1 := Scalar.cmpi .slt c128_i32_2231 c0_i32_2235
  let v4774 : BitVec 32 := Scalar.extui v4773
  let v4775 : BitVec 32 := Scalar.subi v4772 v4774
  let v4776 : BitVec 1 := Scalar.cmpi .ne v4770 v4775
  let v4777 : BitVec 32 := Scalar.remsi v4764 c128_i32_2231
  let c0_i32_2236 : BitVec 32 := 0#32
  let v4778 : BitVec 1 := Scalar.cmpi .ne v4777 c0_i32_2236
  let v4779 : BitVec 1 := Scalar.andi v4776 v4778
  let v4765 : BitVec 32 := Scalar.divsi v4764 c128_i32_2231
  let c1_i32_2237 : BitVec 32 := 1#32
  let v4780 : BitVec 32 := Scalar.subi v4765 c1_i32_2237
  let v4781 : BitVec 32 := Scalar.select v4779 v4780 v4765
  let c128_i32_2238 : BitVec 32 := 128#32
  let v4782 : BitVec 32 := Scalar.muli v4781 c128_i32_2238
  let c31616_i32_2239 : BitVec 32 := 31616#32
  let v4783 : BitVec 32 := Scalar.minsi v4782 c31616_i32_2239
  let v4784 : BitVec 32 := v4783
  ![5, 0, 0, v4784.toNat]
def k0_off28 (v4761 : BitVec 32) : Fin 4 → Nat :=
  let c5_i32_2253 : BitVec 32 := 5#32
  let c0_i32_2254 : BitVec 32 := 0#32
  let c0_i32_2255 : BitVec 32 := 0#32
  let c31744_i32_2230 : BitVec 32 := 31744#32
  let c0_i32_2229 : BitVec 32 := 0#32
  let c1024_i32_2228 : BitVec 32 := 1024#32
  let v4762 : BitVec 32 := Scalar.subi v4761 c1024_i32_2228
  let v4763 : BitVec 32 := Scalar.maxsi c0_i32_2229 v4762
  let v4764 : BitVec 32 := Scalar.minsi c31744_i32_2230 v4763
  let c0_i32_2232 : BitVec 32 := 0#32
  let v4766 : BitVec 1 := Scalar.cmpi .sgt v4764 c0_i32_2232
  let v4767 : BitVec 32 := Scalar.extui v4766
  let c0_i32_2233 : BitVec 32 := 0#32
  let v4768 : BitVec 1 := Scalar.cmpi .slt v4764 c0_i32_2233
  let v4769 : BitVec 32 := Scalar.extui v4768
  let v4770 : BitVec 32 := Scalar.subi v4767 v4769
  let c128_i32_2231 : BitVec 32 := 128#32
  let c0_i32_2234 : BitVec 32 := 0#32
  let v4771 : BitVec 1 := Scalar.cmpi .sgt c128_i32_2231 c0_i32_2234
  let v4772 : BitVec 32 := Scalar.extui v4771
  let c0_i32_2235 : BitVec 32 := 0#32
  let v4773 : BitVec 1 := Scalar.cmpi .slt c128_i32_2231 c0_i32_2235
  let v4774 : BitVec 32 := Scalar.extui v4773
  let v4775 : BitVec 32 := Scalar.subi v4772 v4774
  let v4776 : BitVec 1 := Scalar.cmpi .ne v4770 v4775
  let v4777 : BitVec 32 := Scalar.remsi v4764 c128_i32_2231
  let c0_i32_2236 : BitVec 32 := 0#32
  let v4778 : BitVec 1 := Scalar.cmpi .ne v4777 c0_i32_2236
  let v4779 : BitVec 1 := Scalar.andi v4776 v4778
  let v4765 : BitVec 32 := Scalar.divsi v4764 c128_i32_2231
  let c1_i32_2237 : BitVec 32 := 1#32
  let v4780 : BitVec 32 := Scalar.subi v4765 c1_i32_2237
  let v4781 : BitVec 32 := Scalar.select v4779 v4780 v4765
  let c128_i32_2238 : BitVec 32 := 128#32
  let v4782 : BitVec 32 := Scalar.muli v4781 c128_i32_2238
  let c31616_i32_2239 : BitVec 32 := 31616#32
  let v4783 : BitVec 32 := Scalar.minsi v4782 c31616_i32_2239
  let v4784 : BitVec 32 := v4783
  ![5, 0, 0, v4784.toNat]

def k0_chk14 (v4761 : BitVec 32) : Prop :=
  (128 ∣ (k0_mult14 v4761).toNat) ∧
  (∀ a, (k0_off27 v4761) a + S1x4x32x1152.size a ≤ S8x4x32x32768.size a) ∧
  (∀ (hinb : ∀ a, (k0_off27 v4761) a + S1x4x32x1152.size a ≤ S8x4x32x32768.size a), (Rect.unit (s := S8x4x32x32768) (k0_off27 v4761) S1x4x32x1152.size hinb).WholeWords (EltTy.packing .i8)) ∧
  (∀ a, (k0_off28 v4761) a + S1x4x4x1152.size a ≤ S8x4x4x32768.size a) ∧
  (∀ (hinb : ∀ a, (k0_off28 v4761) a + S1x4x4x1152.size a ≤ S8x4x4x32768.size a), (Rect.unit (s := S8x4x4x32768) (k0_off28 v4761) S1x4x4x1152.size hinb).WholeWords (EltTy.packing .fp8e4m3))
theorem k0_mult14_dvd : ∀ (v4761 : BitVec 32) (k0_hw14 : k0_chk14 v4761), 128 ∣ (k0_mult14 v4761).toNat := fun v4761 k0_hw14 => k0_hw14.1
theorem k0_off27_inb : ∀ (v4761 : BitVec 32) (k0_hw14 : k0_chk14 v4761), ∀ a, (k0_off27 v4761) a + S1x4x32x1152.size a ≤ S8x4x32x32768.size a := fun v4761 k0_hw14 => k0_hw14.2.1
theorem k0_off27_wordsi8 : ∀ (v4761 : BitVec 32) (k0_hw14 : k0_chk14 v4761), (Rect.unit (s := S8x4x32x32768) (k0_off27 v4761) S1x4x32x1152.size (k0_off27_inb v4761 k0_hw14)).WholeWords (EltTy.packing .i8) := fun v4761 k0_hw14 => k0_hw14.2.2.1 (k0_off27_inb v4761 k0_hw14)
theorem k0_off28_inb : ∀ (v4761 : BitVec 32) (k0_hw14 : k0_chk14 v4761), ∀ a, (k0_off28 v4761) a + S1x4x4x1152.size a ≤ S8x4x4x32768.size a := fun v4761 k0_hw14 => k0_hw14.2.2.2.1
theorem k0_off28_wordsfp8e4m3 : ∀ (v4761 : BitVec 32) (k0_hw14 : k0_chk14 v4761), (Rect.unit (s := S8x4x4x32768) (k0_off28 v4761) S1x4x4x1152.size (k0_off28_inb v4761 k0_hw14)).WholeWords (EltTy.packing .fp8e4m3) := fun v4761 k0_hw14 => k0_hw14.2.2.2.2 (k0_off28_inb v4761 k0_hw14)

def k0_mult15 (v5577 : BitVec 32) : BitVec 32 :=
  let c31744_i32_2586 : BitVec 32 := 31744#32
  let c0_i32_2585 : BitVec 32 := 0#32
  let c1024_i32_2584 : BitVec 32 := 1024#32
  let v5578 : BitVec 32 := Scalar.subi v5577 c1024_i32_2584
  let v5579 : BitVec 32 := Scalar.maxsi c0_i32_2585 v5578
  let v5580 : BitVec 32 := Scalar.minsi c31744_i32_2586 v5579
  let c0_i32_2588 : BitVec 32 := 0#32
  let v5582 : BitVec 1 := Scalar.cmpi .sgt v5580 c0_i32_2588
  let v5583 : BitVec 32 := Scalar.extui v5582
  let c0_i32_2589 : BitVec 32 := 0#32
  let v5584 : BitVec 1 := Scalar.cmpi .slt v5580 c0_i32_2589
  let v5585 : BitVec 32 := Scalar.extui v5584
  let v5586 : BitVec 32 := Scalar.subi v5583 v5585
  let c128_i32_2587 : BitVec 32 := 128#32
  let c0_i32_2590 : BitVec 32 := 0#32
  let v5587 : BitVec 1 := Scalar.cmpi .sgt c128_i32_2587 c0_i32_2590
  let v5588 : BitVec 32 := Scalar.extui v5587
  let c0_i32_2591 : BitVec 32 := 0#32
  let v5589 : BitVec 1 := Scalar.cmpi .slt c128_i32_2587 c0_i32_2591
  let v5590 : BitVec 32 := Scalar.extui v5589
  let v5591 : BitVec 32 := Scalar.subi v5588 v5590
  let v5592 : BitVec 1 := Scalar.cmpi .ne v5586 v5591
  let v5593 : BitVec 32 := Scalar.remsi v5580 c128_i32_2587
  let c0_i32_2592 : BitVec 32 := 0#32
  let v5594 : BitVec 1 := Scalar.cmpi .ne v5593 c0_i32_2592
  let v5595 : BitVec 1 := Scalar.andi v5592 v5594
  let v5581 : BitVec 32 := Scalar.divsi v5580 c128_i32_2587
  let c1_i32_2593 : BitVec 32 := 1#32
  let v5596 : BitVec 32 := Scalar.subi v5581 c1_i32_2593
  let v5597 : BitVec 32 := Scalar.select v5595 v5596 v5581
  let c128_i32_2594 : BitVec 32 := 128#32
  let v5598 : BitVec 32 := Scalar.muli v5597 c128_i32_2594
  let c31616_i32_2595 : BitVec 32 := 31616#32
  let v5599 : BitVec 32 := Scalar.minsi v5598 c31616_i32_2595
  v5599

def k0_off29 (v5577 : BitVec 32) : Fin 4 → Nat :=
  let c6_i32_2601 : BitVec 32 := 6#32
  let c0_i32_2602 : BitVec 32 := 0#32
  let c0_i32_2603 : BitVec 32 := 0#32
  let c31744_i32_2586 : BitVec 32 := 31744#32
  let c0_i32_2585 : BitVec 32 := 0#32
  let c1024_i32_2584 : BitVec 32 := 1024#32
  let v5578 : BitVec 32 := Scalar.subi v5577 c1024_i32_2584
  let v5579 : BitVec 32 := Scalar.maxsi c0_i32_2585 v5578
  let v5580 : BitVec 32 := Scalar.minsi c31744_i32_2586 v5579
  let c0_i32_2588 : BitVec 32 := 0#32
  let v5582 : BitVec 1 := Scalar.cmpi .sgt v5580 c0_i32_2588
  let v5583 : BitVec 32 := Scalar.extui v5582
  let c0_i32_2589 : BitVec 32 := 0#32
  let v5584 : BitVec 1 := Scalar.cmpi .slt v5580 c0_i32_2589
  let v5585 : BitVec 32 := Scalar.extui v5584
  let v5586 : BitVec 32 := Scalar.subi v5583 v5585
  let c128_i32_2587 : BitVec 32 := 128#32
  let c0_i32_2590 : BitVec 32 := 0#32
  let v5587 : BitVec 1 := Scalar.cmpi .sgt c128_i32_2587 c0_i32_2590
  let v5588 : BitVec 32 := Scalar.extui v5587
  let c0_i32_2591 : BitVec 32 := 0#32
  let v5589 : BitVec 1 := Scalar.cmpi .slt c128_i32_2587 c0_i32_2591
  let v5590 : BitVec 32 := Scalar.extui v5589
  let v5591 : BitVec 32 := Scalar.subi v5588 v5590
  let v5592 : BitVec 1 := Scalar.cmpi .ne v5586 v5591
  let v5593 : BitVec 32 := Scalar.remsi v5580 c128_i32_2587
  let c0_i32_2592 : BitVec 32 := 0#32
  let v5594 : BitVec 1 := Scalar.cmpi .ne v5593 c0_i32_2592
  let v5595 : BitVec 1 := Scalar.andi v5592 v5594
  let v5581 : BitVec 32 := Scalar.divsi v5580 c128_i32_2587
  let c1_i32_2593 : BitVec 32 := 1#32
  let v5596 : BitVec 32 := Scalar.subi v5581 c1_i32_2593
  let v5597 : BitVec 32 := Scalar.select v5595 v5596 v5581
  let c128_i32_2594 : BitVec 32 := 128#32
  let v5598 : BitVec 32 := Scalar.muli v5597 c128_i32_2594
  let c31616_i32_2595 : BitVec 32 := 31616#32
  let v5599 : BitVec 32 := Scalar.minsi v5598 c31616_i32_2595
  let v5600 : BitVec 32 := v5599
  ![6, 0, 0, v5600.toNat]
def k0_off30 (v5577 : BitVec 32) : Fin 4 → Nat :=
  let c6_i32_2609 : BitVec 32 := 6#32
  let c0_i32_2610 : BitVec 32 := 0#32
  let c0_i32_2611 : BitVec 32 := 0#32
  let c31744_i32_2586 : BitVec 32 := 31744#32
  let c0_i32_2585 : BitVec 32 := 0#32
  let c1024_i32_2584 : BitVec 32 := 1024#32
  let v5578 : BitVec 32 := Scalar.subi v5577 c1024_i32_2584
  let v5579 : BitVec 32 := Scalar.maxsi c0_i32_2585 v5578
  let v5580 : BitVec 32 := Scalar.minsi c31744_i32_2586 v5579
  let c0_i32_2588 : BitVec 32 := 0#32
  let v5582 : BitVec 1 := Scalar.cmpi .sgt v5580 c0_i32_2588
  let v5583 : BitVec 32 := Scalar.extui v5582
  let c0_i32_2589 : BitVec 32 := 0#32
  let v5584 : BitVec 1 := Scalar.cmpi .slt v5580 c0_i32_2589
  let v5585 : BitVec 32 := Scalar.extui v5584
  let v5586 : BitVec 32 := Scalar.subi v5583 v5585
  let c128_i32_2587 : BitVec 32 := 128#32
  let c0_i32_2590 : BitVec 32 := 0#32
  let v5587 : BitVec 1 := Scalar.cmpi .sgt c128_i32_2587 c0_i32_2590
  let v5588 : BitVec 32 := Scalar.extui v5587
  let c0_i32_2591 : BitVec 32 := 0#32
  let v5589 : BitVec 1 := Scalar.cmpi .slt c128_i32_2587 c0_i32_2591
  let v5590 : BitVec 32 := Scalar.extui v5589
  let v5591 : BitVec 32 := Scalar.subi v5588 v5590
  let v5592 : BitVec 1 := Scalar.cmpi .ne v5586 v5591
  let v5593 : BitVec 32 := Scalar.remsi v5580 c128_i32_2587
  let c0_i32_2592 : BitVec 32 := 0#32
  let v5594 : BitVec 1 := Scalar.cmpi .ne v5593 c0_i32_2592
  let v5595 : BitVec 1 := Scalar.andi v5592 v5594
  let v5581 : BitVec 32 := Scalar.divsi v5580 c128_i32_2587
  let c1_i32_2593 : BitVec 32 := 1#32
  let v5596 : BitVec 32 := Scalar.subi v5581 c1_i32_2593
  let v5597 : BitVec 32 := Scalar.select v5595 v5596 v5581
  let c128_i32_2594 : BitVec 32 := 128#32
  let v5598 : BitVec 32 := Scalar.muli v5597 c128_i32_2594
  let c31616_i32_2595 : BitVec 32 := 31616#32
  let v5599 : BitVec 32 := Scalar.minsi v5598 c31616_i32_2595
  let v5600 : BitVec 32 := v5599
  ![6, 0, 0, v5600.toNat]

def k0_chk15 (v5577 : BitVec 32) : Prop :=
  (128 ∣ (k0_mult15 v5577).toNat) ∧
  (∀ a, (k0_off29 v5577) a + S1x4x32x1152.size a ≤ S8x4x32x32768.size a) ∧
  (∀ (hinb : ∀ a, (k0_off29 v5577) a + S1x4x32x1152.size a ≤ S8x4x32x32768.size a), (Rect.unit (s := S8x4x32x32768) (k0_off29 v5577) S1x4x32x1152.size hinb).WholeWords (EltTy.packing .i8)) ∧
  (∀ a, (k0_off30 v5577) a + S1x4x4x1152.size a ≤ S8x4x4x32768.size a) ∧
  (∀ (hinb : ∀ a, (k0_off30 v5577) a + S1x4x4x1152.size a ≤ S8x4x4x32768.size a), (Rect.unit (s := S8x4x4x32768) (k0_off30 v5577) S1x4x4x1152.size hinb).WholeWords (EltTy.packing .fp8e4m3))
theorem k0_mult15_dvd : ∀ (v5577 : BitVec 32) (k0_hw15 : k0_chk15 v5577), 128 ∣ (k0_mult15 v5577).toNat := fun v5577 k0_hw15 => k0_hw15.1
theorem k0_off29_inb : ∀ (v5577 : BitVec 32) (k0_hw15 : k0_chk15 v5577), ∀ a, (k0_off29 v5577) a + S1x4x32x1152.size a ≤ S8x4x32x32768.size a := fun v5577 k0_hw15 => k0_hw15.2.1
theorem k0_off29_wordsi8 : ∀ (v5577 : BitVec 32) (k0_hw15 : k0_chk15 v5577), (Rect.unit (s := S8x4x32x32768) (k0_off29 v5577) S1x4x32x1152.size (k0_off29_inb v5577 k0_hw15)).WholeWords (EltTy.packing .i8) := fun v5577 k0_hw15 => k0_hw15.2.2.1 (k0_off29_inb v5577 k0_hw15)
theorem k0_off30_inb : ∀ (v5577 : BitVec 32) (k0_hw15 : k0_chk15 v5577), ∀ a, (k0_off30 v5577) a + S1x4x4x1152.size a ≤ S8x4x4x32768.size a := fun v5577 k0_hw15 => k0_hw15.2.2.2.1
theorem k0_off30_wordsfp8e4m3 : ∀ (v5577 : BitVec 32) (k0_hw15 : k0_chk15 v5577), (Rect.unit (s := S8x4x4x32768) (k0_off30 v5577) S1x4x4x1152.size (k0_off30_inb v5577 k0_hw15)).WholeWords (EltTy.packing .fp8e4m3) := fun v5577 k0_hw15 => k0_hw15.2.2.2.2 (k0_off30_inb v5577 k0_hw15)

def k0_mult16 (v6393 : BitVec 32) : BitVec 32 :=
  let c31744_i32_2942 : BitVec 32 := 31744#32
  let c0_i32_2941 : BitVec 32 := 0#32
  let c1024_i32_2940 : BitVec 32 := 1024#32
  let v6394 : BitVec 32 := Scalar.subi v6393 c1024_i32_2940
  let v6395 : BitVec 32 := Scalar.maxsi c0_i32_2941 v6394
  let v6396 : BitVec 32 := Scalar.minsi c31744_i32_2942 v6395
  let c0_i32_2944 : BitVec 32 := 0#32
  let v6398 : BitVec 1 := Scalar.cmpi .sgt v6396 c0_i32_2944
  let v6399 : BitVec 32 := Scalar.extui v6398
  let c0_i32_2945 : BitVec 32 := 0#32
  let v6400 : BitVec 1 := Scalar.cmpi .slt v6396 c0_i32_2945
  let v6401 : BitVec 32 := Scalar.extui v6400
  let v6402 : BitVec 32 := Scalar.subi v6399 v6401
  let c128_i32_2943 : BitVec 32 := 128#32
  let c0_i32_2946 : BitVec 32 := 0#32
  let v6403 : BitVec 1 := Scalar.cmpi .sgt c128_i32_2943 c0_i32_2946
  let v6404 : BitVec 32 := Scalar.extui v6403
  let c0_i32_2947 : BitVec 32 := 0#32
  let v6405 : BitVec 1 := Scalar.cmpi .slt c128_i32_2943 c0_i32_2947
  let v6406 : BitVec 32 := Scalar.extui v6405
  let v6407 : BitVec 32 := Scalar.subi v6404 v6406
  let v6408 : BitVec 1 := Scalar.cmpi .ne v6402 v6407
  let v6409 : BitVec 32 := Scalar.remsi v6396 c128_i32_2943
  let c0_i32_2948 : BitVec 32 := 0#32
  let v6410 : BitVec 1 := Scalar.cmpi .ne v6409 c0_i32_2948
  let v6411 : BitVec 1 := Scalar.andi v6408 v6410
  let v6397 : BitVec 32 := Scalar.divsi v6396 c128_i32_2943
  let c1_i32_2949 : BitVec 32 := 1#32
  let v6412 : BitVec 32 := Scalar.subi v6397 c1_i32_2949
  let v6413 : BitVec 32 := Scalar.select v6411 v6412 v6397
  let c128_i32_2950 : BitVec 32 := 128#32
  let v6414 : BitVec 32 := Scalar.muli v6413 c128_i32_2950
  let c31616_i32_2951 : BitVec 32 := 31616#32
  let v6415 : BitVec 32 := Scalar.minsi v6414 c31616_i32_2951
  v6415

def k0_off31 (v6393 : BitVec 32) : Fin 4 → Nat :=
  let c7_i32_2957 : BitVec 32 := 7#32
  let c0_i32_2958 : BitVec 32 := 0#32
  let c0_i32_2959 : BitVec 32 := 0#32
  let c31744_i32_2942 : BitVec 32 := 31744#32
  let c0_i32_2941 : BitVec 32 := 0#32
  let c1024_i32_2940 : BitVec 32 := 1024#32
  let v6394 : BitVec 32 := Scalar.subi v6393 c1024_i32_2940
  let v6395 : BitVec 32 := Scalar.maxsi c0_i32_2941 v6394
  let v6396 : BitVec 32 := Scalar.minsi c31744_i32_2942 v6395
  let c0_i32_2944 : BitVec 32 := 0#32
  let v6398 : BitVec 1 := Scalar.cmpi .sgt v6396 c0_i32_2944
  let v6399 : BitVec 32 := Scalar.extui v6398
  let c0_i32_2945 : BitVec 32 := 0#32
  let v6400 : BitVec 1 := Scalar.cmpi .slt v6396 c0_i32_2945
  let v6401 : BitVec 32 := Scalar.extui v6400
  let v6402 : BitVec 32 := Scalar.subi v6399 v6401
  let c128_i32_2943 : BitVec 32 := 128#32
  let c0_i32_2946 : BitVec 32 := 0#32
  let v6403 : BitVec 1 := Scalar.cmpi .sgt c128_i32_2943 c0_i32_2946
  let v6404 : BitVec 32 := Scalar.extui v6403
  let c0_i32_2947 : BitVec 32 := 0#32
  let v6405 : BitVec 1 := Scalar.cmpi .slt c128_i32_2943 c0_i32_2947
  let v6406 : BitVec 32 := Scalar.extui v6405
  let v6407 : BitVec 32 := Scalar.subi v6404 v6406
  let v6408 : BitVec 1 := Scalar.cmpi .ne v6402 v6407
  let v6409 : BitVec 32 := Scalar.remsi v6396 c128_i32_2943
  let c0_i32_2948 : BitVec 32 := 0#32
  let v6410 : BitVec 1 := Scalar.cmpi .ne v6409 c0_i32_2948
  let v6411 : BitVec 1 := Scalar.andi v6408 v6410
  let v6397 : BitVec 32 := Scalar.divsi v6396 c128_i32_2943
  let c1_i32_2949 : BitVec 32 := 1#32
  let v6412 : BitVec 32 := Scalar.subi v6397 c1_i32_2949
  let v6413 : BitVec 32 := Scalar.select v6411 v6412 v6397
  let c128_i32_2950 : BitVec 32 := 128#32
  let v6414 : BitVec 32 := Scalar.muli v6413 c128_i32_2950
  let c31616_i32_2951 : BitVec 32 := 31616#32
  let v6415 : BitVec 32 := Scalar.minsi v6414 c31616_i32_2951
  let v6416 : BitVec 32 := v6415
  ![7, 0, 0, v6416.toNat]
def k0_off32 (v6393 : BitVec 32) : Fin 4 → Nat :=
  let c7_i32_2965 : BitVec 32 := 7#32
  let c0_i32_2966 : BitVec 32 := 0#32
  let c0_i32_2967 : BitVec 32 := 0#32
  let c31744_i32_2942 : BitVec 32 := 31744#32
  let c0_i32_2941 : BitVec 32 := 0#32
  let c1024_i32_2940 : BitVec 32 := 1024#32
  let v6394 : BitVec 32 := Scalar.subi v6393 c1024_i32_2940
  let v6395 : BitVec 32 := Scalar.maxsi c0_i32_2941 v6394
  let v6396 : BitVec 32 := Scalar.minsi c31744_i32_2942 v6395
  let c0_i32_2944 : BitVec 32 := 0#32
  let v6398 : BitVec 1 := Scalar.cmpi .sgt v6396 c0_i32_2944
  let v6399 : BitVec 32 := Scalar.extui v6398
  let c0_i32_2945 : BitVec 32 := 0#32
  let v6400 : BitVec 1 := Scalar.cmpi .slt v6396 c0_i32_2945
  let v6401 : BitVec 32 := Scalar.extui v6400
  let v6402 : BitVec 32 := Scalar.subi v6399 v6401
  let c128_i32_2943 : BitVec 32 := 128#32
  let c0_i32_2946 : BitVec 32 := 0#32
  let v6403 : BitVec 1 := Scalar.cmpi .sgt c128_i32_2943 c0_i32_2946
  let v6404 : BitVec 32 := Scalar.extui v6403
  let c0_i32_2947 : BitVec 32 := 0#32
  let v6405 : BitVec 1 := Scalar.cmpi .slt c128_i32_2943 c0_i32_2947
  let v6406 : BitVec 32 := Scalar.extui v6405
  let v6407 : BitVec 32 := Scalar.subi v6404 v6406
  let v6408 : BitVec 1 := Scalar.cmpi .ne v6402 v6407
  let v6409 : BitVec 32 := Scalar.remsi v6396 c128_i32_2943
  let c0_i32_2948 : BitVec 32 := 0#32
  let v6410 : BitVec 1 := Scalar.cmpi .ne v6409 c0_i32_2948
  let v6411 : BitVec 1 := Scalar.andi v6408 v6410
  let v6397 : BitVec 32 := Scalar.divsi v6396 c128_i32_2943
  let c1_i32_2949 : BitVec 32 := 1#32
  let v6412 : BitVec 32 := Scalar.subi v6397 c1_i32_2949
  let v6413 : BitVec 32 := Scalar.select v6411 v6412 v6397
  let c128_i32_2950 : BitVec 32 := 128#32
  let v6414 : BitVec 32 := Scalar.muli v6413 c128_i32_2950
  let c31616_i32_2951 : BitVec 32 := 31616#32
  let v6415 : BitVec 32 := Scalar.minsi v6414 c31616_i32_2951
  let v6416 : BitVec 32 := v6415
  ![7, 0, 0, v6416.toNat]

def k0_chk16 (v6393 : BitVec 32) : Prop :=
  (128 ∣ (k0_mult16 v6393).toNat) ∧
  (∀ a, (k0_off31 v6393) a + S1x4x32x1152.size a ≤ S8x4x32x32768.size a) ∧
  (∀ (hinb : ∀ a, (k0_off31 v6393) a + S1x4x32x1152.size a ≤ S8x4x32x32768.size a), (Rect.unit (s := S8x4x32x32768) (k0_off31 v6393) S1x4x32x1152.size hinb).WholeWords (EltTy.packing .i8)) ∧
  (∀ a, (k0_off32 v6393) a + S1x4x4x1152.size a ≤ S8x4x4x32768.size a) ∧
  (∀ (hinb : ∀ a, (k0_off32 v6393) a + S1x4x4x1152.size a ≤ S8x4x4x32768.size a), (Rect.unit (s := S8x4x4x32768) (k0_off32 v6393) S1x4x4x1152.size hinb).WholeWords (EltTy.packing .fp8e4m3))
theorem k0_mult16_dvd : ∀ (v6393 : BitVec 32) (k0_hw16 : k0_chk16 v6393), 128 ∣ (k0_mult16 v6393).toNat := fun v6393 k0_hw16 => k0_hw16.1
theorem k0_off31_inb : ∀ (v6393 : BitVec 32) (k0_hw16 : k0_chk16 v6393), ∀ a, (k0_off31 v6393) a + S1x4x32x1152.size a ≤ S8x4x32x32768.size a := fun v6393 k0_hw16 => k0_hw16.2.1
theorem k0_off31_wordsi8 : ∀ (v6393 : BitVec 32) (k0_hw16 : k0_chk16 v6393), (Rect.unit (s := S8x4x32x32768) (k0_off31 v6393) S1x4x32x1152.size (k0_off31_inb v6393 k0_hw16)).WholeWords (EltTy.packing .i8) := fun v6393 k0_hw16 => k0_hw16.2.2.1 (k0_off31_inb v6393 k0_hw16)
theorem k0_off32_inb : ∀ (v6393 : BitVec 32) (k0_hw16 : k0_chk16 v6393), ∀ a, (k0_off32 v6393) a + S1x4x4x1152.size a ≤ S8x4x4x32768.size a := fun v6393 k0_hw16 => k0_hw16.2.2.2.1
theorem k0_off32_wordsfp8e4m3 : ∀ (v6393 : BitVec 32) (k0_hw16 : k0_chk16 v6393), (Rect.unit (s := S8x4x4x32768) (k0_off32 v6393) S1x4x4x1152.size (k0_off32_inb v6393 k0_hw16)).WholeWords (EltTy.packing .fp8e4m3) := fun v6393 k0_hw16 => k0_hw16.2.2.2.2 (k0_off32_inb v6393 k0_hw16)

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4x4x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4x4x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S8x4x32x64 : Shape := ⟨4, ![8, 4, 32, 64]⟩
abbrev S8x4x4x64 : Shape := ⟨4, ![8, 4, 4, 64]⟩
abbrev S8x32768x4x32 : Shape := ⟨4, ![8, 32768, 4, 32]⟩
abbrev S8x32768x4x4 : Shape := ⟨4, ![8, 32768, 4, 4]⟩
abbrev S_ : Shape := ⟨0, ![]⟩
abbrev S8 : Shape := ⟨1, ![8]⟩
abbrev S8x1 : Shape := ⟨2, ![8, 1]⟩
abbrev S8x2 : Shape := ⟨2, ![8, 2]⟩
abbrev S8x1024x4x32 : Shape := ⟨4, ![8, 1024, 4, 32]⟩
abbrev S8x1024x4x4 : Shape := ⟨4, ![8, 1024, 4, 4]⟩
abbrev S8x4x4x8x64 : Shape := ⟨5, ![8, 4, 4, 8, 64]⟩
abbrev S8x4x4x8x32 : Shape := ⟨5, ![8, 4, 4, 8, 32]⟩
abbrev S8x4x4x32 : Shape := ⟨4, ![8, 4, 4, 32]⟩
abbrev S1024 : Shape := ⟨1, ![1024]⟩
abbrev S1x1024 : Shape := ⟨2, ![1, 1024]⟩
abbrev S8x1024 : Shape := ⟨2, ![8, 1024]⟩
abbrev S4 : Shape := ⟨1, ![4]⟩
abbrev S1x4 : Shape := ⟨2, ![1, 4]⟩
abbrev S8x4 : Shape := ⟨2, ![8, 4]⟩
abbrev S8x1x1024 : Shape := ⟨3, ![8, 1, 1024]⟩
abbrev S8x1x1 : Shape := ⟨3, ![8, 1, 1]⟩
abbrev S8x4x1 : Shape := ⟨3, ![8, 4, 1]⟩
abbrev S8x4x1024 : Shape := ⟨3, ![8, 4, 1024]⟩
abbrev S4x1 : Shape := ⟨2, ![4, 1]⟩
abbrev S4x4 : Shape := ⟨2, ![4, 4]⟩
abbrev S8x4x4x4x8 : Shape := ⟨5, ![8, 4, 4, 4, 8]⟩
abbrev S8x4x8x4x4 : Shape := ⟨5, ![8, 4, 8, 4, 4]⟩
abbrev S8x1024x4x4x8 : Shape := ⟨5, ![8, 1024, 4, 4, 8]⟩
abbrev S8x1024x4x64 : Shape := ⟨4, ![8, 1024, 4, 64]⟩
abbrev S8x4x1024x4x8 : Shape := ⟨5, ![8, 4, 1024, 4, 8]⟩
abbrev S8x4x8x4x1024 : Shape := ⟨5, ![8, 4, 8, 4, 1024]⟩
abbrev S8x1x1x4x1024 : Shape := ⟨5, ![8, 1, 1, 4, 1024]⟩
abbrev S8x4x8x4 : Shape := ⟨4, ![8, 4, 8, 4]⟩
abbrev S8x4x8x4x1 : Shape := ⟨5, ![8, 4, 8, 4, 1]⟩
abbrev S8x4x64x8x4 : Shape := ⟨5, ![8, 4, 64, 8, 4]⟩
abbrev S8x4x4x8x2x32 : Shape := ⟨6, ![8, 4, 4, 8, 2, 32]⟩
abbrev S8x4x4x8x32x2 : Shape := ⟨6, ![8, 4, 4, 8, 32, 2]⟩
abbrev S8x4x2048 : Shape := ⟨3, ![8, 4, 2048]⟩

abbrev nBuf : Space → Nat
  | .hbm => 394
  | .vmem => 4
  | .smem => 0
  | _ => 0

abbrev hbmTy0_0 (i : Nat) : BufTy := match i % 128 with
  | 0 => ⟨S8x4x32x64, .bf16⟩
  | 1 => ⟨S8x4x4x64, .bf16⟩
  | 2 => ⟨S8x4x4x64, .bf16⟩
  | 3 => ⟨S8x32768x4x32, .i8⟩
  | 4 => ⟨S8x32768x4x32, .i8⟩
  | 5 => ⟨S8x32768x4x4, .fp8e4m3⟩
  | 6 => ⟨S8x32768x4x4, .fp8e4m3⟩
  | 7 => ⟨S_, .f32⟩
  | 8 => ⟨S_, .f32⟩
  | 9 => ⟨S8, .i32⟩
  | 10 => ⟨S_, .i32⟩
  | 11 => ⟨S8, .i32⟩
  | 12 => ⟨S8, .i32⟩
  | 13 => ⟨S_, .i32⟩
  | 14 => ⟨S_, .i32⟩
  | 15 => ⟨S_, .i32⟩
  | 16 => ⟨S8, .i32⟩
  | 17 => ⟨S8, .i32⟩
  | 18 => ⟨S_, .i32⟩
  | 19 => ⟨S8, .i32⟩
  | 20 => ⟨S8, .i32⟩
  | 21 => ⟨S8, .i32⟩
  | 22 => ⟨S8x1, .i32⟩
  | 23 => ⟨S8x1, .i32⟩
  | 24 => ⟨S8x2, .i32⟩
  | 25 => ⟨S8x1024x4x32, .i8⟩
  | 26 => ⟨S8x1024x4x32, .i32⟩
  | 27 => ⟨S_, .i32⟩
  | 28 => ⟨S8x1024x4x32, .i32⟩
  | 29 => ⟨S8x1024x4x32, .i32⟩
  | 30 => ⟨S_, .i32⟩
  | 31 => ⟨S8x1024x4x32, .i32⟩
  | 32 => ⟨S8x1024x4x32, .i32⟩
  | 33 => ⟨S_, .i32⟩
  | 34 => ⟨S8x1024x4x32, .i32⟩
  | 35 => ⟨S8x1024x4x32, .i32⟩
  | 36 => ⟨S_, .i32⟩
  | 37 => ⟨S8x1024x4x32, .i32⟩
  | 38 => ⟨S8x1024x4x32, .i32⟩
  | 39 => ⟨S_, .i32⟩
  | 40 => ⟨S8x1024x4x32, .i32⟩
  | 41 => ⟨S8x1024x4x32, .i32⟩
  | 42 => ⟨S_, .i32⟩
  | 43 => ⟨S8x1024x4x32, .i32⟩
  | 44 => ⟨S8x1024x4x32, .i32⟩
  | 45 => ⟨S8x1024x4x32, .f32⟩
  | 46 => ⟨S_, .i32⟩
  | 47 => ⟨S8x1024x4x32, .i32⟩
  | 48 => ⟨S8x1024x4x32, .i1⟩
  | 49 => ⟨S_, .i32⟩
  | 50 => ⟨S8x1024x4x32, .i32⟩
  | 51 => ⟨S8x1024x4x32, .i1⟩
  | 52 => ⟨S_, .f32⟩
  | 53 => ⟨S_, .f32⟩
  | 54 => ⟨S8x1024x4x32, .f32⟩
  | 55 => ⟨S8x1024x4x32, .f32⟩
  | 56 => ⟨S8x1024x4x32, .f32⟩
  | 57 => ⟨S_, .f32⟩
  | 58 => ⟨S8x1024x4x32, .f32⟩
  | 59 => ⟨S8x1024x4x32, .f32⟩
  | 60 => ⟨S_, .i32⟩
  | 61 => ⟨S8x1024x4x32, .i32⟩
  | 62 => ⟨S8x1024x4x32, .i1⟩
  | 63 => ⟨S_, .f32⟩
  | 64 => ⟨S8x1024x4x32, .f32⟩
  | 65 => ⟨S8x1024x4x32, .f32⟩
  | 66 => ⟨S_, .f32⟩
  | 67 => ⟨S8x1024x4x32, .f32⟩
  | 68 => ⟨S8x1024x4x32, .f32⟩
  | 69 => ⟨S_, .f32⟩
  | 70 => ⟨S8x1024x4x32, .f32⟩
  | 71 => ⟨S8x1024x4x32, .f32⟩
  | 72 => ⟨S8x1024x4x32, .f32⟩
  | 73 => ⟨S8x1024x4x32, .f32⟩
  | 74 => ⟨S8x1024x4x32, .f32⟩
  | 75 => ⟨S_, .i32⟩
  | 76 => ⟨S8x1024x4x32, .i32⟩
  | 77 => ⟨S8x1024x4x32, .i1⟩
  | 78 => ⟨S8x1024x4x32, .f32⟩
  | 79 => ⟨S8x1024x4x32, .f32⟩
  | 80 => ⟨S8x1024x4x32, .bf16⟩
  | 81 => ⟨S_, .i32⟩
  | 82 => ⟨S8x1024x4x32, .i32⟩
  | 83 => ⟨S8x1024x4x32, .i32⟩
  | 84 => ⟨S_, .i32⟩
  | 85 => ⟨S8x1024x4x32, .i32⟩
  | 86 => ⟨S8x1024x4x32, .i32⟩
  | 87 => ⟨S_, .i32⟩
  | 88 => ⟨S8x1024x4x32, .i32⟩
  | 89 => ⟨S8x1024x4x32, .i32⟩
  | 90 => ⟨S_, .i32⟩
  | 91 => ⟨S8x1024x4x32, .i32⟩
  | 92 => ⟨S8x1024x4x32, .i32⟩
  | 93 => ⟨S_, .i32⟩
  | 94 => ⟨S8x1024x4x32, .i32⟩
  | 95 => ⟨S8x1024x4x32, .i32⟩
  | 96 => ⟨S_, .i32⟩
  | 97 => ⟨S8x1024x4x32, .i32⟩
  | 98 => ⟨S8x1024x4x32, .i32⟩
  | 99 => ⟨S8x1024x4x32, .f32⟩
  | 100 => ⟨S_, .i32⟩
  | 101 => ⟨S8x1024x4x32, .i32⟩
  | 102 => ⟨S8x1024x4x32, .i1⟩
  | 103 => ⟨S_, .i32⟩
  | 104 => ⟨S8x1024x4x32, .i32⟩
  | 105 => ⟨S8x1024x4x32, .i1⟩
  | 106 => ⟨S_, .f32⟩
  | 107 => ⟨S_, .f32⟩
  | 108 => ⟨S8x1024x4x32, .f32⟩
  | 109 => ⟨S8x1024x4x32, .f32⟩
  | 110 => ⟨S8x1024x4x32, .f32⟩
  | 111 => ⟨S_, .f32⟩
  | 112 => ⟨S8x1024x4x32, .f32⟩
  | 113 => ⟨S8x1024x4x32, .f32⟩
  | 114 => ⟨S_, .i32⟩
  | 115 => ⟨S8x1024x4x32, .i32⟩
  | 116 => ⟨S8x1024x4x32, .i1⟩
  | 117 => ⟨S_, .f32⟩
  | 118 => ⟨S8x1024x4x32, .f32⟩
  | 119 => ⟨S8x1024x4x32, .f32⟩
  | 120 => ⟨S_, .f32⟩
  | 121 => ⟨S8x1024x4x32, .f32⟩
  | 122 => ⟨S8x1024x4x32, .f32⟩
  | 123 => ⟨S_, .f32⟩
  | 124 => ⟨S8x1024x4x32, .f32⟩
  | 125 => ⟨S8x1024x4x32, .f32⟩
  | 126 => ⟨S8x1024x4x32, .f32⟩
  | 127 => ⟨S8x1024x4x32, .f32⟩
  | _ => ⟨S8x4x32x64, .bf16⟩

abbrev hbmTy0_1 (i : Nat) : BufTy := match i % 128 with
  | 0 => ⟨S8x1024x4x32, .f32⟩
  | 1 => ⟨S_, .i32⟩
  | 2 => ⟨S8x1024x4x32, .i32⟩
  | 3 => ⟨S8x1024x4x32, .i1⟩
  | 4 => ⟨S8x1024x4x32, .f32⟩
  | 5 => ⟨S8x1024x4x32, .f32⟩
  | 6 => ⟨S8x1024x4x32, .bf16⟩
  | 7 => ⟨S8, .i32⟩
  | 8 => ⟨S8x1, .i32⟩
  | 9 => ⟨S8x1, .i32⟩
  | 10 => ⟨S8x2, .i32⟩
  | 11 => ⟨S8x1024x4x32, .i8⟩
  | 12 => ⟨S8x1024x4x32, .i32⟩
  | 13 => ⟨S_, .i32⟩
  | 14 => ⟨S8x1024x4x32, .i32⟩
  | 15 => ⟨S8x1024x4x32, .i32⟩
  | 16 => ⟨S_, .i32⟩
  | 17 => ⟨S8x1024x4x32, .i32⟩
  | 18 => ⟨S8x1024x4x32, .i32⟩
  | 19 => ⟨S_, .i32⟩
  | 20 => ⟨S8x1024x4x32, .i32⟩
  | 21 => ⟨S8x1024x4x32, .i32⟩
  | 22 => ⟨S_, .i32⟩
  | 23 => ⟨S8x1024x4x32, .i32⟩
  | 24 => ⟨S8x1024x4x32, .i32⟩
  | 25 => ⟨S_, .i32⟩
  | 26 => ⟨S8x1024x4x32, .i32⟩
  | 27 => ⟨S8x1024x4x32, .i32⟩
  | 28 => ⟨S_, .i32⟩
  | 29 => ⟨S8x1024x4x32, .i32⟩
  | 30 => ⟨S8x1024x4x32, .i32⟩
  | 31 => ⟨S8x1024x4x32, .f32⟩
  | 32 => ⟨S_, .i32⟩
  | 33 => ⟨S8x1024x4x32, .i32⟩
  | 34 => ⟨S8x1024x4x32, .i1⟩
  | 35 => ⟨S_, .i32⟩
  | 36 => ⟨S8x1024x4x32, .i32⟩
  | 37 => ⟨S8x1024x4x32, .i1⟩
  | 38 => ⟨S_, .f32⟩
  | 39 => ⟨S_, .f32⟩
  | 40 => ⟨S8x1024x4x32, .f32⟩
  | 41 => ⟨S8x1024x4x32, .f32⟩
  | 42 => ⟨S8x1024x4x32, .f32⟩
  | 43 => ⟨S_, .f32⟩
  | 44 => ⟨S8x1024x4x32, .f32⟩
  | 45 => ⟨S8x1024x4x32, .f32⟩
  | 46 => ⟨S_, .i32⟩
  | 47 => ⟨S8x1024x4x32, .i32⟩
  | 48 => ⟨S8x1024x4x32, .i1⟩
  | 49 => ⟨S_, .f32⟩
  | 50 => ⟨S8x1024x4x32, .f32⟩
  | 51 => ⟨S8x1024x4x32, .f32⟩
  | 52 => ⟨S_, .f32⟩
  | 53 => ⟨S8x1024x4x32, .f32⟩
  | 54 => ⟨S8x1024x4x32, .f32⟩
  | 55 => ⟨S_, .f32⟩
  | 56 => ⟨S8x1024x4x32, .f32⟩
  | 57 => ⟨S8x1024x4x32, .f32⟩
  | 58 => ⟨S8x1024x4x32, .f32⟩
  | 59 => ⟨S8x1024x4x32, .f32⟩
  | 60 => ⟨S8x1024x4x32, .f32⟩
  | 61 => ⟨S_, .i32⟩
  | 62 => ⟨S8x1024x4x32, .i32⟩
  | 63 => ⟨S8x1024x4x32, .i1⟩
  | 64 => ⟨S8x1024x4x32, .f32⟩
  | 65 => ⟨S8x1024x4x32, .f32⟩
  | 66 => ⟨S8x1024x4x32, .bf16⟩
  | 67 => ⟨S_, .i32⟩
  | 68 => ⟨S8x1024x4x32, .i32⟩
  | 69 => ⟨S8x1024x4x32, .i32⟩
  | 70 => ⟨S_, .i32⟩
  | 71 => ⟨S8x1024x4x32, .i32⟩
  | 72 => ⟨S8x1024x4x32, .i32⟩
  | 73 => ⟨S_, .i32⟩
  | 74 => ⟨S8x1024x4x32, .i32⟩
  | 75 => ⟨S8x1024x4x32, .i32⟩
  | 76 => ⟨S_, .i32⟩
  | 77 => ⟨S8x1024x4x32, .i32⟩
  | 78 => ⟨S8x1024x4x32, .i32⟩
  | 79 => ⟨S_, .i32⟩
  | 80 => ⟨S8x1024x4x32, .i32⟩
  | 81 => ⟨S8x1024x4x32, .i32⟩
  | 82 => ⟨S_, .i32⟩
  | 83 => ⟨S8x1024x4x32, .i32⟩
  | 84 => ⟨S8x1024x4x32, .i32⟩
  | 85 => ⟨S8x1024x4x32, .f32⟩
  | 86 => ⟨S_, .i32⟩
  | 87 => ⟨S8x1024x4x32, .i32⟩
  | 88 => ⟨S8x1024x4x32, .i1⟩
  | 89 => ⟨S_, .i32⟩
  | 90 => ⟨S8x1024x4x32, .i32⟩
  | 91 => ⟨S8x1024x4x32, .i1⟩
  | 92 => ⟨S_, .f32⟩
  | 93 => ⟨S_, .f32⟩
  | 94 => ⟨S8x1024x4x32, .f32⟩
  | 95 => ⟨S8x1024x4x32, .f32⟩
  | 96 => ⟨S8x1024x4x32, .f32⟩
  | 97 => ⟨S_, .f32⟩
  | 98 => ⟨S8x1024x4x32, .f32⟩
  | 99 => ⟨S8x1024x4x32, .f32⟩
  | 100 => ⟨S_, .i32⟩
  | 101 => ⟨S8x1024x4x32, .i32⟩
  | 102 => ⟨S8x1024x4x32, .i1⟩
  | 103 => ⟨S_, .f32⟩
  | 104 => ⟨S8x1024x4x32, .f32⟩
  | 105 => ⟨S8x1024x4x32, .f32⟩
  | 106 => ⟨S_, .f32⟩
  | 107 => ⟨S8x1024x4x32, .f32⟩
  | 108 => ⟨S8x1024x4x32, .f32⟩
  | 109 => ⟨S_, .f32⟩
  | 110 => ⟨S8x1024x4x32, .f32⟩
  | 111 => ⟨S8x1024x4x32, .f32⟩
  | 112 => ⟨S8x1024x4x32, .f32⟩
  | 113 => ⟨S8x1024x4x32, .f32⟩
  | 114 => ⟨S8x1024x4x32, .f32⟩
  | 115 => ⟨S_, .i32⟩
  | 116 => ⟨S8x1024x4x32, .i32⟩
  | 117 => ⟨S8x1024x4x32, .i1⟩
  | 118 => ⟨S8x1024x4x32, .f32⟩
  | 119 => ⟨S8x1024x4x32, .f32⟩
  | 120 => ⟨S8x1024x4x32, .bf16⟩
  | 121 => ⟨S8, .i32⟩
  | 122 => ⟨S8x1, .i32⟩
  | 123 => ⟨S8x1, .i32⟩
  | 124 => ⟨S8x2, .i32⟩
  | 125 => ⟨S8x1024x4x4, .fp8e4m3⟩
  | 126 => ⟨S8, .i32⟩
  | 127 => ⟨S8x1, .i32⟩
  | _ => ⟨S8x4x32x64, .bf16⟩

abbrev hbmTy0_2 (i : Nat) : BufTy := match i % 128 with
  | 0 => ⟨S8x1, .i32⟩
  | 1 => ⟨S8x2, .i32⟩
  | 2 => ⟨S8x1024x4x4, .fp8e4m3⟩
  | 3 => ⟨S8x4x4x8x64, .bf16⟩
  | 4 => ⟨S8x4x4x8x32, .bf16⟩
  | 5 => ⟨S8x4x4x8x32, .bf16⟩
  | 6 => ⟨S8x4x4x8x64, .bf16⟩
  | 7 => ⟨S8x4x4x32, .bf16⟩
  | 8 => ⟨S8x4x4x32, .bf16⟩
  | 9 => ⟨S8x4x4x64, .bf16⟩
  | 10 => ⟨S8x1, .i32⟩
  | 11 => ⟨S1024, .i32⟩
  | 12 => ⟨S1x1024, .i32⟩
  | 13 => ⟨S8x1024, .i32⟩
  | 14 => ⟨S8x1024, .i32⟩
  | 15 => ⟨S8x1024, .i32⟩
  | 16 => ⟨S8x1, .i32⟩
  | 17 => ⟨S4, .i32⟩
  | 18 => ⟨S1x4, .i32⟩
  | 19 => ⟨S8x4, .i32⟩
  | 20 => ⟨S8x4, .i32⟩
  | 21 => ⟨S8x4, .i32⟩
  | 22 => ⟨S8x1x1024, .i32⟩
  | 23 => ⟨S8x1x1, .i32⟩
  | 24 => ⟨S8x1x1024, .i32⟩
  | 25 => ⟨S8x1x1024, .i1⟩
  | 26 => ⟨S8x1x1024, .i32⟩
  | 27 => ⟨S8x4x1, .i32⟩
  | 28 => ⟨S_, .i32⟩
  | 29 => ⟨S8x4x1, .i32⟩
  | 30 => ⟨S8x4x1, .i32⟩
  | 31 => ⟨S8x4x1024, .i32⟩
  | 32 => ⟨S8x4x1024, .i32⟩
  | 33 => ⟨S8x4x1024, .i1⟩
  | 34 => ⟨S8x4x1024, .i1⟩
  | 35 => ⟨S8x4x1024, .i1⟩
  | 36 => ⟨S4, .i32⟩
  | 37 => ⟨S1x4, .i32⟩
  | 38 => ⟨S4x1, .i32⟩
  | 39 => ⟨S4x4, .i32⟩
  | 40 => ⟨S4x4, .i32⟩
  | 41 => ⟨S4x4, .i1⟩
  | 42 => ⟨S4x1, .i32⟩
  | 43 => ⟨S1x4, .i32⟩
  | 44 => ⟨S4x4, .i32⟩
  | 45 => ⟨S4x4, .i32⟩
  | 46 => ⟨S4x4, .i32⟩
  | 47 => ⟨S_, .i32⟩
  | 48 => ⟨S4x4, .i32⟩
  | 49 => ⟨S4x4, .i1⟩
  | 50 => ⟨S4x4, .i1⟩
  | 51 => ⟨S8x4x4x4x8, .f32⟩
  | 52 => ⟨S8x4x8x4x4, .f32⟩
  | 53 => ⟨S_, .f32⟩
  | 54 => ⟨S8x4x8x4x4, .f32⟩
  | 55 => ⟨S8x4x8x4x4, .f32⟩
  | 56 => ⟨S_, .f32⟩
  | 57 => ⟨S_, .f32⟩
  | 58 => ⟨S8x4x8x4x4, .i1⟩
  | 59 => ⟨S8x4x8x4x4, .f32⟩
  | 60 => ⟨S8x4x8x4x4, .f32⟩
  | 61 => ⟨S8x1024x4x4, .bf16⟩
  | 62 => ⟨S8x1024x4x4, .bf16⟩
  | 63 => ⟨S8x1024x4x4x8, .bf16⟩
  | 64 => ⟨S8x1024x4x32, .bf16⟩
  | 65 => ⟨S8x1024x4x32, .bf16⟩
  | 66 => ⟨S8x1024x4x32, .bf16⟩
  | 67 => ⟨S8x1024x4x64, .bf16⟩
  | 68 => ⟨S8x1024x4x4x8, .bf16⟩
  | 69 => ⟨S8x1024x4x32, .bf16⟩
  | 70 => ⟨S8x1024x4x32, .bf16⟩
  | 71 => ⟨S8x1024x4x32, .bf16⟩
  | 72 => ⟨S8x1024x4x64, .bf16⟩
  | 73 => ⟨S8x4x1024x4x8, .f32⟩
  | 74 => ⟨S8x4x8x4x1024, .f32⟩
  | 75 => ⟨S_, .f32⟩
  | 76 => ⟨S_, .f32⟩
  | 77 => ⟨S8x4x8x4x1024, .f32⟩
  | 78 => ⟨S8x4x8x4x1024, .f32⟩
  | 79 => ⟨S8x1x1x4x1024, .i1⟩
  | 80 => ⟨S_, .f32⟩
  | 81 => ⟨S_, .f32⟩
  | 82 => ⟨S8x4x8x4x1024, .i1⟩
  | 83 => ⟨S8x4x8x4x1024, .f32⟩
  | 84 => ⟨S8x4x8x4x1024, .f32⟩
  | 85 => ⟨S_, .f32⟩
  | 86 => ⟨S8x4x8x4, .f32⟩
  | 87 => ⟨S8x4x8x4x1, .f32⟩
  | 88 => ⟨S_, .f32⟩
  | 89 => ⟨S8x4x8x4, .f32⟩
  | 90 => ⟨S8x4x8x4x1, .f32⟩
  | 91 => ⟨S8x4x8x4x1, .f32⟩
  | 92 => ⟨S8x4x8x4x1024, .f32⟩
  | 93 => ⟨S8x4x8x4x1024, .f32⟩
  | 94 => ⟨S8x4x8x4x1024, .f32⟩
  | 95 => ⟨S8x4x8x4x4, .f32⟩
  | 96 => ⟨S8x4x8x4x4, .f32⟩
  | 97 => ⟨S8x4x8x4x4, .f32⟩
  | 98 => ⟨S_, .f32⟩
  | 99 => ⟨S8x4x8x4, .f32⟩
  | 100 => ⟨S8x4x8x4x1, .f32⟩
  | 101 => ⟨S_, .f32⟩
  | 102 => ⟨S8x4x8x4, .f32⟩
  | 103 => ⟨S8x4x8x4x1, .f32⟩
  | 104 => ⟨S8x4x8x4x1, .f32⟩
  | 105 => ⟨S_, .f32⟩
  | 106 => ⟨S8x4x8x4x1, .f32⟩
  | 107 => ⟨S8x4x8x4x1, .i1⟩
  | 108 => ⟨S8x4x8x4x1024, .f32⟩
  | 109 => ⟨S8x4x8x4x1024, .f32⟩
  | 110 => ⟨S_, .f32⟩
  | 111 => ⟨S_, .f32⟩
  | 112 => ⟨S8x4x8x4x1024, .i1⟩
  | 113 => ⟨S8x4x8x4x1024, .f32⟩
  | 114 => ⟨S8x4x8x4x1024, .f32⟩
  | 115 => ⟨S8x4x8x4x1024, .f32⟩
  | 116 => ⟨S8x4x8x4x1024, .f32⟩
  | 117 => ⟨S8x4x8x4x1024, .bf16⟩
  | 118 => ⟨S_, .f32⟩
  | 119 => ⟨S8x4x8x4x1, .f32⟩
  | 120 => ⟨S8x4x8x4x1, .i1⟩
  | 121 => ⟨S8x4x8x4x4, .f32⟩
  | 122 => ⟨S8x4x8x4x4, .f32⟩
  | 123 => ⟨S_, .f32⟩
  | 124 => ⟨S_, .f32⟩
  | 125 => ⟨S8x4x8x4x4, .i1⟩
  | 126 => ⟨S8x4x8x4x4, .f32⟩
  | 127 => ⟨S8x4x8x4x4, .f32⟩
  | _ => ⟨S8x4x32x64, .bf16⟩

abbrev hbmTy0_3 (i : Nat) : BufTy := match i % 128 with
  | 0 => ⟨S8x4x8x4x4, .bf16⟩
  | 1 => ⟨S8x4x64x8x4, .f32⟩
  | 2 => ⟨S8x4x4x8x64, .f32⟩
  | 3 => ⟨S8x4x64x8x4, .f32⟩
  | 4 => ⟨S8x4x4x8x64, .f32⟩
  | 5 => ⟨S8x4x4x8x64, .f32⟩
  | 6 => ⟨S8x4x4x8x64, .bf16⟩
  | 7 => ⟨S8x4x4x8x2x32, .bf16⟩
  | 8 => ⟨S8x4x4x8x32x2, .bf16⟩
  | 9 => ⟨S8x4x2048, .bf16⟩
  | _ => ⟨S8x4x32x64, .bf16⟩

abbrev hbmTy (i : Nat) : BufTy := match i / 128 with
  | 0 => hbmTy0_0 i
  | 1 => hbmTy0_1 i
  | 2 => hbmTy0_2 i
  | 3 => hbmTy0_3 i
  | _ => ⟨S8x4x32x64, .bf16⟩

abbrev bufTy : (tb : Table) → Fin (tcTables nBuf tb) → BufTy
  | .hbm, ⟨i, _⟩ => hbmTy i
  | .local _ .vmem, ⟨0, _⟩ => ⟨S8x1024x4x4, .fp8e4m3⟩
  | .local _ .vmem, ⟨1, _⟩ => ⟨S8x1024x4x4, .fp8e4m3⟩
  | .local _ .vmem, ⟨2, _⟩ => ⟨S8x1024x4x4, .bf16⟩
  | .local _ .vmem, ⟨3, _⟩ => ⟨S8x1024x4x4, .bf16⟩
  | _, _ => ⟨S8x4x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_c_4 : Ref sig .tc := ⟨.hbm, 33, rfl⟩
abbrev main_v13 : Ref sig .tc := ⟨.hbm, 34, rfl⟩
abbrev main_v14 : Ref sig .tc := ⟨.hbm, 35, rfl⟩
abbrev main_c_5 : Ref sig .tc := ⟨.hbm, 36, rfl⟩
abbrev main_v15 : Ref sig .tc := ⟨.hbm, 37, rfl⟩
abbrev main_v16 : Ref sig .tc := ⟨.hbm, 38, rfl⟩
abbrev main_c_6 : Ref sig .tc := ⟨.hbm, 39, rfl⟩
abbrev main_v17 : Ref sig .tc := ⟨.hbm, 40, rfl⟩
abbrev main_v18 : Ref sig .tc := ⟨.hbm, 41, rfl⟩
abbrev main_c_7 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_8 : Ref sig .tc := ⟨.hbm, 46, rfl⟩
abbrev main_v22 : Ref sig .tc := ⟨.hbm, 47, rfl⟩
abbrev main_v23 : Ref sig .tc := ⟨.hbm, 48, rfl⟩
abbrev main_c_9 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_cst_10 : Ref sig .tc := ⟨.hbm, 53, rfl⟩
abbrev main_call1_v0 : Ref sig .tc := ⟨.hbm, 54, rfl⟩
abbrev main_call1_v1 : Ref sig .tc := ⟨.hbm, 55, rfl⟩
abbrev main_v26 : Ref sig .tc := ⟨.hbm, 56, rfl⟩
abbrev main_cst_11 : Ref sig .tc := ⟨.hbm, 57, rfl⟩
abbrev main_call2_v0 : Ref sig .tc := ⟨.hbm, 58, rfl⟩
abbrev main_v27 : Ref sig .tc := ⟨.hbm, 59, rfl⟩
abbrev main_c_12 : Ref sig .tc := ⟨.hbm, 60, rfl⟩
abbrev main_v28 : Ref sig .tc := ⟨.hbm, 61, rfl⟩
abbrev main_v29 : Ref sig .tc := ⟨.hbm, 62, rfl⟩
abbrev main_cst_13 : Ref sig .tc := ⟨.hbm, 63, rfl⟩
abbrev main_v30 : Ref sig .tc := ⟨.hbm, 64, rfl⟩
abbrev main_v31 : Ref sig .tc := ⟨.hbm, 65, rfl⟩
abbrev main_cst_14 : Ref sig .tc := ⟨.hbm, 66, rfl⟩
abbrev main_v32 : Ref sig .tc := ⟨.hbm, 67, rfl⟩
abbrev main_v33 : Ref sig .tc := ⟨.hbm, 68, rfl⟩
abbrev main_cst_15 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_16 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_17 : Ref sig .tc := ⟨.hbm, 81, rfl⟩
abbrev main_v44 : Ref sig .tc := ⟨.hbm, 82, rfl⟩
abbrev main_v45 : Ref sig .tc := ⟨.hbm, 83, rfl⟩
abbrev main_c_18 : Ref sig .tc := ⟨.hbm, 84, rfl⟩
abbrev main_v46 : Ref sig .tc := ⟨.hbm, 85, rfl⟩
abbrev main_v47 : Ref sig .tc := ⟨.hbm, 86, rfl⟩
abbrev main_c_19 : Ref sig .tc := ⟨.hbm, 87, rfl⟩
abbrev main_v48 : Ref sig .tc := ⟨.hbm, 88, rfl⟩
abbrev main_v49 : Ref sig .tc := ⟨.hbm, 89, rfl⟩
abbrev main_c_20 : Ref sig .tc := ⟨.hbm, 90, rfl⟩
abbrev main_v50 : Ref sig .tc := ⟨.hbm, 91, rfl⟩
abbrev main_v51 : Ref sig .tc := ⟨.hbm, 92, rfl⟩
abbrev main_c_21 : Ref sig .tc := ⟨.hbm, 93, rfl⟩
abbrev main_v52 : Ref sig .tc := ⟨.hbm, 94, rfl⟩
abbrev main_v53 : Ref sig .tc := ⟨.hbm, 95, rfl⟩
abbrev main_c_22 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_23 : Ref sig .tc := ⟨.hbm, 100, rfl⟩
abbrev main_v57 : Ref sig .tc := ⟨.hbm, 101, rfl⟩
abbrev main_v58 : Ref sig .tc := ⟨.hbm, 102, rfl⟩
abbrev main_c_24 : Ref sig .tc := ⟨.hbm, 103, rfl⟩
abbrev main_v59 : Ref sig .tc := ⟨.hbm, 104, rfl⟩
abbrev main_v60 : Ref sig .tc := ⟨.hbm, 105, rfl⟩
abbrev main_cst_25 : Ref sig .tc := ⟨.hbm, 106, rfl⟩
abbrev main_cst_26 : Ref sig .tc := ⟨.hbm, 107, rfl⟩
abbrev main_call5_v0 : Ref sig .tc := ⟨.hbm, 108, rfl⟩
abbrev main_call5_v1 : Ref sig .tc := ⟨.hbm, 109, rfl⟩
abbrev main_v61 : Ref sig .tc := ⟨.hbm, 110, rfl⟩
abbrev main_cst_27 : Ref sig .tc := ⟨.hbm, 111, rfl⟩
abbrev main_call6_v0 : Ref sig .tc := ⟨.hbm, 112, rfl⟩
abbrev main_v62 : Ref sig .tc := ⟨.hbm, 113, rfl⟩
abbrev main_c_28 : Ref sig .tc := ⟨.hbm, 114, rfl⟩
abbrev main_v63 : Ref sig .tc := ⟨.hbm, 115, rfl⟩
abbrev main_v64 : Ref sig .tc := ⟨.hbm, 116, rfl⟩
abbrev main_cst_29 : Ref sig .tc := ⟨.hbm, 117, rfl⟩
abbrev main_v65 : Ref sig .tc := ⟨.hbm, 118, rfl⟩
abbrev main_v66 : Ref sig .tc := ⟨.hbm, 119, rfl⟩
abbrev main_cst_30 : Ref sig .tc := ⟨.hbm, 120, rfl⟩
abbrev main_v67 : Ref sig .tc := ⟨.hbm, 121, rfl⟩
abbrev main_v68 : Ref sig .tc := ⟨.hbm, 122, rfl⟩
abbrev main_cst_31 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_c_32 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_33 : Ref sig .tc := ⟨.hbm, 141, rfl⟩
abbrev main_v85 : Ref sig .tc := ⟨.hbm, 142, rfl⟩
abbrev main_v86 : Ref sig .tc := ⟨.hbm, 143, rfl⟩
abbrev main_c_34 : Ref sig .tc := ⟨.hbm, 144, rfl⟩
abbrev main_v87 : Ref sig .tc := ⟨.hbm, 145, rfl⟩
abbrev main_v88 : Ref sig .tc := ⟨.hbm, 146, rfl⟩
abbrev main_c_35 : Ref sig .tc := ⟨.hbm, 147, rfl⟩
abbrev main_v89 : Ref sig .tc := ⟨.hbm, 148, rfl⟩
abbrev main_v90 : Ref sig .tc := ⟨.hbm, 149, rfl⟩
abbrev main_c_36 : Ref sig .tc := ⟨.hbm, 150, rfl⟩
abbrev main_v91 : Ref sig .tc := ⟨.hbm, 151, rfl⟩
abbrev main_v92 : Ref sig .tc := ⟨.hbm, 152, rfl⟩
abbrev main_c_37 : Ref sig .tc := ⟨.hbm, 153, rfl⟩
abbrev main_v93 : Ref sig .tc := ⟨.hbm, 154, rfl⟩
abbrev main_v94 : Ref sig .tc := ⟨.hbm, 155, rfl⟩
abbrev main_c_38 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_c_39 : Ref sig .tc := ⟨.hbm, 160, rfl⟩
abbrev main_v98 : Ref sig .tc := ⟨.hbm, 161, rfl⟩
abbrev main_v99 : Ref sig .tc := ⟨.hbm, 162, rfl⟩
abbrev main_c_40 : Ref sig .tc := ⟨.hbm, 163, rfl⟩
abbrev main_v100 : Ref sig .tc := ⟨.hbm, 164, rfl⟩
abbrev main_v101 : Ref sig .tc := ⟨.hbm, 165, rfl⟩
abbrev main_cst_41 : Ref sig .tc := ⟨.hbm, 166, rfl⟩
abbrev main_cst_42 : Ref sig .tc := ⟨.hbm, 167, rfl⟩
abbrev main_call9_v0 : Ref sig .tc := ⟨.hbm, 168, rfl⟩
abbrev main_call9_v1 : Ref sig .tc := ⟨.hbm, 169, rfl⟩
abbrev main_v102 : Ref sig .tc := ⟨.hbm, 170, rfl⟩
abbrev main_cst_43 : Ref sig .tc := ⟨.hbm, 171, rfl⟩
abbrev main_call10_v0 : Ref sig .tc := ⟨.hbm, 172, rfl⟩
abbrev main_v103 : Ref sig .tc := ⟨.hbm, 173, rfl⟩
abbrev main_c_44 : Ref sig .tc := ⟨.hbm, 174, rfl⟩
abbrev main_v104 : Ref sig .tc := ⟨.hbm, 175, rfl⟩
abbrev main_v105 : Ref sig .tc := ⟨.hbm, 176, rfl⟩
abbrev main_cst_45 : Ref sig .tc := ⟨.hbm, 177, rfl⟩
abbrev main_v106 : Ref sig .tc := ⟨.hbm, 178, rfl⟩
abbrev main_v107 : Ref sig .tc := ⟨.hbm, 179, rfl⟩
abbrev main_cst_46 : Ref sig .tc := ⟨.hbm, 180, rfl⟩
abbrev main_v108 : Ref sig .tc := ⟨.hbm, 181, rfl⟩
abbrev main_v109 : Ref sig .tc := ⟨.hbm, 182, rfl⟩
abbrev main_cst_47 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_c_48 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_c_49 : Ref sig .tc := ⟨.hbm, 195, rfl⟩
abbrev main_v120 : Ref sig .tc := ⟨.hbm, 196, rfl⟩
abbrev main_v121 : Ref sig .tc := ⟨.hbm, 197, rfl⟩
abbrev main_c_50 : Ref sig .tc := ⟨.hbm, 198, rfl⟩
abbrev main_v122 : Ref sig .tc := ⟨.hbm, 199, rfl⟩
abbrev main_v123 : Ref sig .tc := ⟨.hbm, 200, rfl⟩
abbrev main_c_51 : Ref sig .tc := ⟨.hbm, 201, rfl⟩
abbrev main_v124 : Ref sig .tc := ⟨.hbm, 202, rfl⟩
abbrev main_v125 : Ref sig .tc := ⟨.hbm, 203, rfl⟩
abbrev main_c_52 : Ref sig .tc := ⟨.hbm, 204, rfl⟩
abbrev main_v126 : Ref sig .tc := ⟨.hbm, 205, rfl⟩
abbrev main_v127 : Ref sig .tc := ⟨.hbm, 206, rfl⟩
abbrev main_c_53 : Ref sig .tc := ⟨.hbm, 207, rfl⟩
abbrev main_v128 : Ref sig .tc := ⟨.hbm, 208, rfl⟩
abbrev main_v129 : Ref sig .tc := ⟨.hbm, 209, rfl⟩
abbrev main_c_54 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_c_55 : Ref sig .tc := ⟨.hbm, 214, rfl⟩
abbrev main_v133 : Ref sig .tc := ⟨.hbm, 215, rfl⟩
abbrev main_v134 : Ref sig .tc := ⟨.hbm, 216, rfl⟩
abbrev main_c_56 : Ref sig .tc := ⟨.hbm, 217, rfl⟩
abbrev main_v135 : Ref sig .tc := ⟨.hbm, 218, rfl⟩
abbrev main_v136 : Ref sig .tc := ⟨.hbm, 219, rfl⟩
abbrev main_cst_57 : Ref sig .tc := ⟨.hbm, 220, rfl⟩
abbrev main_cst_58 : Ref sig .tc := ⟨.hbm, 221, rfl⟩
abbrev main_call13_v0 : Ref sig .tc := ⟨.hbm, 222, rfl⟩
abbrev main_call13_v1 : Ref sig .tc := ⟨.hbm, 223, rfl⟩
abbrev main_v137 : Ref sig .tc := ⟨.hbm, 224, rfl⟩
abbrev main_cst_59 : Ref sig .tc := ⟨.hbm, 225, rfl⟩
abbrev main_call14_v0 : Ref sig .tc := ⟨.hbm, 226, rfl⟩
abbrev main_v138 : Ref sig .tc := ⟨.hbm, 227, rfl⟩
abbrev main_c_60 : Ref sig .tc := ⟨.hbm, 228, rfl⟩
abbrev main_v139 : Ref sig .tc := ⟨.hbm, 229, rfl⟩
abbrev main_v140 : Ref sig .tc := ⟨.hbm, 230, rfl⟩
abbrev main_cst_61 : Ref sig .tc := ⟨.hbm, 231, rfl⟩
abbrev main_v141 : Ref sig .tc := ⟨.hbm, 232, rfl⟩
abbrev main_v142 : Ref sig .tc := ⟨.hbm, 233, rfl⟩
abbrev main_cst_62 : Ref sig .tc := ⟨.hbm, 234, rfl⟩
abbrev main_v143 : Ref sig .tc := ⟨.hbm, 235, rfl⟩
abbrev main_v144 : Ref sig .tc := ⟨.hbm, 236, rfl⟩
abbrev main_cst_63 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_c_64 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_c_65 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_c_66 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_cst_67 : Ref sig .tc := ⟨.hbm, 309, rfl⟩
abbrev main_v213 : Ref sig .tc := ⟨.hbm, 310, rfl⟩
abbrev main_v214 : Ref sig .tc := ⟨.hbm, 311, rfl⟩
abbrev main_cst_68 : Ref sig .tc := ⟨.hbm, 312, rfl⟩
abbrev main_call17_v0 : Ref sig .tc := ⟨.hbm, 313, rfl⟩
abbrev main_call17_v1 : Ref sig .tc := ⟨.hbm, 314, rfl⟩
abbrev main_call17_v2 : Ref sig .tc := ⟨.hbm, 315, rfl⟩
abbrev main_v215 : Ref sig .tc := ⟨.hbm, 316, rfl⟩
abbrev main_v216_0 : Ref sig .tc := ⟨.hbm, 317, rfl⟩
abbrev main_v216_1 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_cst_69 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_cst_70 : Ref sig .tc := ⟨.hbm, 336, rfl⟩
abbrev main_call18_v0 : Ref sig .tc := ⟨.hbm, 337, rfl⟩
abbrev main_call18_v1 : Ref sig .tc := ⟨.hbm, 338, rfl⟩
abbrev main_call18_v2 : Ref sig .tc := ⟨.hbm, 339, rfl⟩
abbrev main_v233 : Ref sig .tc := ⟨.hbm, 340, rfl⟩
abbrev main_cst_71 : Ref sig .tc := ⟨.hbm, 341, rfl⟩
abbrev main_v234 : Ref sig .tc := ⟨.hbm, 342, rfl⟩
abbrev main_v235 : Ref sig .tc := ⟨.hbm, 343, rfl⟩
abbrev main_cst_72 : Ref sig .tc := ⟨.hbm, 344, rfl⟩
abbrev main_v236 : Ref sig .tc := ⟨.hbm, 345, rfl⟩
abbrev main_v237 : Ref sig .tc := ⟨.hbm, 346, rfl⟩
abbrev main_v238 : Ref sig .tc := ⟨.hbm, 347, rfl⟩
abbrev main_v239 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_cst_73 : Ref sig .tc := ⟨.hbm, 354, rfl⟩
abbrev main_v245 : Ref sig .tc := ⟨.hbm, 355, rfl⟩
abbrev main_v246 : Ref sig .tc := ⟨.hbm, 356, rfl⟩
abbrev main_cst_74 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_cst_75 : Ref sig .tc := ⟨.hbm, 361, rfl⟩
abbrev main_v250 : Ref sig .tc := ⟨.hbm, 362, rfl⟩
abbrev main_v251 : Ref sig .tc := ⟨.hbm, 363, rfl⟩
abbrev main_v252 : Ref sig .tc := ⟨.hbm, 364, rfl⟩
abbrev main_v253 : Ref sig .tc := ⟨.hbm, 365, rfl⟩
abbrev main_cst_76 : Ref sig .tc := ⟨.hbm, 366, rfl⟩
abbrev main_call19_v0 : Ref sig .tc := ⟨.hbm, 367, rfl⟩
abbrev main_call19_v1 : Ref sig .tc := ⟨.hbm, 368, rfl⟩
abbrev main_call19_v2 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_cst_77 : Ref sig .tc := ⟨.hbm, 374, rfl⟩
abbrev main_v258 : Ref sig .tc := ⟨.hbm, 375, rfl⟩
abbrev main_v259 : Ref sig .tc := ⟨.hbm, 376, rfl⟩
abbrev main_v260 : Ref sig .tc := ⟨.hbm, 377, rfl⟩
abbrev main_v261 : Ref sig .tc := ⟨.hbm, 378, rfl⟩
abbrev main_cst_78 : Ref sig .tc := ⟨.hbm, 379, rfl⟩
abbrev main_call20_v0 : Ref sig .tc := ⟨.hbm, 380, rfl⟩
abbrev main_call20_v1 : Ref sig .tc := ⟨.hbm, 381, rfl⟩
abbrev main_call20_v2 : Ref sig .tc := ⟨.hbm, 382, rfl⟩
abbrev main_v262 : Ref sig .tc := ⟨.hbm, 383, rfl⟩
abbrev main_v263 : Ref sig .tc := ⟨.hbm, 384, rfl⟩
abbrev main_v264 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_v268 : Ref sig .tc := ⟨.hbm, 389, rfl⟩
abbrev main_v269 : Ref sig .tc := ⟨.hbm, 390, rfl⟩
abbrev main_v270 : Ref sig .tc := ⟨.hbm, 391, rfl⟩
abbrev main_v271 : Ref sig .tc := ⟨.hbm, 392, rfl⟩
abbrev main_v272 : Ref sig .tc := ⟨.hbm, 393, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024x4x4 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x4x4 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x4x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x4x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/-
  The words that steer the kernel's copies: where a sequence's window starts, and the multiple of 128 from which the kernel copies 1152 positions.
-/
module

public import Idealize.ShloMosaic.Lib.Routing.Words
public import Idealize.ShloMosaic.Lib.PairWhole

@[expose] public section

namespace Cert.Words

open Idealize.ShloMosaic

/-- The first position of the window of a sequence of length `v`: `v - 1024`, kept between 0 and 31744. -/
def start (v : BitVec 32) : BitVec 32 :=
  Scalar.minsi 31744#32 (Scalar.maxsi 0#32 (Scalar.subi v 1024#32))

/-- `s / 128` rounded down, as the kernel spells a floor division of a signed word by 128. -/
def floor128 (s : BitVec 32) : BitVec 32 :=
  let v9 : BitVec 32 := Scalar.subi (Scalar.extui (Scalar.cmpi .sgt s 0#32)) (Scalar.extui (Scalar.cmpi .slt s 0#32))
  let v14 : BitVec 32 := Scalar.subi (Scalar.extui (Scalar.cmpi .sgt 128#32 0#32)) (Scalar.extui (Scalar.cmpi .slt 128#32 0#32))
  let v18 : BitVec 1 := Scalar.andi (Scalar.cmpi .ne v9 v14) (Scalar.cmpi .ne (Scalar.remsi s 128#32) 0#32)
  let v4 : BitVec 32 := Scalar.divsi s 128#32
  Scalar.select v18 (Scalar.subi v4 1#32) v4

/-- The first position that the kernel copies: the multiple of 128 at or below the start, at most 31616. -/
def base (v : BitVec 32) : BitVec 32 :=
  Scalar.minsi (Scalar.muli (floor128 (start v)) 128#32) 31616#32

/-- A signed minimum of two words of small naturals is the word of the smaller natural. -/
theorem minsi_word {a b : Nat} (ha : a < 2 ^ 31) (hb : b < 2 ^ 31) :
    IntOp.minsi (BitVec.ofNat 32 a) (BitVec.ofNat 32 b) = BitVec.ofNat 32 (min a b) := by
  unfold IntOp.minsi
  split_ifs with h <;> simp only [BitVec.slt, BitVec.sle, decide_eq_true_eq, decide_eq_false_iff_not, BitVec.toInt_eq_toNat_cond, BitVec.toNat_ofNat] at h <;> congr 1 <;> omega

/-- The start of every window is the word of a natural that is at most 31744. -/
theorem start_word (v : BitVec 32) : ∃ n : Nat, n ≤ 31744 ∧ start v = BitVec.ofNat 32 n := by
  have h : ∃ a : Nat, a < 2 ^ 31 ∧ Scalar.maxsi 0#32 (Scalar.subi v 1024#32) = BitVec.ofNat 32 a := by
    generalize Scalar.subi v 1024#32 = w
    by_cases hw : w.toNat < 2 ^ 31
    · refine ⟨w.toNat, hw, ?_⟩
      have := Routing.maxsi_zero_left hw
      simpa [Scalar.maxsi] using this
    · refine ⟨0, by omega, ?_⟩
      unfold Scalar.maxsi IntOp.maxsi
      have := w.isLt
      split_ifs with h
      · rfl
      · simp only [BitVec.slt, BitVec.sle, decide_eq_true_eq, BitVec.toInt_eq_toNat_cond, BitVec.toNat_ofNat] at h
        split_ifs at h <;> omega
  obtain ⟨a, ha, e⟩ := h
  refine ⟨min 31744 a, by omega, ?_⟩
  unfold start
  rw [e]
  exact minsi_word (by omega) ha

/-- Of a small natural, the kernel's floor division by 128 is the quotient. -/
theorem floor128_word {n : Nat} (hn : n ≤ 31744) : floor128 (BitVec.ofNat 32 n) = BitVec.ofNat 32 (n / 128) := by
  unfold floor128
  have hd : Scalar.divsi (BitVec.ofNat 32 n) 128#32 = BitVec.ofNat 32 (n / 128) := Routing.divsi_word _ (by omega) (by omega) (by omega)
  have hr : Scalar.remsi (BitVec.ofNat 32 n) 128#32 = BitVec.ofNat 32 (n % 128) := Routing.remsi_word _ (by omega) (by omega) (by omega)
  rw [hd, hr]
  rcases Nat.eq_zero_or_pos n with rfl | h0
  · rfl
  · have e1 : Scalar.cmpi .sgt (BitVec.ofNat 32 n) 0#32 = 1#1 := by
      have h : (0#32).slt (BitVec.ofNat 32 n) = true := by
        simp only [BitVec.slt, decide_eq_true_eq, BitVec.toInt_eq_toNat_cond, BitVec.toNat_ofNat]; omega
      simp [Scalar.cmpi, IntOp.cmpi, h]
    have e2 : Scalar.cmpi .slt (BitVec.ofNat 32 n) 0#32 = 0#1 := by
      have h : (BitVec.ofNat 32 n).slt 0#32 = false := by
        simp only [BitVec.slt, decide_eq_false_iff_not, BitVec.toInt_eq_toNat_cond, BitVec.toNat_ofNat]; omega
      simp [Scalar.cmpi, IntOp.cmpi, h]
    rw [e1, e2]
    generalize Scalar.cmpi .ne (BitVec.ofNat 32 (n % 128)) 0#32 = z
    have e3 : Scalar.andi (Scalar.cmpi .ne (Scalar.subi (Scalar.extui 1#1) (Scalar.extui 0#1)) (Scalar.subi (Scalar.extui (Scalar.cmpi .sgt 128#32 0#32)) (Scalar.extui (Scalar.cmpi .slt 128#32 0#32)))) z = 0#1 := by
      revert z; decide
    simp only [e3]
    rfl

/-- The first copied position, from the start: the multiple of 128 below it, at most 31616. -/
theorem base_word {v : BitVec 32} {n : Nat} (hn : n ≤ 31744) (h : start v = BitVec.ofNat 32 n) :
    base v = BitVec.ofNat 32 (min (n / 128 * 128) 31616) := by
  unfold base
  rw [h, floor128_word hn]
  have : Scalar.muli (BitVec.ofNat 32 (n / 128)) 128#32 = BitVec.ofNat 32 (n / 128 * 128) := by
    show BitVec.ofNat 32 (n / 128) * BitVec.ofNat 32 128 = _
    rw [← BitVec.ofNat_mul]
  rw [this]
  exact minsi_word (by omega) (by omega)

/-- The first copied position is `128 * q` for some `q ≤ 247`. -/
theorem base_mul (v : BitVec 32) : ∃ q : Nat, q ≤ 247 ∧ (base v).toNat = 128 * q := by
  obtain ⟨n, hn, h⟩ := start_word v
  refine ⟨min (n / 128) 247, by omega, ?_⟩
  rw [base_word hn h, BitVec.toNat_ofNat]
  omega

abbrev SC : Shape := ⟨4, ![8, 4, 32, 32768]⟩
abbrev SS : Shape := ⟨4, ![8, 4, 4, 32768]⟩
abbrev TC : Shape := ⟨4, ![1, 4, 32, 1152]⟩
abbrev TS : Shape := ⟨4, ![1, 4, 4, 1152]⟩

/-- What the kernel assumes of a sequence's length, for sequence `b`: the first copied position is a multiple of 128, and the rectangles of codes and of
    scales copied from it lie in their arrays and hold whole words. True of every length. -/
theorem checks (b : Nat) (hb : b < 8) (v : BitVec 32) :
    (128 ∣ (base v).toNat) ∧
    (∀ a, (![b, 0, 0, (base v).toNat] : Fin 4 → Nat) a + TC.size a ≤ SC.size a) ∧
    (∀ (hinb : ∀ a, (![b, 0, 0, (base v).toNat] : Fin 4 → Nat) a + TC.size a ≤ SC.size a),
      (Rect.unit (s := SC) ![b, 0, 0, (base v).toNat] TC.size hinb).WholeWords (EltTy.packing .i8)) ∧
    (∀ a, (![b, 0, 0, (base v).toNat] : Fin 4 → Nat) a + TS.size a ≤ SS.size a) ∧
    (∀ (hinb : ∀ a, (![b, 0, 0, (base v).toNat] : Fin 4 → Nat) a + TS.size a ≤ SS.size a),
      (Rect.unit (s := SS) ![b, 0, 0, (base v).toNat] TS.size hinb).WholeWords (EltTy.packing .fp8e4m3)) := by
  obtain ⟨q, hq, e⟩ := base_mul v
  rw [e]
  refine ⟨⟨q, rfl⟩, ?_, fun _ => .inr ⟨by decide, rfl, rfl, rfl⟩, ?_, fun _ => .inr ⟨by decide, rfl, rfl, rfl⟩⟩
  · intro a
    fin_cases a
    · show b + 1 ≤ 8; omega
    · show 0 + 4 ≤ 4; omega
    · show 0 + 32 ≤ 32; omega
    · show 128 * q + 1152 ≤ 32768; omega
  · intro a
    fin_cases a
    · show b + 1 ≤ 8; omega
    · show 0 + 4 ≤ 4; omega
    · show 0 + 4 ≤ 4; omega
    · show 128 * q + 1152 ≤ 32768; omega

end Cert.Words
-- ==== Proof.HypsKernel.lean ====
/-
  The lengths that the kernel reads meet the conditions under which its copies stay in bounds, whatever the memory holds.
-/
module

public import proofs.«01_k».proof.Proof.Words
public import proofs.«01_k».proof.Proof.Gen.Kernel.Frame.Runs

@[expose] public section

namespace Cert.Kernel.Gen

open Idealize.ShloMosaic Idealize.SL.Sem

variable {F : FTy → Type} [FloatOps F]

/-- At every memory the kernel's copies stay in bounds and move whole words. -/
theorem hyps (m : (ℓ : Loc nD τ sig) → Buf (Elt F) ℓ) : Hyps m :=
  Hyps.of (fun _ _ => Words.checks 0 (by decide) _) (fun _ _ => Words.checks 1 (by decide) _) (fun _ _ => Words.checks 2 (by decide) _)
    (fun _ _ => Words.checks 3 (by decide) _) (fun _ _ => Words.checks 4 (by decide) _) (fun _ _ => Words.checks 5 (by decide) _)
    (fun _ _ => Words.checks 6 (by decide) _) (fun _ _ => Words.checks 7 (by decide) _) (fun _ _ => Words.checks 0 (by decide) _)
    (fun _ _ => Words.checks 1 (by decide) _) (fun _ _ => Words.checks 2 (by decide) _) (fun _ _ => Words.checks 3 (by decide) _)
    (fun _ _ => Words.checks 4 (by decide) _) (fun _ _ => Words.checks 5 (by decide) _) (fun _ _ => Words.checks 6 (by decide) _)
    (fun _ _ => Words.checks 7 (by decide) _)

end Cert.Kernel.Gen
-- ==== Proof.HypsKernelIdeal.lean ====
/-
  The lengths that the kernel reads meet the conditions under which its copies stay in bounds, whatever the memory holds.
-/
module

public import proofs.«01_k».proof.Proof.Words
public import proofs.«01_k».proof.Proof.Gen.KernelIdeal.Frame.Runs

@[expose] public section

namespace Cert.KernelIdeal.Gen

open Idealize.ShloMosaic Idealize.SL.Sem

variable {F : FTy → Type} [FloatOps F]

/-- At every memory the kernel's copies stay in bounds and move whole words. -/
theorem hyps (m : (ℓ : Loc nD τ sig) → Buf (Elt F) ℓ) : Hyps m :=
  Hyps.of (fun _ _ => Words.checks 0 (by decide) _) (fun _ _ => Words.checks 1 (by decide) _) (fun _ _ => Words.checks 2 (by decide) _)
    (fun _ _ => Words.checks 3 (by decide) _) (fun _ _ => Words.checks 4 (by decide) _) (fun _ _ => Words.checks 5 (by decide) _)
    (fun _ _ => Words.checks 6 (by decide) _) (fun _ _ => Words.checks 7 (by decide) _) (fun _ _ => Words.checks 0 (by decide) _)
    (fun _ _ => Words.checks 1 (by decide) _) (fun _ _ => Words.checks 2 (by decide) _) (fun _ _ => Words.checks 3 (by decide) _)
    (fun _ _ => Words.checks 4 (by decide) _) (fun _ _ => Words.checks 5 (by decide) _) (fun _ _ => Words.checks 6 (by decide) _)
    (fun _ _ => Words.checks 7 (by decide) _)

end Cert.KernelIdeal.Gen
-- ==== Proof.Batch.lean ====
module

public import proofs.«01_k».proof.Proof.Gen.KernelIdeal.Frame.RunA

@[expose] public section

noncomputable section

namespace Cert.KernelIdeal.Batch

open Idealize.ShloMosaic Cert.KernelIdeal.Gen

variable {F : FTy → Type} [FloatOps F]

/-- The one-hot matrix that puts the 128 query rows in the kernel's order. -/
def perm : FVec F S128x128 .bf16 :=
  k0_pay12 (iota .tc S128x128 32 [0] iota_S128x128_d0_w32) (iota .tc S128x128 32 [1] iota_S128x128_d1_w32)
    (k0_pay11 (iota .tc S128x128 32 [0] iota_S128x128_d0_w32) k0_pay8 k0_pay9 k0_pay10) 16#32

/-- The one-hot matrix that repeats the 64 columns of the queries four times. -/
def spread : FVec F S64x256 .bf16 :=
  k0_pay13 (iota .tc S64x256 32 [0] iota_S64x256_d0_w32) (iota .tc S64x256 32 [1] iota_S64x256_d1_w32) 64#32

/-- Where the row's kv head is the column's. -/
def diag : IVec S128x256 1 :=
  k0_pay16 k0_pay14 (iota .tc S128x256 32 [1] iota_S128x256_d1_w32) 64#32 k0_pay15

/-- The lane number of a tile. -/
def lane : IVec S128x128 32 := iota .tc S128x128 32 [1] iota_S128x128_d1_w32

/-- The rows of the new keys. -/
def nrow : IVec S128x16 32 := iota .tc S128x16 32 [0] iota_S128x16_d0_w32

/-- The columns of the new keys. -/
def ncol : IVec S128x16 32 := iota .tc S128x16 32 [1] iota_S128x16_d1_w32

/-- Which new keys a row sees. -/
def maskN : IVec S128x16 1 :=
  k0_pay22 nrow ncol (k0_pay18 nrow ncol 4#32 (Scalar.cmpi .eq 4#32 0#32) 1#32) 4#32 (k0_pay19 ncol) (k0_pay20 ncol) (k0_pay21 ncol)

/-- The decoded window of one kv head, from the loads of its codes and scales. -/
def tile (off : BitVec 32) (c0 c8 : Vec F S1x1x32x128 .i8) (cm : Vec F S1x1x32x896 .i8) (s : Vec F S1x1x4x1152 .fp8e4m3) :
    FVec F S64x1024 .bf16 :=
  k0_pay36 (k0_pay34 (k0_pay30 off) s) (k0_pay35 (k0_pay31 off) (k0_pay32 c0) (k0_pay33 c8) cm)

/-- The loads of the codes and scales of one sequence, per kv head. -/
structure Loads (F : FTy → Type) where
  c0 : Fin 4 → Vec F S1x1x32x128 .i8
  c8 : Fin 4 → Vec F S1x1x32x128 .i8
  cm : Fin 4 → Vec F S1x1x32x896 .i8
  s : Fin 4 → Vec F S1x1x4x1152 .fp8e4m3

/-- The masked scores of the cached keys. -/
def scores (off : BitVec 32) (gk : F .f32) (X : Vec F S1x4x32x64 .bf16) (K : Loads F) : FVec F S128x1024 .f32 :=
  k0_pay52 k0_pay17 lane (k0_pay24 gk) off (k0_pay26 perm spread diag X)
    (tile off (K.c0 0) (K.c8 0) (K.cm 0) (K.s 0)) (tile off (K.c0 1) (K.c8 1) (K.cm 1) (K.s 1)) (tile off (K.c0 2) (K.c8 2) (K.cm 2) (K.s 2))
    (k0_pay34 (k0_pay30 off) (K.s 3))
    (mulf (k0_pay35 (k0_pay31 off) (k0_pay32 (K.c0 3)) (k0_pay33 (K.c8 3)) (K.cm 3)) (broadcast S64x1024 (Scalar.ofBits .f32 0x3F000000#32)))

/-- The masked scores of the new keys. -/
def newScores (X : Vec F S1x4x32x64 .bf16) (KN : Vec F S1x4x4x64 .bf16) : FVec F S128x16 .f32 :=
  k0_pay29 maskN (k0_pay25 perm X) (k0_pay27 KN)

/-- The row maxima. -/
def top (sc : FVec F S128x1024 .f32) (sn : FVec F S128x16 .f32) : FVec F S128x1 .f32 :=
  maximumf (shapeCast S128x1 (multiReduction .maximumf [1] S128 sc 0xFF800000#32 reduces_S128x1024_S128 (.inl rfl) rfl) shapeCasts_S128_S128x1)
    (shapeCast S128x1 (multiReduction .maximumf [1] S128 sn 0xFF800000#32 reduces_S128x16_S128 (.inl rfl) rfl) shapeCasts_S128_S128x1)

/-- The exponentials of the cached keys. -/
def expC (sc : FVec F S128x1024 .f32) (sn : FVec F S128x16 .f32) : FVec F S128x1024 .f32 :=
  exp (subf sc (broadcastTo S128x1024 (top sc sn) broadcasts_S128x1_S128x1024))

/-- The exponentials of the new keys. -/
def expN (sc : FVec F S128x1024 .f32) (sn : FVec F S128x16 .f32) : FVec F S128x16 .f32 :=
  exp (subf sn (broadcastTo S128x16 (top sc sn) broadcasts_S128x1_S128x16))

/-- The row sums of the exponentials of the cached keys. -/
def sumC (ec : FVec F S128x1024 .f32) : FVec F S128x1 .f32 :=
  shapeCast S128x1 (multiReduction .add [1] S128 ec 0x00000000#32 reduces_S128x1024_S128 (.inl rfl) rfl) shapeCasts_S128_S128x1

/-- The weights of the cached keys. -/
def probC (gv : F .f32) (ec : FVec F S128x1024 .f32) (en : FVec F S128x16 .f32) : FVec F S128x1024 .bf16 :=
  k0_pay58 gv ec en (sumC ec)

/-- The weights of the new keys. -/
def probN (ec : FVec F S128x1024 .f32) (en : FVec F S128x16 .f32) : FVec F S128x16 .bf16 :=
  k0_pay59 en (sumC ec)

/-- The cached part of the output. -/
def outC (off : BitVec 32) (p : FVec F S128x1024 .bf16) (V : Loads F) : FVec F S128x256 .f32 :=
  matmul dot_S128x1024_S256x1024_S128x256_1_1_0_0_n_n none p
    (concatenate S256x1024 0 [⟨S64x1024, tile off (V.c0 0) (V.c8 0) (V.cm 0) (V.s 0)⟩, ⟨S64x1024, tile off (V.c0 1) (V.c8 1) (V.cm 1) (V.s 1)⟩,
      ⟨S64x1024, tile off (V.c0 2) (V.c8 2) (V.cm 2) (V.s 2)⟩, ⟨S64x1024, tile off (V.c0 3) (V.c8 3) (V.cm 3) (V.s 3)⟩]
      concatenates_S64x1024_S64x1024_S64x1024_S64x1024_S256x1024_d0)
    (constant S128x256 .f32 0x00000000#32)

/-- The new part of the output. -/
def outN (p : FVec F S128x16 .bf16) (VN : Vec F S1x4x4x64 .bf16) : FVec F S128x128 .f32 :=
  k0_pay86 (k0_pay28 VN) p

/-- The sixteen rows of one kv head, from its 32 rows of the cached part and its two halves of the new part. -/
def rows (even odd n0 n1 : FVec F S16x128 .f32) : FVec F S16x128 .bf16 :=
  truncf .bf16 (select k0_pay23 (addf even n0) (addf odd n1)) bitsLt_bf16_f32

/-- The rows of a kv head whose columns are in the lower half. -/
def rowsEven (o : FVec F S32x128 .f32) (n0 n1 : FVec F S16x128 .f32) : FVec F S16x128 .bf16 :=
  rows (extractStridedSlice S16x128 ![0, 0] o slices_S32x128_o0_0_S16x128)
    (extractStridedSlice S16x128 ![16, 0] (dynamicRotate 1 64#32 none o rotates_S32x128_d1) slices_S32x128_o16_0_S16x128) n0 n1

/-- The rows of a kv head whose columns are in the upper half. -/
def rowsOdd (o : FVec F S32x128 .f32) (n0 n1 : FVec F S16x128 .f32) : FVec F S16x128 .bf16 :=
  rows (extractStridedSlice S16x128 ![0, 0] (dynamicRotate 1 64#32 none o rotates_S32x128_d1) slices_S32x128_o0_0_S16x128)
    (extractStridedSlice S16x128 ![16, 0] o slices_S32x128_o16_0_S16x128) n0 n1

/-- The sixteen output rows of a kv head. -/
def res (oc : FVec F S128x256 .f32) (on : FVec F S128x128 .f32) : Fin 4 → FVec F S16x128 .bf16
  | 0 => rowsEven (extractStridedSlice S32x128 ![0, 0] oc slices_S128x256_o0_0_S32x128)
      (extractStridedSlice S16x128 ![0, 0] on slices_S128x128_o0_0_S16x128) (extractStridedSlice S16x128 ![16, 0] on slices_S128x128_o16_0_S16x128)
  | 1 => rowsOdd (extractStridedSlice S32x128 ![32, 0] oc slices_S128x256_o32_0_S32x128)
      (extractStridedSlice S16x128 ![32, 0] on slices_S128x128_o32_0_S16x128) (extractStridedSlice S16x128 ![48, 0] on slices_S128x128_o48_0_S16x128)
  | 2 => rowsEven (extractStridedSlice S32x128 ![64, 128] oc slices_S128x256_o64_128_S32x128)
      (extractStridedSlice S16x128 ![64, 0] on slices_S128x128_o64_0_S16x128) (extractStridedSlice S16x128 ![80, 0] on slices_S128x128_o80_0_S16x128)
  | 3 => rowsOdd (extractStridedSlice S32x128 ![96, 128] oc slices_S128x256_o96_128_S32x128)
      (extractStridedSlice S16x128 ![96, 0] on slices_S128x128_o96_0_S16x128) (extractStridedSlice S16x128 ![112, 0] on slices_S128x128_o112_0_S16x128)

/-- The four rows of one store. -/
def part (r : FVec F S16x128 .bf16) : Fin 4 → FVec F S1x4x128 .bf16
  | 0 => shapeCast S1x4x128 (extractStridedSlice S4x128 ![0, 0] r slices_S16x128_o0_0_S4x128) shapeCasts_S4x128_S1x4x128
  | 1 => shapeCast S1x4x128 (extractStridedSlice S4x128 ![4, 0] r slices_S16x128_o4_0_S4x128) shapeCasts_S4x128_S1x4x128
  | 2 => shapeCast S1x4x128 (extractStridedSlice S4x128 ![8, 0] r slices_S16x128_o8_0_S4x128) shapeCasts_S4x128_S1x4x128
  | 3 => shapeCast S1x4x128 (extractStridedSlice S4x128 ![12, 0] r slices_S16x128_o12_0_S4x128) shapeCasts_S4x128_S1x4x128

/-- What one sequence is computed from. -/
structure Args (F : FTy → Type) where
  off : BitVec 32
  gk : F .f32
  gv : F .f32
  X : Vec F S1x4x32x64 .bf16
  KN : Vec F S1x4x4x64 .bf16
  VN : Vec F S1x4x4x64 .bf16
  K : Loads F
  V : Loads F

/-- The masked cached scores of a sequence. -/
def Args.sc (a : Args F) : FVec F S128x1024 .f32 := scores a.off a.gk a.X a.K
/-- The masked new scores of a sequence. -/
def Args.sn (a : Args F) : FVec F S128x16 .f32 := newScores a.X a.KN
/-- The cached part of a sequence's output. -/
def Args.oc (a : Args F) : FVec F S128x256 .f32 :=
  outC a.off (probC a.gv (expC a.sc a.sn) (expN a.sc a.sn)) a.V
/-- The new part of a sequence's output. -/
def Args.on (a : Args F) : FVec F S128x128 .f32 :=
  outN (probN (expC a.sc a.sn) (expN a.sc a.sn)) a.VN
/-- What one store of a sequence writes. -/
def Args.store (a : Args F) (k j : Fin 4) : FVec F S1x4x128 .bf16 := part (res a.oc a.on k) j

end Cert.KernelIdeal.Batch
-- ==== Proof.Link.lean ====
module

public import proofs.«01_k».proof.Proof.Batch
public import proofs.«01_k».proof.Proof.Words
import all proofs.«01_k».proof.Proof.Gen.KernelIdeal.Frame.RunA

@[expose] public section

set_option maxRecDepth 16384

noncomputable section

namespace Cert.KernelIdeal.Batch

open Idealize.ShloMosaic Cert.KernelIdeal.Gen

variable {F : FTy → Type} [FloatOps F]

/-- One store of the kernel's output: sequence `b`, kv head `k`, the pair of heads `j`. -/
def piece (a : Fin 8 → Args F) (b : Fin 8) (k j : Fin 4) : View.Piece (Elt F) S8x4x2048 .bf16 :=
  ⟨Rect.unit ![b.val, 0, (4 * k.val + j.val) * 128] S1x4x128.size (by
    intro i; revert b k j; fin_cases i <;> simp <;> omega), (a b).store k j⟩

/-- The loads of one sequence from the two scratch buffers it is fetched into. -/
def loads (codes : Memref sig .tc .vmem S8x4x32x1152 .i8) (scales : Memref sig .tc .vmem S8x4x4x1152 .fp8e4m3)
    (Lc : List (View.Piece (Elt F) S8x4x32x1152 .i8)) (Ls : List (View.Piece (Elt F) S8x4x4x1152 .fp8e4m3)) (b : Fin 8) : Loads F where
  c0 k := View.readCov codes.view Lc (Rect.unit (s := S8x4x32x1152) ![b.val, k.val, 0, 0] S1x1x32x128.size (by intro i; revert b k; fin_cases i <;> simp <;> omega)).toLoadRect
  c8 k := View.readCov codes.view Lc (Rect.unit (s := S8x4x32x1152) ![b.val, k.val, 0, 1024] S1x1x32x128.size (by intro i; revert b k; fin_cases i <;> simp <;> omega)).toLoadRect
  cm k := View.readCov codes.view Lc (Rect.unit (s := S8x4x32x1152) ![b.val, k.val, 0, 128] S1x1x32x896.size (by intro i; revert b k; fin_cases i <;> simp <;> omega)).toLoadRect
  s k := View.readCov scales.view Ls (Rect.unit (s := S8x4x4x1152) ![b.val, k.val, 0, 0] S1x1x4x1152.size (by intro i; revert b k; fin_cases i <;> simp <;> omega)).toLoadRect

/-- The word of length `b` as the kernel reads it. -/
def lenAt {arg0 : Memref sig .tc .smem S8 .i32} (harg0 : arg0.IsWhole) (x0 : Vec F S8 .i32) (b : Fin 8) : BitVec 32 :=
  arg0.view.readAt (Elt F) (Rect.unit (s := S8) ![b.val] S1.size (by intro i; revert b; fin_cases i <;> simp <;> omega)).toLoadRect (harg0.unread x0) (Shape.Idx.first (numel1_S1.symm ▸ Nat.one_pos))

section
variable (c : Dev nD) (arg0 : Memref sig .tc .smem S8 .i32) (harg0 : arg0.IsWhole) (arg1 : Memref sig .tc .smem S1 .f32) (harg1 : arg1.IsWhole) (arg2 : Memref sig .tc .smem S1 .f32) (harg2 : arg2.IsWhole) (arg3 : Memref sig .tc .vmem S8x4x32x64 .bf16) (harg3 : arg3.IsWhole) (arg4 : Memref sig .tc .vmem S8x4x4x64 .bf16) (harg4 : arg4.IsWhole) (arg5 : Memref sig .tc .vmem S8x4x4x64 .bf16) (harg5 : arg5.IsWhole) (arg10 : Memref sig .tc .vmem S8x4x2048 .bf16) (harg10 : arg10.IsWhole) (arg11 : Memref sig .tc .vmem S8x4x32x1152 .i8) (harg11 : arg11.IsWhole) (arg12 : Memref sig .tc .vmem S8x4x32x1152 .i8) (harg12 : arg12.IsWhole) (arg13 : Memref sig .tc .vmem S8x4x4x1152 .fp8e4m3) (harg13 : arg13.IsWhole) (arg14 : Memref sig .tc .vmem S8x4x4x1152 .fp8e4m3) (harg14 : arg14.IsWhole)
    (x0 : Vec F S8 .i32) (x1 : Vec F S1 .f32) (x2 : Vec F S1 .f32) (x3 : Vec F S8x4x32x64 .bf16) (x4 : Vec F S8x4x4x64 .bf16) (x5 : Vec F S8x4x4x64 .bf16) (fh0 : HbBuf0 (F := F) c hbM0_0) (fh1 : HbBuf0 (F := F) c hbM0_1) (fh2 : HbBuf0 (F := F) c hbM0_2) (fh3 : HbBuf0 (F := F) c hbM0_3) (k0_hw1 : k0_chk1 (arg0.view.readAt (Elt F) (Rect.unit (s := S8) ![0] S1.size inb_S8_S1_0).toLoadRect (harg0.unread x0) (Shape.Idx.first (numel1_S1.symm ▸ Nat.one_pos)))) (k0_hw2 : k0_chk2 (arg0.view.readAt (Elt F) (Rect.unit (s := S8) ![1] S1.size inb_S8_S1_1).toLoadRect (harg0.unread x0) (Shape.Idx.first (numel1_S1.symm ▸ Nat.one_pos)))) (k0_hw3 : k0_chk3 (arg0.view.readAt (Elt F) (Rect.unit (s := S8) ![2] S1.size inb_S8_S1_2).toLoadRect (harg0.unread x0) (Shape.Idx.first (numel1_S1.symm ▸ Nat.one_pos)))) (k0_hw4 : k0_chk4 (arg0.view.readAt (Elt F) (Rect.unit (s := S8) ![3] S1.size inb_S8_S1_3).toLoadRect (harg0.unread x0) (Shape.Idx.first (numel1_S1.symm ▸ Nat.one_pos)))) (k0_hw5 : k0_chk5 (arg0.view.readAt (Elt F) (Rect.unit (s := S8) ![4] S1.size inb_S8_S1_4).toLoadRect (harg0.unread x0) (Shape.Idx.first (numel1_S1.symm ▸ Nat.one_pos)))) (k0_hw6 : k0_chk6 (arg0.view.readAt (Elt F) (Rect.unit (s := S8) ![5] S1.size inb_S8_S1_5).toLoadRect (harg0.unread x0) (Shape.Idx.first (numel1_S1.symm ▸ Nat.one_pos)))) (k0_hw7 : k0_chk7 (arg0.view.readAt (Elt F) (Rect.unit (s := S8) ![6] S1.size inb_S8_S1_6).toLoadRect (harg0.unread x0) (Shape.Idx.first (numel1_S1.symm ▸ Nat.one_pos)))) (k0_hw8 : k0_chk8 (arg0.view.readAt (Elt F) (Rect.unit (s := S8) ![7] S1.size inb_S8_S1_7).toLoadRect (harg0.unread x0) (Shape.Idx.first (numel1_S1.symm ▸ Nat.one_pos)))) (k0_hw9 : k0_chk9 (arg0.view.readAt (Elt F) (Rect.unit (s := S8) ![0] S1.size inb_S8_S1_0).toLoadRect (harg0.unread x0) (Shape.Idx.first (numel1_S1.symm ▸ Nat.one_pos)))) (k0_hw10 : k0_chk10 (arg0.view.readAt (Elt F) (Rect.unit (s := S8) ![1] S1.size inb_S8_S1_1).toLoadRect (harg0.unread x0) (Shape.Idx.first (numel1_S1.symm ▸ Nat.one_pos)))) (k0_hw11 : k0_chk11 (arg0.view.readAt (Elt F) (Rect.unit (s := S8) ![2] S1.size inb_S8_S1_2).toLoadRect (harg0.unread x0) (Shape.Idx.first (numel1_S1.symm ▸ Nat.one_pos)))) (k0_hw12 : k0_chk12 (arg0.view.readAt (Elt F) (Rect.unit (s := S8) ![3] S1.size inb_S8_S1_3).toLoadRect (harg0.unread x0) (Shape.Idx.first (numel1_S1.symm ▸ Nat.one_pos)))) (k0_hw13 : k0_chk13 (arg0.view.readAt (Elt F) (Rect.unit (s := S8) ![4] S1.size inb_S8_S1_4).toLoadRect (harg0.unread x0) (Shape.Idx.first (numel1_S1.symm ▸ Nat.one_pos)))) (k0_hw14 : k0_chk14 (arg0.view.readAt (Elt F) (Rect.unit (s := S8) ![5] S1.size inb_S8_S1_5).toLoadRect (harg0.unread x0) (Shape.Idx.first (numel1_S1.symm ▸ Nat.one_pos)))) (k0_hw15 : k0_chk15 (arg0.view.readAt (Elt F) (Rect.unit (s := S8) ![6] S1.size inb_S8_S1_6).toLoadRect (harg0.unread x0) (Shape.Idx.first (numel1_S1.symm ▸ Nat.one_pos)))) (k0_hw16 : k0_chk16 (arg0.view.readAt (Elt F) (Rect.unit (s := S8) ![7] S1.size inb_S8_S1_7).toLoadRect (harg0.unread x0) (Shape.Idx.first (numel1_S1.symm ▸ Nat.one_pos))))

/-- The copies into the key codes' buffer. -/
def copiesK : List (View.Piece (Elt F) S8x4x32x1152 .i8) :=
  [⟨Rect.unit (s := S8x4x32x1152) ![7, 0, 0, 0] S1x4x32x1152.size (by intro i; fin_cases i <;> simp), kernelRun0_A.sl.dma8 c arg0 harg0 x0 fh0 k0_hw8⟩,
    ⟨Rect.unit (s := S8x4x32x1152) ![6, 0, 0, 0] S1x4x32x1152.size (by intro i; fin_cases i <;> simp), kernelRun0_A.sl.dma7 c arg0 harg0 x0 fh0 k0_hw7⟩,
    ⟨Rect.unit (s := S8x4x32x1152) ![5, 0, 0, 0] S1x4x32x1152.size (by intro i; fin_cases i <;> simp), kernelRun0_A.sl.dma6 c arg0 harg0 x0 fh0 k0_hw6⟩,
    ⟨Rect.unit (s := S8x4x32x1152) ![4, 0, 0, 0] S1x4x32x1152.size (by intro i; fin_cases i <;> simp), kernelRun0_A.sl.dma5 c arg0 harg0 x0 fh0 k0_hw5⟩,
    ⟨Rect.unit (s := S8x4x32x1152) ![3, 0, 0, 0] S1x4x32x1152.size (by intro i; fin_cases i <;> simp), kernelRun0_A.sl.dma4 c arg0 harg0 x0 fh0 k0_hw4⟩,
    ⟨Rect.unit (s := S8x4x32x1152) ![2, 0, 0, 0] S1x4x32x1152.size (by intro i; fin_cases i <;> simp), kernelRun0_A.sl.dma3 c arg0 harg0 x0 fh0 k0_hw3⟩,
    ⟨Rect.unit (s := S8x4x32x1152) ![1, 0, 0, 0] S1x4x32x1152.size (by intro i; fin_cases i <;> simp), kernelRun0_A.sl.dma2 c arg0 harg0 x0 fh0 k0_hw2⟩,
    ⟨Rect.unit (s := S8x4x32x1152) ![0, 0, 0, 0] S1x4x32x1152.size (by intro i; fin_cases i <;> simp), kernelRun0_A.sl.dma1 c arg0 harg0 x0 fh0 k0_hw1⟩]

/-- The copies into the key scales' buffer. -/
def copiesKS : List (View.Piece (Elt F) S8x4x4x1152 .fp8e4m3) :=
  [⟨Rect.unit (s := S8x4x4x1152) ![7, 0, 0, 0] S1x4x4x1152.size (by intro i; fin_cases i <;> simp), kernelRun0_A.sl.dma8_1 c arg0 harg0 x0 fh2 k0_hw8⟩,
    ⟨Rect.unit (s := S8x4x4x1152) ![6, 0, 0, 0] S1x4x4x1152.size (by intro i; fin_cases i <;> simp), kernelRun0_A.sl.dma7_1 c arg0 harg0 x0 fh2 k0_hw7⟩,
    ⟨Rect.unit (s := S8x4x4x1152) ![5, 0, 0, 0] S1x4x4x1152.size (by intro i; fin_cases i <;> simp), kernelRun0_A.sl.dma6_1 c arg0 harg0 x0 fh2 k0_hw6⟩,
    ⟨Rect.unit (s := S8x4x4x1152) ![4, 0, 0, 0] S1x4x4x1152.size (by intro i; fin_cases i <;> simp), kernelRun0_A.sl.dma5_1 c arg0 harg0 x0 fh2 k0_hw5⟩,
    ⟨Rect.unit (s := S8x4x4x1152) ![3, 0, 0, 0] S1x4x4x1152.size (by intro i; fin_cases i <;> simp), kernelRun0_A.sl.dma4_1 c arg0 harg0 x0 fh2 k0_hw4⟩,
    ⟨Rect.unit (s := S8x4x4x1152) ![2, 0, 0, 0] S1x4x4x1152.size (by intro i; fin_cases i <;> simp), kernelRun0_A.sl.dma3_1 c arg0 harg0 x0 fh2 k0_hw3⟩,
    ⟨Rect.unit (s := S8x4x4x1152) ![1, 0, 0, 0] S1x4x4x1152.size (by intro i; fin_cases i <;> simp), kernelRun0_A.sl.dma2_1 c arg0 harg0 x0 fh2 k0_hw2⟩,
    ⟨Rect.unit (s := S8x4x4x1152) ![0, 0, 0, 0] S1x4x4x1152.size (by intro i; fin_cases i <;> simp), kernelRun0_A.sl.dma1_1 c arg0 harg0 x0 fh2 k0_hw1⟩]

/-- The copies into the value codes' buffer. -/
def copiesV : List (View.Piece (Elt F) S8x4x32x1152 .i8) :=
  [⟨Rect.unit (s := S8x4x32x1152) ![7, 0, 0, 0] S1x4x32x1152.size (by intro i; fin_cases i <;> simp), kernelRun0_A.sl.dma8_2 c arg0 harg0 x0 fh1 k0_hw8⟩,
    ⟨Rect.unit (s := S8x4x32x1152) ![6, 0, 0, 0] S1x4x32x1152.size (by intro i; fin_cases i <;> simp), kernelRun0_A.sl.dma7_2 c arg0 harg0 x0 fh1 k0_hw7⟩,
    ⟨Rect.unit (s := S8x4x32x1152) ![5, 0, 0, 0] S1x4x32x1152.size (by intro i; fin_cases i <;> simp), kernelRun0_A.sl.dma6_2 c arg0 harg0 x0 fh1 k0_hw6⟩,
    ⟨Rect.unit (s := S8x4x32x1152) ![4, 0, 0, 0] S1x4x32x1152.size (by intro i; fin_cases i <;> simp), kernelRun0_A.sl.dma5_2 c arg0 harg0 x0 fh1 k0_hw5⟩,
    ⟨Rect.unit (s := S8x4x32x1152) ![3, 0, 0, 0] S1x4x32x1152.size (by intro i; fin_cases i <;> simp), kernelRun0_A.sl.dma4_2 c arg0 harg0 x0 fh1 k0_hw4⟩,
    ⟨Rect.unit (s := S8x4x32x1152) ![2, 0, 0, 0] S1x4x32x1152.size (by intro i; fin_cases i <;> simp), kernelRun0_A.sl.dma3_2 c arg0 harg0 x0 fh1 k0_hw3⟩,
    ⟨Rect.unit (s := S8x4x32x1152) ![1, 0, 0, 0] S1x4x32x1152.size (by intro i; fin_cases i <;> simp), kernelRun0_A.sl.dma2_2 c arg0 harg0 x0 fh1 k0_hw2⟩,
    ⟨Rect.unit (s := S8x4x32x1152) ![0, 0, 0, 0] S1x4x32x1152.size (by intro i; fin_cases i <;> simp), kernelRun0_A.sl.dma1_2 c arg0 harg0 x0 fh1 k0_hw1⟩]

/-- The copies into the value scales' buffer. -/
def copiesVS : List (View.Piece (Elt F) S8x4x4x1152 .fp8e4m3) :=
  [⟨Rect.unit (s := S8x4x4x1152) ![7, 0, 0, 0] S1x4x4x1152.size (by intro i; fin_cases i <;> simp), kernelRun0_A.sl.dma8_3 c arg0 harg0 x0 fh3 k0_hw8⟩,
    ⟨Rect.unit (s := S8x4x4x1152) ![6, 0, 0, 0] S1x4x4x1152.size (by intro i; fin_cases i <;> simp), kernelRun0_A.sl.dma7_3 c arg0 harg0 x0 fh3 k0_hw7⟩,
    ⟨Rect.unit (s := S8x4x4x1152) ![5, 0, 0, 0] S1x4x4x1152.size (by intro i; fin_cases i <;> simp), kernelRun0_A.sl.dma6_3 c arg0 harg0 x0 fh3 k0_hw6⟩,
    ⟨Rect.unit (s := S8x4x4x1152) ![4, 0, 0, 0] S1x4x4x1152.size (by intro i; fin_cases i <;> simp), kernelRun0_A.sl.dma5_3 c arg0 harg0 x0 fh3 k0_hw5⟩,
    ⟨Rect.unit (s := S8x4x4x1152) ![3, 0, 0, 0] S1x4x4x1152.size (by intro i; fin_cases i <;> simp), kernelRun0_A.sl.dma4_3 c arg0 harg0 x0 fh3 k0_hw4⟩,
    ⟨Rect.unit (s := S8x4x4x1152) ![2, 0, 0, 0] S1x4x4x1152.size (by intro i; fin_cases i <;> simp), kernelRun0_A.sl.dma3_3 c arg0 harg0 x0 fh3 k0_hw3⟩,
    ⟨Rect.unit (s := S8x4x4x1152) ![1, 0, 0, 0] S1x4x4x1152.size (by intro i; fin_cases i <;> simp), kernelRun0_A.sl.dma2_3 c arg0 harg0 x0 fh3 k0_hw2⟩,
    ⟨Rect.unit (s := S8x4x4x1152) ![0, 0, 0, 0] S1x4x4x1152.size (by intro i; fin_cases i <;> simp), kernelRun0_A.sl.dma1_3 c arg0 harg0 x0 fh3 k0_hw1⟩]

/-- What sequence `b` is computed from, in the buffers of the run. -/
def args (b : Fin 8) : Args F where
  off := Scalar.subi (Words.start (lenAt harg0 x0 b)) (Words.base (lenAt harg0 x0 b))
  gk := arg1.view.readAt (Elt F) (Rect.unit (s := S1) ![0] S1.size inb_S1_S1_0).toLoadRect (harg1.unread x1) (Shape.Idx.first (numel1_S1.symm ▸ Nat.one_pos))
  gv := arg2.view.readAt (Elt F) (Rect.unit (s := S1) ![0] S1.size inb_S1_S1_0).toLoadRect (harg2.unread x2) (Shape.Idx.first (numel1_S1.symm ▸ Nat.one_pos))
  X := arg3.view.readAt (Elt F) (Rect.unit (s := S8x4x32x64) ![b.val, 0, 0, 0] S1x4x32x64.size (by intro i; revert b; fin_cases i <;> simp <;> omega)).toLoadRect (harg3.unread x3)
  KN := arg4.view.readAt (Elt F) (Rect.unit (s := S8x4x4x64) ![b.val, 0, 0, 0] S1x4x4x64.size (by intro i; revert b; fin_cases i <;> simp <;> omega)).toLoadRect (harg4.unread x4)
  VN := arg5.view.readAt (Elt F) (Rect.unit (s := S8x4x4x64) ![b.val, 0, 0, 0] S1x4x4x64.size (by intro i; revert b; fin_cases i <;> simp <;> omega)).toLoadRect (harg5.unread x5)
  K := loads arg11 arg13 (copiesK c arg0 harg0 x0 fh0 k0_hw1 k0_hw2 k0_hw3 k0_hw4 k0_hw5 k0_hw6 k0_hw7 k0_hw8) (copiesKS c arg0 harg0 x0 fh2 k0_hw1 k0_hw2 k0_hw3 k0_hw4 k0_hw5 k0_hw6 k0_hw7 k0_hw8) b
  V := loads arg12 arg14 (copiesV c arg0 harg0 x0 fh1 k0_hw1 k0_hw2 k0_hw3 k0_hw4 k0_hw5 k0_hw6 k0_hw7 k0_hw8) (copiesVS c arg0 harg0 x0 fh3 k0_hw1 k0_hw2 k0_hw3 k0_hw4 k0_hw5 k0_hw6 k0_hw7 k0_hw8) b

/-- The stores of the run, last first: one for each sequence, kv head and pair of heads. -/
theorem run_pieces : (kernelRun0_A c arg0 harg0 arg1 harg1 arg2 harg2 arg3 harg3 arg4 harg4 arg5 harg5 arg10 harg10 arg11 harg11 arg12 harg12 arg13 harg13 arg14 harg14 x0 x1 x2 x3 x4 x5 fh0 fh1 fh2 fh3 k0_hw1 k0_hw2 k0_hw3 k0_hw4 k0_hw5 k0_hw6 k0_hw7 k0_hw8 k0_hw9 k0_hw10 k0_hw11 k0_hw12 k0_hw13 k0_hw14 k0_hw15 k0_hw16).1 =
    [7, 6, 5, 4, 3, 2, 1, 0].flatMap fun b => [3, 2, 1, 0].flatMap fun k => [3, 2, 1, 0].map fun j =>
      piece (args c arg0 harg0 arg1 harg1 arg2 harg2 arg3 harg3 arg4 harg4 arg5 harg5 arg11 arg12 arg13 arg14 x0 x1 x2 x3 x4 x5 fh0 fh1 fh2 fh3 k0_hw1 k0_hw2 k0_hw3 k0_hw4 k0_hw5 k0_hw6 k0_hw7 k0_hw8) b k j := by
  sl_kernel_rfl

/-- Every store of the run is that of some sequence, kv head and pair of heads. -/
theorem of_mem_run {p} (h : p ∈ (kernelRun0_A c arg0 harg0 arg1 harg1 arg2 harg2 arg3 harg3 arg4 harg4 arg5 harg5 arg10 harg10 arg11 harg11 arg12 harg12 arg13 harg13 arg14 harg14 x0 x1 x2 x3 x4 x5 fh0 fh1 fh2 fh3 k0_hw1 k0_hw2 k0_hw3 k0_hw4 k0_hw5 k0_hw6 k0_hw7 k0_hw8 k0_hw9 k0_hw10 k0_hw11 k0_hw12 k0_hw13 k0_hw14 k0_hw15 k0_hw16).1) :
    ∃ b k j, p = piece (args c arg0 harg0 arg1 harg1 arg2 harg2 arg3 harg3 arg4 harg4 arg5 harg5 arg11 arg12 arg13 arg14 x0 x1 x2 x3 x4 x5 fh0 fh1 fh2 fh3 k0_hw1 k0_hw2 k0_hw3 k0_hw4 k0_hw5 k0_hw6 k0_hw7 k0_hw8) b k j := by
  rw [run_pieces] at h
  simp only [List.mem_flatMap, List.mem_map] at h
  obtain ⟨b, -, k, -, j, -, rfl⟩ := h
  exact ⟨b, k, j, rfl⟩
end

end Cert.KernelIdeal.Batch
-- ==== Proof.Spec.lean ====
module

public import Idealize.ShloMosaic.Lib.Pointwise

@[expose] public section

noncomputable section

namespace Cert.Spec

open Idealize.ShloMosaic

/-- Twice the magnitude of a four-bit float. -/
def twiceMag (n : BitVec 32) : BitVec 32 :=
  Scalar.select (IntOp.cmpi .eq (IntOp.andi (IntOp.shrsi .vector n 1#32) 3#32) 0#32) (IntOp.andi n 1#32)
    (IntOp.shrsi .vector (IntOp.shli .vector (IntOp.addi 2#32 (IntOp.andi n 1#32)) (IntOp.andi (IntOp.shrsi .vector n 1#32) 3#32)) 1#32)

/-- Twice the value of a four-bit float. -/
def twice (n : BitVec 32) : BitVec 32 :=
  Scalar.select (IntOp.cmpi .sge n 8#32) (IntOp.subi 0#32 (twiceMag n)) (twiceMag n)

/-- The nibble of a byte that holds column `d`. -/
def nib (c : BitVec 8) (d : ℕ) : BitVec 32 :=
  if d % 2 < 1 then IntOp.andi (c.setWidth 32) 15#32 else IntOp.shrsi .vector (c.setWidth 32) 4#32

/-- One half. -/
def half : EReal := Ideal.ofBits .f32 0x3F000000#32

/-- The value of column `d` of a byte. -/
def dec (c : BitVec 8) (d : ℕ) : EReal := FloatOps.sitofp (F := Ideal) FTy.f32 (twice (nib c d)) * half

end Cert.Spec
-- ==== Proof.Attn.lean ====
module

public import proofs.«01_k».proof.Proof.Spec

@[expose] public section

noncomputable section

namespace Cert.Spec

open Idealize.ShloMosaic

/-- Minus infinity. -/
def ninf : EReal := Ideal.ofBits .f32 0xFF800000#32

/-- It is the least. -/
theorem ninf_eq : ninf = ⊥ := by unfold ninf; simp [Ideal.ofBits, Ideal.ieee]

/-- A share of a total, nothing of nothing. -/
def share (e den : EReal) : EReal := if den = 0 then 0 else Ideal.div e den

/-- The exponential is not negative. -/
theorem exp_nonneg (x : EReal) : 0 ≤ Ideal.exp x := by
  induction x with
  | bot => exact le_refl _
  | top => exact le_top
  | coe r => exact EReal.coe_nonneg.mpr (Real.exp_pos r).le

/-- The greatest of the scores. -/
def top (sc : Fin 1024 → EReal) (sn : Fin 4 → EReal) : EReal := max (Finset.univ.fold max ninf sc) (Finset.univ.fold max ninf sn)

/-- The softmax's total. -/
def den (sc : Fin 1024 → EReal) (sn : Fin 4 → EReal) : EReal :=
  (∑ t, Ideal.exp (sc t - top sc sn)) + ∑ j, Ideal.exp (sn j - top sc sn)

/-- One element of the attention's output: of the scores of the window and of the new keys, and of their values. -/
def attn (sc : Fin 1024 → EReal) (sn : Fin 4 → EReal) (gv : EReal) (v : Fin 1024 → EReal) (vn : Fin 4 → EReal) : EReal :=
  (∑ t, share (Ideal.exp (sc t - top sc sn)) (den sc sn) * gv * v t) + ∑ j, share (Ideal.exp (sn j - top sc sn)) (den sc sn) * vn j

/-- A share by the reciprocal of the total, of which it is a part. -/
theorem mul_recip {e d : EReal} (h0 : 0 ≤ e) (h : e ≤ d) : e * Ideal.div 1 d = share e d := by
  unfold share Ideal.div
  by_cases hd : d = 0
  · rw [if_pos hd, if_pos hd, le_antisymm (hd ▸ h) h0, zero_mul]
  · rw [if_neg hd, if_neg hd, if_neg hd, one_mul]

/-- The same at sixteen new columns, of which one kv head's four count, and at the window's lanes in another order. -/
theorem attn_of (σ : Equiv.Perm (Fin 1024)) (k : Fin 4) (sc : Fin 1024 → EReal) (sn : Fin 4 → EReal) (gv : EReal) (v : Fin 1024 → EReal) (vn : Fin 4 → EReal)
    (sc' v' : Fin 1024 → EReal) (sn' vn' : Fin 16 → EReal) (hsc : ∀ t, sc' t = sc (σ t)) (hv : ∀ t, v' t = v (σ t))
    (hsn : ∀ n : Fin 16, sn' n = if n.val % 4 = k.val then sn ⟨n.val / 4, by omega⟩ else ninf)
    (hvn : ∀ n : Fin 16, n.val % 4 = k.val → vn' n = vn ⟨n.val / 4, by omega⟩)
    (m d : EReal) (hm : m = max (Finset.univ.fold max ninf sc') (Finset.univ.fold max ninf sn'))
    (hd : d = (∑ t, Ideal.exp (sc' t - m)) + ∑ n, Ideal.exp (sn' n - m)) :
    (∑ t, Ideal.exp (sc' t - m) * Ideal.div 1 d * gv * v' t) + ∑ n, Ideal.exp (sn' n - m) * Ideal.div 1 d * vn' n = attn sc sn gv v vn := by
  -- a sum over the sixteen columns whose terms vanish off the head's
  have h16 : ∀ f : Fin 16 → EReal, (∀ n : Fin 16, n.val % 4 ≠ k.val → f n = 0) → ∑ n, f n = ∑ j : Fin 4, f ⟨4 * j.val + k.val, by omega⟩ := by
    intro f hf
    rw [← Equiv.sum_comp (finProdFinEquiv (m := 4) (n := 4)), Fintype.sum_prod_type]
    refine Finset.sum_congr rfl fun j _ => ?_
    rw [Finset.sum_eq_single k]
    · congr 1; exact Fin.ext (by simp [finProdFinEquiv]; omega)
    · intro b _ hb
      exact hf _ (fun h => hb (Fin.ext (by simp [finProdFinEquiv] at h; omega)))
    · simp
  have hcol : ∀ j : Fin 4, sn' ⟨4 * j.val + k.val, by omega⟩ = sn j := by
    intro j
    rw [hsn, if_pos (by show (4 * j.val + k.val) % 4 = k.val; omega)]
    congr 1; exact Fin.ext (by show (4 * j.val + k.val) / 4 = j.val; omega)
  have hcolv : ∀ j : Fin 4, vn' ⟨4 * j.val + k.val, by omega⟩ = vn j := by
    intro j
    rw [hvn _ (by show (4 * j.val + k.val) % 4 = k.val; omega)]
    congr 1; exact Fin.ext (by show (4 * j.val + k.val) / 4 = j.val; omega)
  have hexp0 : ∀ n : Fin 16, n.val % 4 ≠ k.val → Ideal.exp (sn' n - m) = 0 := by
    intro n hn
    rw [hsn, if_neg hn, ninf_eq, EReal.bot_sub]; rfl
  have hmt : m = top sc sn := by
    rw [hm]; unfold top
    congr 1
    · have : sc' = sc ∘ σ := funext hsc
      rw [this]
      have := Finset.fold_map (op := max) (b := ninf) (f := sc) (g := σ.toEmbedding) (s := Finset.univ)
      rw [Finset.map_univ_equiv] at this
      exact this.symm
    · apply le_antisymm
      · rw [Finset.fold_max_le]
        refine ⟨by rw [ninf_eq]; exact bot_le, fun n _ => ?_⟩
        rw [hsn]
        split_ifs
        · exact (Finset.fold_max_le _).mp le_rfl |>.2 _ (Finset.mem_univ _)
        · rw [ninf_eq]; exact bot_le
      · rw [Finset.fold_max_le]
        refine ⟨by rw [ninf_eq]; exact bot_le, fun j _ => ?_⟩
        rw [← hcol j]
        exact (Finset.fold_max_le _).mp le_rfl |>.2 _ (Finset.mem_univ _)
  have hdt : d = den sc sn := by
    rw [hd, hmt]; unfold den
    congr 1
    · rw [← Equiv.sum_comp σ fun t => Ideal.exp (sc t - top sc sn)]
      exact Finset.sum_congr rfl fun t _ => by rw [hsc]
    · rw [h16 _ (fun n hn => by rw [← hmt]; exact hexp0 n hn)]
      exact Finset.sum_congr rfl fun j _ => by rw [hcol]
  have hc : ∀ t, Ideal.exp (sc t - top sc sn) ≤ den sc sn := by
    intro t
    unfold den
    refine le_trans (Finset.single_le_sum (f := fun t => Ideal.exp (sc t - top sc sn)) (fun i _ => exp_nonneg _) (Finset.mem_univ t)) ?_
    exact le_add_of_nonneg_right (Finset.sum_nonneg fun i _ => exp_nonneg _)
  have hn : ∀ j, Ideal.exp (sn j - top sc sn) ≤ den sc sn := by
    intro j
    unfold den
    refine le_trans (Finset.single_le_sum (f := fun j => Ideal.exp (sn j - top sc sn)) (fun i _ => exp_nonneg _) (Finset.mem_univ j)) ?_
    exact le_add_of_nonneg_left (Finset.sum_nonneg fun i _ => exp_nonneg _)
  unfold attn
  congr 1
  · rw [← Equiv.sum_comp σ fun t => share (Ideal.exp (sc t - top sc sn)) (den sc sn) * gv * v t]
    refine Finset.sum_congr rfl fun t _ => ?_
    rw [hsc, hv, hmt, hdt, mul_recip (exp_nonneg _) (hc _)]
  · rw [h16 _ (fun n hn => by rw [hexp0 n hn, zero_mul, zero_mul])]
    refine Finset.sum_congr rfl fun j _ => ?_
    rw [hcol, hcolv, hmt, hdt, mul_recip (exp_nonneg _) (hn _)]

end Cert.Spec
-- ==== Proof.Cell.lean ====
module

public import proofs.«01_k».proof.Proof.Attn
public import proofs.«01_k».proof.Proof.Spec
public import proofs.«01_k».proof.Proof.Words

@[expose] public section

noncomputable section

namespace Cert.Spec

open Idealize.ShloMosaic

/-- The scale of the scores: one eighth. -/
def sm : EReal := Ideal.ofBits .f32 0x3E000000#32

/-- The start of a window, as a natural number. -/
def startNat (v : BitVec 32) : ℕ := (Words.start v).toNat

/-- The start is at most 31744. -/
theorem startNat_le (v : BitVec 32) : startNat v ≤ 31744 := by
  obtain ⟨n, hn, e⟩ := Words.start_word v
  unfold startNat
  rw [e, BitVec.toNat_ofNat]
  omega

/-- The window of decoded keys or values of one sequence, by position in the window: the code of the element's pair, times the scale of its block. -/
def window (codes : (⟨4, ![8, 32768, 4, 32]⟩ : Shape).Idx → BitVec 8) (scales : (⟨4, ![8, 32768, 4, 4]⟩ : Shape).Idx → EReal)
    (n : ℕ) (hn : n ≤ 31744) (b : Fin 8) (k : Fin 4) (τ : Fin 1024) (d : Fin 64) : EReal :=
  dec (codes (ix4 b ⟨n + τ.val, by omega⟩ k ⟨d.val / 2, by omega⟩)) d.val * scales (ix4 b ⟨n + τ.val, by omega⟩ k ⟨d.val / 16, by omega⟩)

/-- One element of the attention: sequence `b`, new position `i`, head `h`, component `d`. -/
def cell (len : (⟨1, ![8]⟩ : Shape).Idx → BitVec 32) (gk gv : EReal) (X : (⟨4, ![8, 4, 32, 64]⟩ : Shape).Idx → EReal)
    (KN VN : (⟨4, ![8, 4, 4, 64]⟩ : Shape).Idx → EReal)
    (kc vc : (⟨4, ![8, 32768, 4, 32]⟩ : Shape).Idx → BitVec 8) (ks vs : (⟨4, ![8, 32768, 4, 4]⟩ : Shape).Idx → EReal)
    (b : Fin 8) (i : Fin 4) (h : Fin 32) (d : Fin 64) : EReal :=
  attn
    (fun τ => if i.val < τ.val then (∑ e, X (ix4 b i h e) * window kc ks _ (startNat_le (len (ix1 b))) b ⟨h.val / 8, by omega⟩ τ e) * (gk * sm) else ninf)
    (fun n => if n.val ≤ i.val then (∑ e, X (ix4 b i h e) * KN (ix4 b n ⟨h.val / 8, by omega⟩ e)) * sm else ninf)
    gv (fun τ => window vc vs _ (startNat_le (len (ix1 b))) b ⟨h.val / 8, by omega⟩ τ d) (fun n => VN (ix4 b n ⟨h.val / 8, by omega⟩ d))

/-- The element of an output column. -/
def colCell (len : (⟨1, ![8]⟩ : Shape).Idx → BitVec 32) (gk gv : EReal) (X : (⟨4, ![8, 4, 32, 64]⟩ : Shape).Idx → EReal)
    (KN VN : (⟨4, ![8, 4, 4, 64]⟩ : Shape).Idx → EReal)
    (kc vc : (⟨4, ![8, 32768, 4, 32]⟩ : Shape).Idx → BitVec 8) (ks vs : (⟨4, ![8, 32768, 4, 4]⟩ : Shape).Idx → EReal)
    (y : (⟨3, ![8, 4, 2048]⟩ : Shape).Idx) : EReal :=
  cell len gk gv X KN VN kc vc ks vs (y 0) (y 1) ⟨(y 2).val / 64, by have : (y 2).val < 2048 := (y 2).isLt; omega⟩ ⟨(y 2).val % 64, by omega⟩

end Cert.Spec
-- ==== Proof.Consts.lean ====
module

public import proofs.«01_k».proof.Proof.Batch
public import Idealize.ShloMosaic.Lib.Pointwise

@[expose] public section

noncomputable section

namespace Cert.KernelIdeal.Batch

open Idealize.ShloMosaic Cert.KernelIdeal.Gen

/-- The comparison bit of two words of small naturals, as a number. -/
theorem cmpi_eq_ofNat {a b : ℕ} (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b <;> simp [IntOp.cmpi, h]
  rw [beq_eq_false_iff_ne.mpr fun e => h (this.mp e)]; rfl

/-- A bit widened to a word and read as a float is 1 or 0. -/
theorem sitofp_bit (p : Prop) [Decidable p] :
    FloatOps.sitofp (F := Ideal) FTy.f32 (BitVec.setWidth 32 (if p then 1#1 else 0#1)) = if p then 1 else 0 := by
  split_ifs <;> simp [FloatOps.sitofp]

/-- The head of a row in the kernel's order. -/
def head (r : ℕ) : ℕ := r / 32 * 8 + (r / 4) % 4 * 2 + (r / 16) % 2

/-- The spread matrix repeats the queries' 64 columns four times. -/
theorem spread_val (i : Fin 64) (j : Fin 256) : (spread (F := Ideal)) (ix2 i j) = if j.val % 64 = i.val then 1 else 0 := by
  pointwise [spread, k0_pay13]
  generalize hw : Scalar.select (IntOp.andi _ _) _ _ = w
  have : w = BitVec.ofNat 32 (j.val % 64) := by rw [← hw]; clear hw; revert j; decide +kernel
  rw [this, cmpi_eq_ofNat (by omega) (by omega), sitofp_bit]

/-- The permutation takes row `s * 32 + head` to the kernel's row. -/
theorem perm_val (i : Fin 128) (j : Fin 128) :
    (perm (F := Ideal)) (ix2 i j) = if j.val = i.val % 4 * 32 + head i.val then 1 else 0 := by
  pointwise [perm, k0_pay12, k0_pay11, k0_pay8, k0_pay9, k0_pay10]
  generalize hw : IntOp.addi _ _ = w
  have : w = BitVec.ofNat 32 (i.val % 4 * 32 + head i.val) := by rw [← hw]; clear hw j; revert i; decide +kernel
  have hh : head i.val < 32 := by unfold head; omega
  rw [this, cmpi_eq_ofNat (by omega) (by omega), sitofp_bit]

/-- The mask of the row's kv head. -/
theorem diag_val (i : Fin 128) (j : Fin 256) : diag (ix2 i j) = if i.val / 32 = j.val / 64 then 1#1 else 0#1 := by
  pointwise [diag, k0_pay16, k0_pay14, k0_pay15]
  generalize hw : Scalar.select _ _ (IntOp.divsi _ (BitVec.ofNat 32 i.val) _) = w
  generalize hv : Scalar.select _ _ (IntOp.divsi _ (BitVec.ofNat 32 j.val) _) = v
  have h1 : w = BitVec.ofNat 32 (i.val / 32) := by rw [← hw]; clear hw hv j; revert i; decide +kernel
  have h2 : v = BitVec.ofNat 32 (j.val / 64) := by rw [← hv]; clear hw hv h1 i; revert j; decide +kernel
  rw [h1, h2, cmpi_eq_ofNat (by omega) (by omega)]

/-- The position of a row's query. -/
theorem srow_val (i : Fin 128) (j : Fin 128) : k0_pay17 (ix2 i j) = BitVec.ofNat 32 (i.val % 4) := by
  pointwise [k0_pay17]
  clear j; revert i; decide +kernel

/-- The new keys a row sees: those of its kv head, at its position or before. -/
theorem maskN_val (i : Fin 128) (j : Fin 16) :
    maskN (ix2 i j) = if j.val % 4 = i.val / 32 ∧ j.val / 4 ≤ i.val % 4 then 1#1 else 0#1 := by
  pointwise [maskN, nrow, ncol, k0_pay18, k0_pay19, k0_pay20, k0_pay21, k0_pay22]
  revert i j; decide +kernel

/-- The lower half of the lanes. -/
theorem low_val (i : Fin 16) (j : Fin 128) : k0_pay23 (ix2 i j) = if j.val < 64 then 1#1 else 0#1 := by
  pointwise [k0_pay23]
  clear i; revert j; decide +kernel

end Cert.KernelIdeal.Batch
-- ==== Proof.Tile.lean ====
module

public import proofs.«01_k».proof.Proof.Consts
public import proofs.«01_k».proof.Proof.Spec
public import Idealize.ShloMosaic.Lib.BitcastFour

@[expose] public section

noncomputable section

namespace Cert.KernelIdeal.Batch

open Idealize.ShloMosaic Cert.KernelIdeal.Gen

/-- The comparison of a lane's word with a small offset. -/
theorem cmpi_sge_ofNat {a b : ℕ} (ha : a < 2 ^ 31) (hb : b < 2 ^ 31) :
    IntOp.cmpi .sge (BitVec.ofNat 32 a) (BitVec.ofNat 32 b) = if b ≤ a then 1#1 else 0#1 := by
  have h1 : (BitVec.ofNat 32 a).toInt = a := by rw [BitVec.toInt_eq_toNat_of_lt (by rw [BitVec.toNat_ofNat]; omega), BitVec.toNat_ofNat]; omega
  have h2 : (BitVec.ofNat 32 b).toInt = b := by rw [BitVec.toInt_eq_toNat_of_lt (by rw [BitVec.toNat_ofNat]; omega), BitVec.toNat_ofNat]; omega
  by_cases h : b ≤ a <;> simp [IntOp.cmpi, BitVec.sle, h1, h2, h]

/-- The bytes chosen by lane among the words of two arrays of bytes. -/
theorem first_val (o : ℕ) (ho : o ≤ 128) (x y : IVec S32x128 8) (i : Fin 32) (t : Fin 128) :
    bitcast S32x128 8
      (select (cmpi .sge (iota .tc S8x128 32 [1] iota_S8x128_d1_w32) (broadcast S8x128 (BitVec.ofNat 32 o)))
        (bitcast S8x128 32 x bitcasts_S32x128_w8_S8x128_w32) (bitcast S8x128 32 y bitcasts_S32x128_w8_S8x128_w32))
      bitcasts_S8x128_w32_S32x128_w8 (ix2 i t) = if o ≤ t.val then x (ix2 i t) else y (ix2 i t) := by
  refine BitVec.eq_of_getLsbD_eq fun q hq => ?_
  rw [bitcast_getLsbD _ _ _ _ hq (by decide)]
  have hj : bitcasts_S8x128_w32_S32x128_w8.srcIdx (ix2 i t) ((S32x128.row (ix2 i t) * 8 + q) / 32)
      (fun a ha => (Nat.div_lt_iff_lt_mul (by decide)).2 (bitcasts_S8x128_w32_S32x128_w8.pos_lt (ix2 i t) q hq a ha))
      = ix2 ⟨i.val / 4, by omega⟩ t := by
    have hr : (S32x128.row (ix2 i t) * 8 + q) / 32 = i.val / 4 := by
      show (i.val * 8 + q) / 32 = _; omega
    funext c
    match c with
    | ⟨0, _⟩ => exact Fin.ext ((Shape.Bitcasts.srcIdx_row _ _ _ _ ⟨0, Nat.zero_lt_two⟩ rfl).trans hr)
    | ⟨1, _⟩ => exact Fin.ext (Shape.Bitcasts.srcIdx_other _ _ _ _ ⟨1, Nat.one_lt_two⟩ (by show ¬ 1 + 2 = 2; omega))
  rw [hj]
  have hp : (S32x128.row (ix2 i t) * 8 + q) % 32 = 8 * (i.val % 4) + q := by
    show (i.val * 8 + q) % 32 = _; omega
  rw [hp]
  have hs : (select (cmpi .sge (iota .tc S8x128 32 [1] iota_S8x128_d1_w32) (broadcast S8x128 (BitVec.ofNat 32 o)))
        (bitcast S8x128 32 x bitcasts_S32x128_w8_S8x128_w32) (bitcast S8x128 32 y bitcasts_S32x128_w8_S8x128_w32))
        (ix2 ⟨i.val / 4, by omega⟩ t)
      = if o ≤ t.val then bitcast S8x128 32 x bitcasts_S32x128_w8_S8x128_w32 (ix2 ⟨i.val / 4, by omega⟩ t)
        else bitcast S8x128 32 y bitcasts_S32x128_w8_S8x128_w32 (ix2 ⟨i.val / 4, by omega⟩ t) := by
    show Scalar.select (IntOp.cmpi .sge (iota .tc S8x128 32 [1] iota_S8x128_d1_w32 (ix2 ⟨i.val / 4, by omega⟩ t)) (BitVec.ofNat 32 o)) _ _ = _
    pointwise
    rw [cmpi_sge_ofNat (by omega) (by omega)]
    split_ifs <;> rfl
  rw [hs]
  have e : (8 * (i.val % 4) + q) % 8 = q := by omega
  split_ifs
  · exact (bitcast_8_32_getLsbD_ix2 (R := 32) (r := 8) (n := 128) x _ ⟨i.val / 4, by omega⟩ t (8 * (i.val % 4) + q) (by omega) i
      (by show i.val = 4 * (i.val / 4) + _; omega)).trans (by rw [e]; rfl)
  · exact (bitcast_8_32_getLsbD_ix2 (R := 32) (r := 8) (n := 128) y _ ⟨i.val / 4, by omega⟩ t (8 * (i.val % 4) + q) (by omega) i
      (by show i.val = 4 * (i.val / 4) + _; omega)).trans (by rw [e]; rfl)

/-- The window's scale of a lane: the lanes before the offset are those past the window's first 1024. -/
theorem s_val (o : ℕ) (ho : o ≤ 128) (s : Vec Ideal S1x1x4x1152 .fp8e4m3) (d : Fin 4) (t : Fin 1024) :
    k0_pay34 (k0_pay30 (BitVec.ofNat 32 o)) s (ix2 d t) = s (ix4 0 0 d ⟨if t.val < o then 1024 + t.val else t.val, by split_ifs <;> omega⟩) := by
  pointwise [k0_pay34, k0_pay30]
  by_cases h1 : t.val < 128
  · rw [dif_pos h1, cmpi_sge_ofNat (by omega) (by omega)]
    by_cases h2 : t.val < o
    · rw [if_neg (by omega)]; simp only [h2, if_true]; rfl
    · rw [if_pos (by omega)]; simp only [h2, if_false]; rfl
  · rw [dif_neg h1]
    congr 2
    refine Fin.ext ?_
    show 128 + (t.val - 128) = if t.val < o then 1024 + t.val else t.val
    rw [if_neg (by omega)]; omega

/-- The byte of a lane: the lanes before the offset are those past the window's first 1024. -/
def byte (o : ℕ) (c0 c8 : Vec Ideal S1x1x32x128 .i8) (cm : Vec Ideal S1x1x32x896 .i8) (i : Fin 32) (t : Fin 1024) : BitVec 8 :=
  if h : t.val < 128 then if o ≤ t.val then c0 (ix4 0 0 i ⟨t.val, h⟩) else c8 (ix4 0 0 i ⟨t.val, h⟩)
  else cm (ix4 0 0 i ⟨t.val - 128, by omega⟩)

/-- The codes of a lane, decoded up to the factor of two. -/
theorem d_val (o : ℕ) (ho : o ≤ 128) (c0 c8 : Vec Ideal S1x1x32x128 .i8) (cm : Vec Ideal S1x1x32x896 .i8) (d : Fin 64) (t : Fin 1024) :
    k0_pay35 (k0_pay31 (BitVec.ofNat 32 o)) (k0_pay32 (F := Ideal) c0) (k0_pay33 (F := Ideal) c8) cm (ix2 d t)
      = FloatOps.sitofp (F := Ideal) FTy.f32 (Spec.twice (Spec.nib (byte o c0 c8 cm ⟨d.val / 2, by omega⟩ t) d.val)) := by
  pointwise [k0_pay35, k0_pay31, k0_pay32, k0_pay33, first_val o ho]
  rfl

/-- The scaled values of a tile. -/
theorem t_val (s : FVec Ideal S4x1024 .f32) (v : FVec Ideal S64x1024 .f32) (d : Fin 64) (t : Fin 1024) :
    k0_pay36 s v (ix2 d t) = v (ix2 d t) * Spec.half * s (ix2 ⟨d.val / 16, by omega⟩ t) := by
  pointwise [k0_pay36]
  unfold Spec.half
  congr 1
  split_ifs <;> congr 2 <;> apply Fin.ext <;> show _ = d.val / 16 <;> simp <;> omega

/-- The column of the fetched 1152 that lane `t` reads. -/
def fetched (o : ℕ) (ho : o ≤ 128) (t : Fin 1024) : Fin 1152 := ⟨if t.val < o then 1024 + t.val else t.val, by split_ifs <;> omega⟩

/-- A decoded window at an element. -/
theorem tile_val (o : ℕ) (ho : o ≤ 128) (c0 c8 : Vec Ideal S1x1x32x128 .i8) (cm : Vec Ideal S1x1x32x896 .i8) (s : Vec Ideal S1x1x4x1152 .fp8e4m3)
    (d : Fin 64) (t : Fin 1024) :
    tile (BitVec.ofNat 32 o) c0 c8 cm s (ix2 d t)
      = Spec.dec (byte o c0 c8 cm ⟨d.val / 2, by omega⟩ t) d.val * s (ix4 0 0 ⟨d.val / 16, by omega⟩ (fetched o ho t)) := by
  unfold tile Spec.dec
  rw [t_val, d_val o ho, s_val o ho]; rfl

end Cert.KernelIdeal.Batch
-- ==== Proof.Row.lean ====
module

public import proofs.«01_k».proof.Proof.Cell
public import proofs.«01_k».proof.Proof.Tile

@[expose] public section

noncomputable section

namespace Cert.KernelIdeal.Batch

open Idealize.ShloMosaic Cert.KernelIdeal.Gen

/-- The scaling of the queries' dot products. -/
abbrev sm : EReal := Spec.sm

/-- Minus infinity. -/
def ninf : EReal := Ideal.ofBits .f32 0xFF800000#32

/-- A query in the kernel's row order. -/
def qry (X : Vec Ideal S1x4x32x64 .bf16) (r : Fin 128) (d : Fin 64) : EReal :=
  X (ix4 0 ⟨r.val % 4, by omega⟩ ⟨head r.val, by unfold head; omega⟩ d)

/-- The permuted queries. -/
theorem q_val (X : Vec Ideal S1x4x32x64 .bf16) (r : Fin 128) (d : Fin 64) :
    k0_pay25 perm X (ix2 r d) = qry X r d := by
  pointwise [k0_pay25]
  have hh : head r.val < 32 := by unfold head; omega
  rw [Finset.sum_eq_single (⟨r.val % 4 * 32 + head r.val, by omega⟩ : Fin 128)]
  · rw [perm_val, if_pos rfl, one_mul]
    unfold qry
    congr 2 <;> apply Fin.ext <;> simp <;> omega
  · intro b _ hb
    rw [perm_val, if_neg (fun h => hb (Fin.ext h)), zero_mul]
  · simp

/-- The queries spread over the kv heads, nonzero only in the row's own. -/
theorem qd_val (X : Vec Ideal S1x4x32x64 .bf16) (r : Fin 128) (d : Fin 256) :
    k0_pay26 perm spread diag X (ix2 r d) = if r.val / 32 = d.val / 64 then qry X r ⟨d.val % 64, by omega⟩ else 0 := by
  pointwise [k0_pay26]
  rw [diag_val]
  split_ifs with h
  · refine Eq.trans (?_ : _ = ∑ x : Fin 64, k0_pay25 perm X (ix2 r x) * spread (ix2 x d)) ?_
    · rfl
    rw [Finset.sum_eq_single (⟨d.val % 64, by omega⟩ : Fin 64)]
    · rw [spread_val, if_pos rfl, mul_one, q_val]
    · intro b _ hb
      rw [spread_val, if_neg (fun h => hb (Fin.ext h.symm)), mul_zero]
    · simp
  · rfl

/-- The masked new scores. -/
theorem sn_val (X : Vec Ideal S1x4x32x64 .bf16) (KN : Vec Ideal S1x4x4x64 .bf16) (r : Fin 128) (n : Fin 16) :
    newScores X KN (ix2 r n) = if n.val % 4 = r.val / 32 ∧ n.val / 4 ≤ r.val % 4
      then (∑ x, qry X r x * KN (ix4 0 ⟨n.val / 4, by omega⟩ ⟨n.val % 4, by omega⟩ x)) * sm else ninf := by
  pointwise [newScores, k0_pay27, k0_pay29]
  rw [maskN_val]
  simp only [q_val]
  split_ifs <;> rfl

/-- A word comparison of two small naturals. -/
theorem cmpi_sgt_ofNat {a b : ℕ} (ha : a < 2 ^ 31) (hb : b < 2 ^ 31) :
    IntOp.cmpi .sgt (BitVec.ofNat 32 a) (BitVec.ofNat 32 b) = if b < a then 1#1 else 0#1 := by
  have h1 : (BitVec.ofNat 32 a).toInt = a := by rw [BitVec.toInt_eq_toNat_of_lt (by rw [BitVec.toNat_ofNat]; omega), BitVec.toNat_ofNat]; omega
  have h2 : (BitVec.ofNat 32 b).toInt = b := by rw [BitVec.toInt_eq_toNat_of_lt (by rw [BitVec.toNat_ofNat]; omega), BitVec.toNat_ofNat]; omega
  by_cases h : b < a <;> simp [IntOp.cmpi, BitVec.slt, h1, h2, h]

/-- The lane's time before the offset wraps round. -/
theorem wrap_word {t o : ℕ} (ht : t < 1024) (ho : o ≤ 128) :
    IntOp.andi (IntOp.subi (BitVec.ofNat 32 t) (BitVec.ofNat 32 o)) 1023#32 = BitVec.ofNat 32 ((1024 + t - o) % 1024) := by
  apply BitVec.eq_of_toNat_eq
  show ((BitVec.ofNat 32 t - BitVec.ofNat 32 o) &&& 1023#32).toNat = _
  rw [BitVec.toNat_and, BitVec.toNat_sub, BitVec.toNat_ofNat, BitVec.toNat_ofNat, BitVec.toNat_ofNat, BitVec.toNat_ofNat]
  show _ &&& (2 ^ 10 - 1) = _
  rw [Nat.and_two_pow_sub_one_eq_mod]; omega

/-- The lane's time in the second tile. -/
theorem second_word {u o : ℕ} (hu : u < 1024) (ho : o ≤ 128) :
    IntOp.subi (IntOp.addi (BitVec.ofNat 32 u) 128#32) (BitVec.ofNat 32 o) = BitVec.ofNat 32 (u + 128 - o) := by
  apply BitVec.eq_of_toNat_eq
  show (BitVec.ofNat 32 u + 128#32 - BitVec.ofNat 32 o).toNat = _
  rw [BitVec.toNat_sub, BitVec.toNat_add, BitVec.toNat_ofNat, BitVec.toNat_ofNat, BitVec.toNat_ofNat, BitVec.toNat_ofNat]; omega

/-- The time of a lane, counted from the start of the window. -/
def time (o : ℕ) (t : ℕ) : ℕ := (1024 + t - o) % 1024

/-- A sum over the four kv heads' columns that is zero off one head's. -/
theorem sum_block (k : Fin 4) (q : Fin 64 → EReal) (f : Fin 256 → EReal) :
    ∑ x : Fin 256, (if k.val = x.val / 64 then q ⟨x.val % 64, by omega⟩ else 0) * f x = ∑ d : Fin 64, q d * f ⟨64 * k.val + d.val, by omega⟩ := by
  rw [← Equiv.sum_comp (finProdFinEquiv (m := 4) (n := 64)), Fintype.sum_prod_type, Finset.sum_eq_single k]
  · refine Finset.sum_congr rfl fun d _ => ?_
    have e : (finProdFinEquiv (k, d) : Fin (4 * 64)) = ⟨64 * k.val + d.val, by omega⟩ := Fin.ext (by simp [finProdFinEquiv]; omega)
    rw [e]
    have e1 : k.val = (64 * k.val + d.val) / 64 := by omega
    rw [if_pos e1]
    congr 2; exact Fin.ext (by show (64 * k.val + d.val) % 64 = d.val; omega)
  · intro b _ hb
    refine Finset.sum_eq_zero fun d _ => ?_
    have e : (finProdFinEquiv (b, d) : Fin (4 * 64)) = ⟨64 * b.val + d.val, by omega⟩ := Fin.ext (by simp [finProdFinEquiv]; omega)
    rw [e, if_neg (fun h => hb (Fin.ext (by simp only at h; omega))), zero_mul]
  · simp

/-- A select on a decided bit. -/
theorem select_bit {α : Type} (p : Prop) [Decidable p] (a b : α) : Scalar.select (if p then 1#1 else 0#1) a b = if p then a else b := by
  split_ifs <;> rfl

/-- The masks of the cached scores: only the first two tiles have lanes that some row does not see. -/
def masked (off : BitVec 32) (sc : FVec Ideal S128x1024 .f32) : FVec Ideal S128x1024 .f32 :=
  concatenate S128x1024 1
    [⟨S128x128, select (cmpi .sgt (andi (subi lane (broadcast S128x128 off)) (broadcast S128x128 1023#32)) k0_pay17)
      (extractStridedSlice S128x128 ![0, 0] sc slices_S128x1024_o0_0_S128x128) (broadcast S128x128 (Scalar.ofBits .f32 0xFF800000#32))⟩,
     ⟨S128x128, select (cmpi .sgt (subi (addi lane (broadcast S128x128 128#32)) (broadcast S128x128 off)) k0_pay17)
      (extractStridedSlice S128x128 ![0, 128] sc slices_S128x1024_o0_128_S128x128) (broadcast S128x128 (Scalar.ofBits .f32 0xFF800000#32))⟩,
     ⟨S128x768, extractStridedSlice S128x768 ![0, 256] sc slices_S128x1024_o0_256_S128x768⟩]
    concatenates_S128x128_S128x128_S128x768_S128x1024_d1

/-- The scores before the masks. -/
def raw (gk : EReal) (qd : FVec Ideal S128x256 .bf16) (T : Fin 4 → FVec Ideal S64x1024 .bf16) : FVec Ideal S128x1024 .f32 :=
  mulf (matmul dot_S128x256_S256x1024_S128x1024_1_0_0_1_n_n none qd
    (concatenate S256x1024 0 [⟨S64x1024, T 0⟩, ⟨S64x1024, T 1⟩, ⟨S64x1024, T 2⟩, ⟨S64x1024, T 3⟩]
      concatenates_S64x1024_S64x1024_S64x1024_S64x1024_S256x1024_d0)
    (constant S128x1024 .f32 0x00000000#32)) (broadcast S128x1024 (k0_pay24 (F := Ideal) gk))

/-- The decoded window of a kv head. -/
def Loads.tile (K : Loads Ideal) (off : BitVec 32) (k : Fin 4) : FVec Ideal S64x1024 .bf16 := Batch.tile off (K.c0 k) (K.c8 k) (K.cm k) (K.s k)

/-- The scores are the masked products with the four decoded windows. -/
theorem scores_eq (off : BitVec 32) (gk : EReal) (X : Vec Ideal S1x4x32x64 .bf16) (K : Loads Ideal) :
    scores off gk X K = masked off (raw gk (k0_pay26 perm spread diag X) (K.tile off)) := by
  sl_kernel_rfl

/-- The masks at an element. -/
theorem masked_val (o : ℕ) (ho : o ≤ 128) (sc : FVec Ideal S128x1024 .f32) (r : Fin 128) (t : Fin 1024) :
    masked (BitVec.ofNat 32 o) sc (ix2 r t) = if r.val % 4 < time o t.val then sc (ix2 r t) else ninf := by
  pointwise [masked, lane]
  unfold time
  by_cases h1 : t.val < 128
  · rw [dif_pos h1, srow_val, wrap_word (by omega) ho, cmpi_sgt_ofNat (by omega) (by omega), select_bit]
    rfl
  · rw [dif_neg h1]
    by_cases h2 : t.val - 128 < 128
    · rw [dif_pos h2, srow_val, second_word (by omega) ho, cmpi_sgt_ofNat (by omega) (by omega), select_bit]
      have et : (⟨128 + (t.val - 128), by omega⟩ : Fin 1024) = t := Fin.ext (by show 128 + (t.val - 128) = t.val; omega)
      have e : (1024 + t.val - o) % 1024 = t.val - 128 + 128 - o := by omega
      rw [et, e]
      rfl
    · rw [dif_neg h2]
      have et : (⟨256 + (t.val - 128 - 128), by omega⟩ : Fin 1024) = t := Fin.ext (by show 256 + (t.val - 128 - 128) = t.val; omega)
      rw [et, if_pos (by omega)]

/-- Four blocks of 64 columns, one after another. -/
def col (T : Fin 4 → FVec Ideal S64x1024 .bf16) (t : Fin 1024) (x : Fin 256) : EReal :=
  if h : x.val < 64 then T 0 (ix2 ⟨x.val, h⟩ t)
  else if h : x.val - 64 < 64 then T 1 (ix2 ⟨x.val - 64, h⟩ t)
  else if h : x.val - 64 - 64 < 64 then T 2 (ix2 ⟨x.val - 64 - 64, h⟩ t)
  else T 3 (ix2 ⟨x.val - 64 - 64 - 64, by omega⟩ t)

/-- The columns of one block. -/
theorem col_val (T : Fin 4 → FVec Ideal S64x1024 .bf16) (t : Fin 1024) (k : Fin 4) (d : Fin 64) :
    col T t ⟨64 * k.val + d.val, by omega⟩ = T k (ix2 d t) := by
  have e : ∀ (k : Fin 4) (a a' : Fin 64), a.val = a'.val → T k (ix2 a t) = T k (ix2 a' t) := fun k a a' h => by rw [Fin.ext h]
  obtain ⟨k, hk⟩ := k
  unfold col
  interval_cases k
  · rw [dif_pos (show 64 * 0 + d.val < 64 by omega)]; exact e _ _ _ (by show 64 * 0 + d.val = d.val; omega)
  · rw [dif_neg (show ¬ 64 * 1 + d.val < 64 by omega), dif_pos (show 64 * 1 + d.val - 64 < 64 by omega)]
    exact e _ _ _ (by show 64 * 1 + d.val - 64 = d.val; omega)
  · rw [dif_neg (show ¬ 64 * 2 + d.val < 64 by omega), dif_neg (show ¬ 64 * 2 + d.val - 64 < 64 by omega),
      dif_pos (show 64 * 2 + d.val - 64 - 64 < 64 by omega)]
    exact e _ _ _ (by show 64 * 2 + d.val - 64 - 64 = d.val; omega)
  · rw [dif_neg (show ¬ 64 * 3 + d.val < 64 by omega), dif_neg (show ¬ 64 * 3 + d.val - 64 < 64 by omega),
      dif_neg (show ¬ 64 * 3 + d.val - 64 - 64 < 64 by omega)]
    exact e _ _ _ (by show 64 * 3 + d.val - 64 - 64 - 64 = d.val; omega)

/-- The scores before the masks at an element: the query with its own kv head's window. -/
theorem raw_val (gk : EReal) (X : Vec Ideal S1x4x32x64 .bf16) (T : Fin 4 → FVec Ideal S64x1024 .bf16) (r : Fin 128) (t : Fin 1024)
    (k : Fin 4) (hk : r.val / 32 = k.val) :
    raw gk (k0_pay26 perm spread diag X) T (ix2 r t) = (∑ d, qry X r d * T k (ix2 d t)) * (gk * sm) := by
  have key : ∑ x, k0_pay26 (F := Ideal) perm spread diag X (ix2 r x) * col T t x = ∑ d, qry X r d * T k (ix2 d t) := by
    rw [← Finset.sum_congr rfl (fun d _ => congrArg (qry X r d * ·) (col_val T t k d)), ← sum_block k (qry X r) (col T t)]
    refine Finset.sum_congr rfl fun x _ => ?_
    rw [qd_val, hk]
  rw [← key]
  generalize k0_pay26 (F := Ideal) perm spread diag X = qd
  pointwise [raw, k0_pay24]
  rfl

/-- The masked scores at an element. -/
theorem sc_val (o : ℕ) (ho : o ≤ 128) (gk : EReal) (X : Vec Ideal S1x4x32x64 .bf16) (K : Loads Ideal) (r : Fin 128) (t : Fin 1024)
    (k : Fin 4) (hk : r.val / 32 = k.val) :
    scores (BitVec.ofNat 32 o) gk X K (ix2 r t)
      = if r.val % 4 < time o t.val then (∑ d, qry X r d * K.tile (BitVec.ofNat 32 o) k (ix2 d t)) * (gk * sm) else ninf := by
  rw [scores_eq, masked_val o ho, raw_val gk X _ r t k hk]

/-- The cached part of the output at an element. -/
theorem oc_val (off : BitVec 32) (p : FVec Ideal S128x1024 .bf16) (V : Loads Ideal) (r : Fin 128) (k : Fin 4) (d : Fin 64) :
    outC off p V (ix2 r ⟨64 * k.val + d.val, by omega⟩) = ∑ x, p (ix2 r x) * V.tile off k (ix2 d x) := by
  simp only [← col_val (V.tile off)]
  show (matmul (F := Ideal) dot_S128x1024_S256x1024_S128x256_1_1_0_0_n_n none p
    (concatenate S256x1024 0 [⟨S64x1024, V.tile off 0⟩, ⟨S64x1024, V.tile off 1⟩, ⟨S64x1024, V.tile off 2⟩, ⟨S64x1024, V.tile off 3⟩]
      concatenates_S64x1024_S64x1024_S64x1024_S64x1024_S256x1024_d0)
    (constant S128x256 .f32 0x00000000#32)) (ix2 r ⟨64 * k.val + d.val, by omega⟩) = _
  generalize V.tile off = T
  generalize (⟨64 * k.val + d.val, by omega⟩ : Fin 256) = y
  pointwise
  rfl

end Cert.KernelIdeal.Batch
-- ==== Proof.Store.lean ====
module

public import proofs.«01_k».proof.Proof.Consts

@[expose] public section

noncomputable section

namespace Cert.KernelIdeal.Batch

open Idealize.ShloMosaic Cert.KernelIdeal.Gen

/-- The output row of a store's element. -/
def orow (k j i : Fin 4) (l : Fin 128) : Fin 128 := ⟨32 * k.val + 16 * (l.val / 64) + 4 * j.val + i.val, by omega⟩

/-- A select on a true bit. -/
theorem select_one {α : Type} (a b : α) : Scalar.select 1#1 a b = a := rfl

/-- A select on a false bit. -/
theorem select_zero {α : Type} (a b : α) : Scalar.select 0#1 a b = b := rfl

set_option maxHeartbeats 2000000 in
/-- What a store writes at an element. -/
theorem store_val (oc : FVec Ideal S128x256 .f32) (on : FVec Ideal S128x128 .f32) (k j i : Fin 4) (l : Fin 128) :
    part (res oc on k) j (ix3 0 i l) = oc (ix2 (orow k j i l) ⟨64 * k.val + l.val % 64, by omega⟩) + on (ix2 (orow k j i l) l) := by
  have e : ∀ (a a' : Fin 128) (b b' : Fin 256) (c c' l : Fin 128), a.val = a'.val → b.val = b'.val → c.val = c'.val →
      oc (ix2 a b) + on (ix2 c l) = oc (ix2 a' b') + on (ix2 c' l) := by
    intro a a' b b' c c' l h1 h2 h3
    rw [Fin.ext h1, Fin.ext h2, Fin.ext h3]
  fin_cases k <;> fin_cases j <;> pointwise [part, res, rowsEven, rowsOdd, rows] <;> rw [low_val] <;> unfold orow <;>
    by_cases h : l.val < 64 <;> simp only [h, if_true, if_false, select_one, select_zero] <;> refine e _ _ _ _ _ _ _ ?_ ?_ ?_ <;> simp <;> omega

end Cert.KernelIdeal.Batch
-- ==== Proof.Out.lean ====
module

public import proofs.«01_k».proof.Proof.Row
public import proofs.«01_k».proof.Proof.Store
public import proofs.«01_k».proof.Proof.Attn

@[expose] public section

noncomputable section

namespace Cert.KernelIdeal.Batch

open Idealize.ShloMosaic Cert.KernelIdeal.Gen

/-- The lanes' times, a rotation of the window. -/
def rot (o : ℕ) (ho : o ≤ 128) : Equiv.Perm (Fin 1024) where
  toFun t := ⟨time o t.val, Nat.mod_lt _ (by decide)⟩
  invFun t := ⟨(t.val + o) % 1024, Nat.mod_lt _ (by decide)⟩
  left_inv t := Fin.ext (by show (time o t.val + o) % 1024 = t.val; unfold time; omega)
  right_inv t := Fin.ext (by show time o ((t.val + o) % 1024) = t.val; unfold time; omega)

/-- The row maxima at an element. -/
theorem top_val (sc : FVec Ideal S128x1024 .f32) (sn : FVec Ideal S128x16 .f32) (r : Fin 128) :
    top sc sn (ix2 r 0) = max (Finset.univ.fold max Spec.ninf fun x => sc (ix2 r x)) (Finset.univ.fold max Spec.ninf fun x => sn (ix2 r x)) := by
  pointwise [top]
  rfl

/-- The exponentials at an element. -/
theorem expC_val (sc : FVec Ideal S128x1024 .f32) (sn : FVec Ideal S128x16 .f32) (r : Fin 128) (t : Fin 1024) :
    expC sc sn (ix2 r t) = Ideal.exp (sc (ix2 r t) - top sc sn (ix2 r 0)) := by
  pointwise [expC]

/-- The new keys' exponentials at an element. -/
theorem expN_val (sc : FVec Ideal S128x1024 .f32) (sn : FVec Ideal S128x16 .f32) (r : Fin 128) (n : Fin 16) :
    expN sc sn (ix2 r n) = Ideal.exp (sn (ix2 r n) - top sc sn (ix2 r 0)) := by
  pointwise [expN]

/-- The weights at an element. -/
theorem probC_val (gv : EReal) (ec : FVec Ideal S128x1024 .f32) (en : FVec Ideal S128x16 .f32) (r : Fin 128) (t : Fin 1024) :
    probC gv ec en (ix2 r t) = ec (ix2 r t) * Ideal.div 1 ((∑ x, ec (ix2 r x)) + ∑ x, en (ix2 r x)) * gv := by
  pointwise [probC, k0_pay58, k0_pay57, sumC]

/-- The new keys' weights at an element. -/
theorem probN_val (ec : FVec Ideal S128x1024 .f32) (en : FVec Ideal S128x16 .f32) (r : Fin 128) (n : Fin 16) :
    probN ec en (ix2 r n) = en (ix2 r n) * Ideal.div 1 ((∑ x, ec (ix2 r x)) + ∑ x, en (ix2 r x)) := by
  pointwise [probN, k0_pay59, k0_pay57, sumC]

/-- The new part of the output at an element. -/
theorem on_val (p : FVec Ideal S128x16 .bf16) (VN : Vec Ideal S1x4x4x64 .bf16) (r : Fin 128) (l : Fin 128) :
    outN p VN (ix2 r l) = ∑ n, p (ix2 r n) * VN (ix4 0 ⟨n.val / 4, by omega⟩ ⟨n.val % 4, by omega⟩ ⟨l.val % 64, by omega⟩) := by
  pointwise [outN, k0_pay86, k0_pay28]
  refine Finset.sum_congr rfl fun n _ => congrArg (p (ix2 r n) * ·) ?_
  by_cases h : l.val < 64
  · rw [dif_pos h]; congr 2; exact Fin.ext (by show l.val = l.val % 64; omega)
  · rw [dif_neg h]; congr 2; exact Fin.ext (by show l.val - 64 = l.val % 64; omega)

/-- The output element of a store, as attention over the window and the new keys. -/
theorem store_attn (a : Args Ideal) (o : ℕ) (ho : o ≤ 128) (hoff : a.off = BitVec.ofNat 32 o) (Kw Vw : Fin 4 → Fin 1024 → Fin 64 → EReal)
    (hK : ∀ k d t, a.K.tile a.off k (ix2 d t) = Kw k (rot o ho t) d) (hV : ∀ k d t, a.V.tile a.off k (ix2 d t) = Vw k (rot o ho t) d)
    (k j i : Fin 4) (l : Fin 128) :
    a.store k j (ix3 0 i l) = Spec.attn
      (fun τ => if i.val < τ.val then (∑ d, a.X (ix4 0 i ⟨8 * k.val + 2 * j.val + l.val / 64, by omega⟩ d) * Kw k τ d) * (a.gk * sm) else Spec.ninf)
      (fun n => if n.val ≤ i.val then (∑ d, a.X (ix4 0 i ⟨8 * k.val + 2 * j.val + l.val / 64, by omega⟩ d) * a.KN (ix4 0 n k d)) * sm else Spec.ninf)
      a.gv (fun τ => Vw k τ ⟨l.val % 64, by omega⟩) (fun n => a.VN (ix4 0 n k ⟨l.val % 64, by omega⟩)) := by
  obtain ⟨r, hr⟩ : ∃ r, r = orow k j i l := ⟨_, rfl⟩
  have hk : r.val / 32 = k.val := by rw [hr]; unfold orow; show (32 * k.val + 16 * (l.val / 64) + 4 * j.val + i.val) / 32 = k.val; omega
  have hi : r.val % 4 = i.val := by rw [hr]; unfold orow; show (32 * k.val + 16 * (l.val / 64) + 4 * j.val + i.val) % 4 = i.val; omega
  have hh : head r.val = 8 * k.val + 2 * j.val + l.val / 64 := by
    rw [hr]; unfold head orow
    show (32 * k.val + 16 * (l.val / 64) + 4 * j.val + i.val) / 32 * 8 + (32 * k.val + 16 * (l.val / 64) + 4 * j.val + i.val) / 4 % 4 * 2
      + (32 * k.val + 16 * (l.val / 64) + 4 * j.val + i.val) / 16 % 2 = _
    omega
  have hq : ∀ d, qry a.X r d = a.X (ix4 0 i ⟨8 * k.val + 2 * j.val + l.val / 64, by omega⟩ d) := by
    intro d
    unfold qry
    congr 2
    · exact Fin.ext hi
    · exact Fin.ext hh
  have hsc : ∀ t, a.sc (ix2 r t) = if i.val < (rot o ho t).val
      then (∑ d, a.X (ix4 0 i ⟨8 * k.val + 2 * j.val + l.val / 64, by omega⟩ d) * Kw k (rot o ho t) d) * (a.gk * sm) else Spec.ninf := by
    intro t
    unfold Args.sc
    rw [hoff, sc_val o ho a.gk a.X a.K r t k hk, ← hoff, hi]
    simp only [hq, hK]
    rfl
  have hsn : ∀ n : Fin 16, a.sn (ix2 r n) = if n.val % 4 = k.val then (if n.val / 4 ≤ i.val
      then (∑ d, a.X (ix4 0 i ⟨8 * k.val + 2 * j.val + l.val / 64, by omega⟩ d) * a.KN (ix4 0 ⟨n.val / 4, by omega⟩ k d)) * sm else Spec.ninf) else Spec.ninf := by
    intro n
    unfold Args.sn
    rw [sn_val, hk, hi]
    simp only [hq]
    by_cases h1 : n.val % 4 = k.val
    · have e : (⟨n.val % 4, by omega⟩ : Fin 4) = k := Fin.ext h1
      simp only [h1, true_and, if_true]
      rfl
    · simp only [h1, false_and, if_false]; rfl
  unfold Args.store Args.oc Args.on
  rw [store_val, ← hr]
  rw [oc_val _ _ _ r k ⟨l.val % 64, by omega⟩, on_val]
  simp only [probC_val, probN_val, expC_val, expN_val, hV]
  refine Spec.attn_of (rot o ho) k _ _ _ _ _ (fun t => a.sc (ix2 r t)) (fun t => Vw k (rot o ho t) ⟨l.val % 64, by omega⟩) (fun n => a.sn (ix2 r n))
    (fun n => a.VN (ix4 0 ⟨n.val / 4, by omega⟩ ⟨n.val % 4, by omega⟩ ⟨l.val % 64, by omega⟩)) hsc (fun t => rfl) hsn ?_ _ _ (top_val _ _ _) rfl
  intro n hn
  have e : (⟨n.val % 4, by omega⟩ : Fin 4) = k := Fin.ext hn
  simp only [e]

end Cert.KernelIdeal.Batch
-- ==== Proof.Fetch.lean ====
module

public import proofs.«01_k».proof.Proof.Link
public import proofs.«01_k».proof.Proof.Out
import Idealize.ShloMosaic.Lib.Pipeline.FrameBody
import Idealize.ShloMosaic.Lib.Pipeline.Value
import all proofs.«01_k».proof.Proof.Gen.KernelIdeal.Frame.RunA

@[expose] public section

set_option maxRecDepth 16384

noncomputable section

namespace Cert.KernelIdeal.Batch

open Idealize.ShloMosaic Cert.KernelIdeal.Gen

variable {F : FTy → Type} [FloatOps F]

/-- Where a position of a fetched window lies in the cache. -/
def inCache {R : ℕ} (base : Fin 8 → ℕ) (hb : ∀ b, base b + 1152 ≤ 32768) (y : (⟨4, ![8, 4, R, 1152]⟩ : Shape).Idx) :
    (⟨4, ![8, 4, R, 32768]⟩ : Shape).Idx :=
  ix4 (y 0) (y 1) (y 2) ⟨base (y 0) + (y 3).val, by have := hb (y 0); have h3 : (y 3).val < 1152 := (y 3).isLt; omega⟩

/-- A copy of one sequence takes every element from its place in the cache. -/
theorem emb_inCache {R : ℕ} (base : Fin 8 → ℕ) (hb : ∀ b, base b + 1152 ≤ 32768) (b : Fin 8) (off : Fin 4 → ℕ) (hoff : off = ![b.val, 0, 0, base b])
    (h1) (h2) (x : (⟨4, ![1, 4, R, 1152]⟩ : Shape).Idx) :
    (Rect.unit (s := ⟨4, ![8, 4, R, 32768]⟩) off ![1, 4, R, 1152] h1).emb x
      = inCache base hb ((Rect.unit (s := ⟨4, ![8, 4, R, 1152]⟩) ![b.val, 0, 0, 0] ![1, 4, R, 1152] h2).emb x) := by
  subst hoff
  have e0 : (Rect.unit (s := ⟨4, ![8, 4, R, 1152]⟩) ![b.val, 0, 0, 0] ![1, 4, R, 1152] h2).emb x 0 = b := by
    apply Fin.ext
    have : (x 0).val < 1 := (x 0).isLt
    show b.val + 1 * (x 0).val = b.val
    omega
  funext a
  apply Fin.ext
  fin_cases a
  · rfl
  · rfl
  · rfl
  · show base b + 1 * (x 3).val = base _ + (0 + 1 * (x 3).val)
    rw [e0]; omega

/-- A copy's rectangle lies in the cache. -/
theorem copy_inb {R : ℕ} {base : Fin 8 → ℕ} (hb : ∀ b, base b + 1152 ≤ 32768) (b : Fin 8) {off : Fin 4 → ℕ} (hoff : off = ![b.val, 0, 0, base b]) :
    ∀ a, off a + (![1, 4, R, 1152] : Fin 4 → ℕ) a ≤ (⟨4, ![8, 4, R, 32768]⟩ : Shape).size a := by
  subst hoff
  have := hb b
  intro a
  fin_cases a
  · show b.val + 1 ≤ 8; omega
  · show 0 + 4 ≤ 4; omega
  · show 0 + R ≤ R; omega
  · show base b + 1152 ≤ 32768; omega

/-- A vector read from the cache through a copy's rectangle, at its places in the cache. -/
theorem copy_val {α : Type} {R : ℕ} {base : Fin 8 → ℕ} (hb : ∀ b, base b + 1152 ≤ 32768) (b : Fin 8) {off : Fin 4 → ℕ} (hoff : off = ![b.val, 0, 0, base b])
    (f : (⟨4, ![8, 4, R, 32768]⟩ : Shape).Idx → α) (v : (⟨4, ![1, 4, R, 1152]⟩ : Shape).Idx → α)
    (hv : v = fun x => f ((Rect.unit (s := ⟨4, ![8, 4, R, 32768]⟩) off ![1, 4, R, 1152] (copy_inb hb b hoff)).emb x)) (h2)
    (x : (⟨4, ![1, 4, R, 1152]⟩ : Shape).Idx) :
    v x = f (inCache base hb ((Rect.unit (s := ⟨4, ![8, 4, R, 1152]⟩) ![b.val, 0, 0, 0] ![1, 4, R, 1152] h2).emb x)) := by
  rw [hv]
  exact congrArg f (emb_inCache _ _ b off hoff _ _ x)

/-- Every position of the buffer lies in the copy of its sequence. -/
theorem mem_copy {R : ℕ} (b : Fin 8) (h2) (y : (⟨4, ![8, 4, R, 1152]⟩ : Shape).Idx) (hy : y 0 = b) :
    y ∈ (Rect.unit (s := ⟨4, ![8, 4, R, 1152]⟩) ![b.val, 0, 0, 0] ![1, 4, R, 1152] h2).set := by
  rw [Rect.mem_set_unit]
  intro a
  subst hy
  fin_cases a
  · exact ⟨le_refl _, Nat.lt_succ_self _⟩
  · exact ⟨Nat.zero_le _, by show (y 1).val < 0 + 4; have : (y 1).val < 4 := (y 1).isLt; omega⟩
  · exact ⟨Nat.zero_le _, by show (y 2).val < 0 + R; have : (y 2).val < R := (y 2).isLt; omega⟩
  · exact ⟨Nat.zero_le _, by show (y 3).val < 0 + 1152; have : (y 3).val < 1152 := (y 3).isLt; omega⟩

section
variable (c : Dev nD) (arg0 : Memref sig .tc .smem S8 .i32) (harg0 : arg0.IsWhole) (arg1 : Memref sig .tc .smem S1 .f32) (harg1 : arg1.IsWhole) (arg2 : Memref sig .tc .smem S1 .f32) (harg2 : arg2.IsWhole) (arg3 : Memref sig .tc .vmem S8x4x32x64 .bf16) (harg3 : arg3.IsWhole) (arg4 : Memref sig .tc .vmem S8x4x4x64 .bf16) (harg4 : arg4.IsWhole) (arg5 : Memref sig .tc .vmem S8x4x4x64 .bf16) (harg5 : arg5.IsWhole) (arg10 : Memref sig .tc .vmem S8x4x2048 .bf16) (harg10 : arg10.IsWhole) (arg11 : Memref sig .tc .vmem S8x4x32x1152 .i8) (harg11 : arg11.IsWhole) (arg12 : Memref sig .tc .vmem S8x4x32x1152 .i8) (harg12 : arg12.IsWhole) (arg13 : Memref sig .tc .vmem S8x4x4x1152 .fp8e4m3) (harg13 : arg13.IsWhole) (arg14 : Memref sig .tc .vmem S8x4x4x1152 .fp8e4m3) (harg14 : arg14.IsWhole)
    (x0 : Vec F S8 .i32) (x1 : Vec F S1 .f32) (x2 : Vec F S1 .f32) (x3 : Vec F S8x4x32x64 .bf16) (x4 : Vec F S8x4x4x64 .bf16) (x5 : Vec F S8x4x4x64 .bf16) (fh0 : HbBuf0 (F := F) c hbM0_0) (fh1 : HbBuf0 (F := F) c hbM0_1) (fh2 : HbBuf0 (F := F) c hbM0_2) (fh3 : HbBuf0 (F := F) c hbM0_3) (k0_hw1 : k0_chk1 (arg0.view.readAt (Elt F) (Rect.unit (s := S8) ![0] S1.size inb_S8_S1_0).toLoadRect (harg0.unread x0) (Shape.Idx.first (numel1_S1.symm ▸ Nat.one_pos)))) (k0_hw2 : k0_chk2 (arg0.view.readAt (Elt F) (Rect.unit (s := S8) ![1] S1.size inb_S8_S1_1).toLoadRect (harg0.unread x0) (Shape.Idx.first (numel1_S1.symm ▸ Nat.one_pos)))) (k0_hw3 : k0_chk3 (arg0.view.readAt (Elt F) (Rect.unit (s := S8) ![2] S1.size inb_S8_S1_2).toLoadRect (harg0.unread x0) (Shape.Idx.first (numel1_S1.symm ▸ Nat.one_pos)))) (k0_hw4 : k0_chk4 (arg0.view.readAt (Elt F) (Rect.unit (s := S8) ![3] S1.size inb_S8_S1_3).toLoadRect (harg0.unread x0) (Shape.Idx.first (numel1_S1.symm ▸ Nat.one_pos)))) (k0_hw5 : k0_chk5 (arg0.view.readAt (Elt F) (Rect.unit (s := S8) ![4] S1.size inb_S8_S1_4).toLoadRect (harg0.unread x0) (Shape.Idx.first (numel1_S1.symm ▸ Nat.one_pos)))) (k0_hw6 : k0_chk6 (arg0.view.readAt (Elt F) (Rect.unit (s := S8) ![5] S1.size inb_S8_S1_5).toLoadRect (harg0.unread x0) (Shape.Idx.first (numel1_S1.symm ▸ Nat.one_pos)))) (k0_hw7 : k0_chk7 (arg0.view.readAt (Elt F) (Rect.unit (s := S8) ![6] S1.size inb_S8_S1_6).toLoadRect (harg0.unread x0) (Shape.Idx.first (numel1_S1.symm ▸ Nat.one_pos)))) (k0_hw8 : k0_chk8 (arg0.view.readAt (Elt F) (Rect.unit (s := S8) ![7] S1.size inb_S8_S1_7).toLoadRect (harg0.unread x0) (Shape.Idx.first (numel1_S1.symm ▸ Nat.one_pos)))) (k0_hw9 : k0_chk9 (arg0.view.readAt (Elt F) (Rect.unit (s := S8) ![0] S1.size inb_S8_S1_0).toLoadRect (harg0.unread x0) (Shape.Idx.first (numel1_S1.symm ▸ Nat.one_pos)))) (k0_hw10 : k0_chk10 (arg0.view.readAt (Elt F) (Rect.unit (s := S8) ![1] S1.size inb_S8_S1_1).toLoadRect (harg0.unread x0) (Shape.Idx.first (numel1_S1.symm ▸ Nat.one_pos)))) (k0_hw11 : k0_chk11 (arg0.view.readAt (Elt F) (Rect.unit (s := S8) ![2] S1.size inb_S8_S1_2).toLoadRect (harg0.unread x0) (Shape.Idx.first (numel1_S1.symm ▸ Nat.one_pos)))) (k0_hw12 : k0_chk12 (arg0.view.readAt (Elt F) (Rect.unit (s := S8) ![3] S1.size inb_S8_S1_3).toLoadRect (harg0.unread x0) (Shape.Idx.first (numel1_S1.symm ▸ Nat.one_pos)))) (k0_hw13 : k0_chk13 (arg0.view.readAt (Elt F) (Rect.unit (s := S8) ![4] S1.size inb_S8_S1_4).toLoadRect (harg0.unread x0) (Shape.Idx.first (numel1_S1.symm ▸ Nat.one_pos)))) (k0_hw14 : k0_chk14 (arg0.view.readAt (Elt F) (Rect.unit (s := S8) ![5] S1.size inb_S8_S1_5).toLoadRect (harg0.unread x0) (Shape.Idx.first (numel1_S1.symm ▸ Nat.one_pos)))) (k0_hw15 : k0_chk15 (arg0.view.readAt (Elt F) (Rect.unit (s := S8) ![6] S1.size inb_S8_S1_6).toLoadRect (harg0.unread x0) (Shape.Idx.first (numel1_S1.symm ▸ Nat.one_pos)))) (k0_hw16 : k0_chk16 (arg0.view.readAt (Elt F) (Rect.unit (s := S8) ![7] S1.size inb_S8_S1_7).toLoadRect (harg0.unread x0) (Shape.Idx.first (numel1_S1.symm ▸ Nat.one_pos))))

/-- The first position fetched for a sequence. -/
def baseAt (b : Fin 8) : ℕ := (Words.base (lenAt harg0 x0 b)).toNat

/-- A copied window ends within the cache. -/
theorem baseAt_le (b : Fin 8) : baseAt arg0 harg0 x0 b + 1152 ≤ 32768 := by
  obtain ⟨q, hq, e⟩ := Words.base_mul (lenAt harg0 x0 b)
  unfold baseAt; omega

/-- The key codes copied into scratch are those of the cache. -/
theorem copiesK_val : ∀ p ∈ copiesK c arg0 harg0 x0 fh0 k0_hw1 k0_hw2 k0_hw3 k0_hw4 k0_hw5 k0_hw6 k0_hw7 k0_hw8,
    ∀ x, p.2 x = (fh0 : (⟨4, ![8, 4, 32, 32768]⟩ : Shape).Idx → _) (inCache (baseAt arg0 harg0 x0) (baseAt_le arg0 harg0 x0) (p.1.emb x)) := by
  unfold copiesK
  simp only [List.forall_mem_cons, List.not_mem_nil, false_imp_iff, implies_true, and_true]
  refine ⟨fun x => ?_, fun x => ?_, fun x => ?_, fun x => ?_, fun x => ?_, fun x => ?_, fun x => ?_, fun x => ?_⟩
  · exact copy_val (R := 32) (baseAt_le arg0 harg0 x0) 7 (off := k0_off15 (lenAt harg0 x0 7)) (by sl_kernel_rfl) fh0 _ (by sl_kernel_rfl) _ x
  · exact copy_val (R := 32) (baseAt_le arg0 harg0 x0) 6 (off := k0_off13 (lenAt harg0 x0 6)) (by sl_kernel_rfl) fh0 _ (by sl_kernel_rfl) _ x
  · exact copy_val (R := 32) (baseAt_le arg0 harg0 x0) 5 (off := k0_off11 (lenAt harg0 x0 5)) (by sl_kernel_rfl) fh0 _ (by sl_kernel_rfl) _ x
  · exact copy_val (R := 32) (baseAt_le arg0 harg0 x0) 4 (off := k0_off9 (lenAt harg0 x0 4)) (by sl_kernel_rfl) fh0 _ (by sl_kernel_rfl) _ x
  · exact copy_val (R := 32) (baseAt_le arg0 harg0 x0) 3 (off := k0_off7 (lenAt harg0 x0 3)) (by sl_kernel_rfl) fh0 _ (by sl_kernel_rfl) _ x
  · exact copy_val (R := 32) (baseAt_le arg0 harg0 x0) 2 (off := k0_off5 (lenAt harg0 x0 2)) (by sl_kernel_rfl) fh0 _ (by sl_kernel_rfl) _ x
  · exact copy_val (R := 32) (baseAt_le arg0 harg0 x0) 1 (off := k0_off3 (lenAt harg0 x0 1)) (by sl_kernel_rfl) fh0 _ (by sl_kernel_rfl) _ x
  · exact copy_val (R := 32) (baseAt_le arg0 harg0 x0) 0 (off := k0_off1 (lenAt harg0 x0 0)) (by sl_kernel_rfl) fh0 _ (by sl_kernel_rfl) _ x

/-- The copies of the key codes fill their buffer. -/
theorem copiesK_cover (y : (⟨4, ![8, 4, 32, 1152]⟩ : Shape).Idx) : ∃ p ∈ copiesK c arg0 harg0 x0 fh0 k0_hw1 k0_hw2 k0_hw3 k0_hw4 k0_hw5 k0_hw6 k0_hw7 k0_hw8, y ∈ p.1.set := by
  unfold copiesK
  simp only [List.exists_mem_cons_iff]
  obtain ⟨b, hb⟩ : ∃ b, b = y 0 := ⟨_, rfl⟩
  have hm := mem_copy (R := 32) b
  revert hm hb
  fin_cases b
  · exact fun hb hm => Or.inr (Or.inr (Or.inr (Or.inr (Or.inr (Or.inr (Or.inr (Or.inl (hm _ y hb.symm))))))))
  · exact fun hb hm => Or.inr (Or.inr (Or.inr (Or.inr (Or.inr (Or.inr (Or.inl (hm _ y hb.symm)))))))
  · exact fun hb hm => Or.inr (Or.inr (Or.inr (Or.inr (Or.inr (Or.inl (hm _ y hb.symm))))))
  · exact fun hb hm => Or.inr (Or.inr (Or.inr (Or.inr (Or.inl (hm _ y hb.symm)))))
  · exact fun hb hm => Or.inr (Or.inr (Or.inr (Or.inl (hm _ y hb.symm))))
  · exact fun hb hm => Or.inr (Or.inr (Or.inl (hm _ y hb.symm)))
  · exact fun hb hm => Or.inr (Or.inl (hm _ y hb.symm))
  · exact fun hb hm => Or.inl (hm _ y hb.symm)

/-- The key scales copied into scratch are those of the cache. -/
theorem copiesKS_val : ∀ p ∈ copiesKS c arg0 harg0 x0 fh2 k0_hw1 k0_hw2 k0_hw3 k0_hw4 k0_hw5 k0_hw6 k0_hw7 k0_hw8,
    ∀ x, p.2 x = (fh2 : (⟨4, ![8, 4, 4, 32768]⟩ : Shape).Idx → _) (inCache (baseAt arg0 harg0 x0) (baseAt_le arg0 harg0 x0) (p.1.emb x)) := by
  unfold copiesKS
  simp only [List.forall_mem_cons, List.not_mem_nil, false_imp_iff, implies_true, and_true]
  refine ⟨fun x => ?_, fun x => ?_, fun x => ?_, fun x => ?_, fun x => ?_, fun x => ?_, fun x => ?_, fun x => ?_⟩
  · exact copy_val (R := 4) (baseAt_le arg0 harg0 x0) 7 (off := k0_off16 (lenAt harg0 x0 7)) (by sl_kernel_rfl) fh2 _ (by sl_kernel_rfl) _ x
  · exact copy_val (R := 4) (baseAt_le arg0 harg0 x0) 6 (off := k0_off14 (lenAt harg0 x0 6)) (by sl_kernel_rfl) fh2 _ (by sl_kernel_rfl) _ x
  · exact copy_val (R := 4) (baseAt_le arg0 harg0 x0) 5 (off := k0_off12 (lenAt harg0 x0 5)) (by sl_kernel_rfl) fh2 _ (by sl_kernel_rfl) _ x
  · exact copy_val (R := 4) (baseAt_le arg0 harg0 x0) 4 (off := k0_off10 (lenAt harg0 x0 4)) (by sl_kernel_rfl) fh2 _ (by sl_kernel_rfl) _ x
  · exact copy_val (R := 4) (baseAt_le arg0 harg0 x0) 3 (off := k0_off8 (lenAt harg0 x0 3)) (by sl_kernel_rfl) fh2 _ (by sl_kernel_rfl) _ x
  · exact copy_val (R := 4) (baseAt_le arg0 harg0 x0) 2 (off := k0_off6 (lenAt harg0 x0 2)) (by sl_kernel_rfl) fh2 _ (by sl_kernel_rfl) _ x
  · exact copy_val (R := 4) (baseAt_le arg0 harg0 x0) 1 (off := k0_off4 (lenAt harg0 x0 1)) (by sl_kernel_rfl) fh2 _ (by sl_kernel_rfl) _ x
  · exact copy_val (R := 4) (baseAt_le arg0 harg0 x0) 0 (off := k0_off2 (lenAt harg0 x0 0)) (by sl_kernel_rfl) fh2 _ (by sl_kernel_rfl) _ x

/-- The copies of the key scales fill their buffer. -/
theorem copiesKS_cover (y : (⟨4, ![8, 4, 4, 1152]⟩ : Shape).Idx) : ∃ p ∈ copiesKS c arg0 harg0 x0 fh2 k0_hw1 k0_hw2 k0_hw3 k0_hw4 k0_hw5 k0_hw6 k0_hw7 k0_hw8, y ∈ p.1.set := by
  unfold copiesKS
  simp only [List.exists_mem_cons_iff]
  obtain ⟨b, hb⟩ : ∃ b, b = y 0 := ⟨_, rfl⟩
  have hm := mem_copy (R := 4) b
  revert hm hb
  fin_cases b
  · exact fun hb hm => Or.inr (Or.inr (Or.inr (Or.inr (Or.inr (Or.inr (Or.inr (Or.inl (hm _ y hb.symm))))))))
  · exact fun hb hm => Or.inr (Or.inr (Or.inr (Or.inr (Or.inr (Or.inr (Or.inl (hm _ y hb.symm)))))))
  · exact fun hb hm => Or.inr (Or.inr (Or.inr (Or.inr (Or.inr (Or.inl (hm _ y hb.symm))))))
  · exact fun hb hm => Or.inr (Or.inr (Or.inr (Or.inr (Or.inl (hm _ y hb.symm)))))
  · exact fun hb hm => Or.inr (Or.inr (Or.inr (Or.inl (hm _ y hb.symm))))
  · exact fun hb hm => Or.inr (Or.inr (Or.inl (hm _ y hb.symm)))
  · exact fun hb hm => Or.inr (Or.inl (hm _ y hb.symm))
  · exact fun hb hm => Or.inl (hm _ y hb.symm)

/-- The value codes copied into scratch are those of the cache. -/
theorem copiesV_val : ∀ p ∈ copiesV c arg0 harg0 x0 fh1 k0_hw1 k0_hw2 k0_hw3 k0_hw4 k0_hw5 k0_hw6 k0_hw7 k0_hw8,
    ∀ x, p.2 x = (fh1 : (⟨4, ![8, 4, 32, 32768]⟩ : Shape).Idx → _) (inCache (baseAt arg0 harg0 x0) (baseAt_le arg0 harg0 x0) (p.1.emb x)) := by
  unfold copiesV
  simp only [List.forall_mem_cons, List.not_mem_nil, false_imp_iff, implies_true, and_true]
  refine ⟨fun x => ?_, fun x => ?_, fun x => ?_, fun x => ?_, fun x => ?_, fun x => ?_, fun x => ?_, fun x => ?_⟩
  · exact copy_val (R := 32) (baseAt_le arg0 harg0 x0) 7 (off := k0_off15 (lenAt harg0 x0 7)) (by sl_kernel_rfl) fh1 _ (by sl_kernel_rfl) _ x
  · exact copy_val (R := 32) (baseAt_le arg0 harg0 x0) 6 (off := k0_off13 (lenAt harg0 x0 6)) (by sl_kernel_rfl) fh1 _ (by sl_kernel_rfl) _ x
  · exact copy_val (R := 32) (baseAt_le arg0 harg0 x0) 5 (off := k0_off11 (lenAt harg0 x0 5)) (by sl_kernel_rfl) fh1 _ (by sl_kernel_rfl) _ x
  · exact copy_val (R := 32) (baseAt_le arg0 harg0 x0) 4 (off := k0_off9 (lenAt harg0 x0 4)) (by sl_kernel_rfl) fh1 _ (by sl_kernel_rfl) _ x
  · exact copy_val (R := 32) (baseAt_le arg0 harg0 x0) 3 (off := k0_off7 (lenAt harg0 x0 3)) (by sl_kernel_rfl) fh1 _ (by sl_kernel_rfl) _ x
  · exact copy_val (R := 32) (baseAt_le arg0 harg0 x0) 2 (off := k0_off5 (lenAt harg0 x0 2)) (by sl_kernel_rfl) fh1 _ (by sl_kernel_rfl) _ x
  · exact copy_val (R := 32) (baseAt_le arg0 harg0 x0) 1 (off := k0_off3 (lenAt harg0 x0 1)) (by sl_kernel_rfl) fh1 _ (by sl_kernel_rfl) _ x
  · exact copy_val (R := 32) (baseAt_le arg0 harg0 x0) 0 (off := k0_off1 (lenAt harg0 x0 0)) (by sl_kernel_rfl) fh1 _ (by sl_kernel_rfl) _ x

/-- The copies of the value codes fill their buffer. -/
theorem copiesV_cover (y : (⟨4, ![8, 4, 32, 1152]⟩ : Shape).Idx) : ∃ p ∈ copiesV c arg0 harg0 x0 fh1 k0_hw1 k0_hw2 k0_hw3 k0_hw4 k0_hw5 k0_hw6 k0_hw7 k0_hw8, y ∈ p.1.set := by
  unfold copiesV
  simp only [List.exists_mem_cons_iff]
  obtain ⟨b, hb⟩ : ∃ b, b = y 0 := ⟨_, rfl⟩
  have hm := mem_copy (R := 32) b
  revert hm hb
  fin_cases b
  · exact fun hb hm => Or.inr (Or.inr (Or.inr (Or.inr (Or.inr (Or.inr (Or.inr (Or.inl (hm _ y hb.symm))))))))
  · exact fun hb hm => Or.inr (Or.inr (Or.inr (Or.inr (Or.inr (Or.inr (Or.inl (hm _ y hb.symm)))))))
  · exact fun hb hm => Or.inr (Or.inr (Or.inr (Or.inr (Or.inr (Or.inl (hm _ y hb.symm))))))
  · exact fun hb hm => Or.inr (Or.inr (Or.inr (Or.inr (Or.inl (hm _ y hb.symm)))))
  · exact fun hb hm => Or.inr (Or.inr (Or.inr (Or.inl (hm _ y hb.symm))))
  · exact fun hb hm => Or.inr (Or.inr (Or.inl (hm _ y hb.symm)))
  · exact fun hb hm => Or.inr (Or.inl (hm _ y hb.symm))
  · exact fun hb hm => Or.inl (hm _ y hb.symm)

/-- The value scales copied into scratch are those of the cache. -/
theorem copiesVS_val : ∀ p ∈ copiesVS c arg0 harg0 x0 fh3 k0_hw1 k0_hw2 k0_hw3 k0_hw4 k0_hw5 k0_hw6 k0_hw7 k0_hw8,
    ∀ x, p.2 x = (fh3 : (⟨4, ![8, 4, 4, 32768]⟩ : Shape).Idx → _) (inCache (baseAt arg0 harg0 x0) (baseAt_le arg0 harg0 x0) (p.1.emb x)) := by
  unfold copiesVS
  simp only [List.forall_mem_cons, List.not_mem_nil, false_imp_iff, implies_true, and_true]
  refine ⟨fun x => ?_, fun x => ?_, fun x => ?_, fun x => ?_, fun x => ?_, fun x => ?_, fun x => ?_, fun x => ?_⟩
  · exact copy_val (R := 4) (baseAt_le arg0 harg0 x0) 7 (off := k0_off16 (lenAt harg0 x0 7)) (by sl_kernel_rfl) fh3 _ (by sl_kernel_rfl) _ x
  · exact copy_val (R := 4) (baseAt_le arg0 harg0 x0) 6 (off := k0_off14 (lenAt harg0 x0 6)) (by sl_kernel_rfl) fh3 _ (by sl_kernel_rfl) _ x
  · exact copy_val (R := 4) (baseAt_le arg0 harg0 x0) 5 (off := k0_off12 (lenAt harg0 x0 5)) (by sl_kernel_rfl) fh3 _ (by sl_kernel_rfl) _ x
  · exact copy_val (R := 4) (baseAt_le arg0 harg0 x0) 4 (off := k0_off10 (lenAt harg0 x0 4)) (by sl_kernel_rfl) fh3 _ (by sl_kernel_rfl) _ x
  · exact copy_val (R := 4) (baseAt_le arg0 harg0 x0) 3 (off := k0_off8 (lenAt harg0 x0 3)) (by sl_kernel_rfl) fh3 _ (by sl_kernel_rfl) _ x
  · exact copy_val (R := 4) (baseAt_le arg0 harg0 x0) 2 (off := k0_off6 (lenAt harg0 x0 2)) (by sl_kernel_rfl) fh3 _ (by sl_kernel_rfl) _ x
  · exact copy_val (R := 4) (baseAt_le arg0 harg0 x0) 1 (off := k0_off4 (lenAt harg0 x0 1)) (by sl_kernel_rfl) fh3 _ (by sl_kernel_rfl) _ x
  · exact copy_val (R := 4) (baseAt_le arg0 harg0 x0) 0 (off := k0_off2 (lenAt harg0 x0 0)) (by sl_kernel_rfl) fh3 _ (by sl_kernel_rfl) _ x

/-- The copies of the value scales fill their buffer. -/
theorem copiesVS_cover (y : (⟨4, ![8, 4, 4, 1152]⟩ : Shape).Idx) : ∃ p ∈ copiesVS c arg0 harg0 x0 fh3 k0_hw1 k0_hw2 k0_hw3 k0_hw4 k0_hw5 k0_hw6 k0_hw7 k0_hw8, y ∈ p.1.set := by
  unfold copiesVS
  simp only [List.exists_mem_cons_iff]
  obtain ⟨b, hb⟩ : ∃ b, b = y 0 := ⟨_, rfl⟩
  have hm := mem_copy (R := 4) b
  revert hm hb
  fin_cases b
  · exact fun hb hm => Or.inr (Or.inr (Or.inr (Or.inr (Or.inr (Or.inr (Or.inr (Or.inl (hm _ y hb.symm))))))))
  · exact fun hb hm => Or.inr (Or.inr (Or.inr (Or.inr (Or.inr (Or.inr (Or.inl (hm _ y hb.symm)))))))
  · exact fun hb hm => Or.inr (Or.inr (Or.inr (Or.inr (Or.inr (Or.inl (hm _ y hb.symm))))))
  · exact fun hb hm => Or.inr (Or.inr (Or.inr (Or.inr (Or.inl (hm _ y hb.symm)))))
  · exact fun hb hm => Or.inr (Or.inr (Or.inr (Or.inl (hm _ y hb.symm))))
  · exact fun hb hm => Or.inr (Or.inr (Or.inl (hm _ y hb.symm)))
  · exact fun hb hm => Or.inr (Or.inl (hm _ y hb.symm))
  · exact fun hb hm => Or.inl (hm _ y hb.symm)

end

/-- A load from a buffer that copies fill, at the place in the cache its element was copied from. -/
theorem load_val {e : EltTy} {R T : ℕ} (m : Memref sig .tc .vmem ⟨4, ![8, 4, R, 1152]⟩ e) (L : List (View.Piece (Elt F) ⟨4, ![8, 4, R, 1152]⟩ e))
    (base : Fin 8 → ℕ) (hb : ∀ b, base b + 1152 ≤ 32768) (G : (⟨4, ![8, 4, R, 32768]⟩ : Shape).Idx → Elt F e)
    (hL : ∀ p ∈ L, ∀ x, p.2 x = G (inCache base hb (p.1.emb x))) (hc : ∀ y, ∃ p ∈ L, y ∈ p.1.set)
    (b : Fin 8) (k : Fin 4) (w : ℕ) (hw : w + T ≤ 1152) (h) (i : Fin R) (t : Fin T) :
    View.readCov m.view L (Rect.unit (s := ⟨4, ![8, 4, R, 1152]⟩) ![b.val, k.val, 0, w] ![1, 1, R, T] h).toLoadRect (ix4 0 0 i t)
      = G (ix4 b k i ⟨base b + (w + t.val), by have := hb b; omega⟩) := by
  rw [View.readCov_eq_canon']
  have key := View.canon_apply_of_pieces (fun y => G (inCache base hb y)) L hL
    ((Rect.unit (s := ⟨4, ![8, 4, R, 1152]⟩) ![b.val, k.val, 0, w] ![1, 1, R, T] h).toLoadRect.idx (ix4 0 0 i t)) (hc _)
  refine key.trans (congrArg G ?_)
  have e0 : (Rect.unit (s := ⟨4, ![8, 4, R, 1152]⟩) ![b.val, k.val, 0, w] ![1, 1, R, T] h).toLoadRect.idx (ix4 0 0 i t) 0 = b := by
    apply Fin.ext
    show b.val + 1 * 0 = b.val
    omega
  funext a
  apply Fin.ext
  fin_cases a
  · show b.val + 1 * 0 = b.val; omega
  · show k.val + 1 * 0 = k.val; omega
  · show 0 + 1 * i.val = i.val; omega
  · show base _ + (w + 1 * t.val) = base b + (w + t.val)
    rw [e0]; omega

/-- A cache laid out with its positions last, from its argument's layout. -/
def laid {α : Type} {R : ℕ} (G : (⟨4, ![8, 32768, 4, R]⟩ : Shape).Idx → α) (y : (⟨4, ![8, 4, R, 32768]⟩ : Shape).Idx) : α := G (ix4 (y 0) (y 3) (y 1) (y 2))

/-- A lane of a fetched tile is the window's position that its rotation names. -/
theorem loads_tile (codes : Memref sig .tc .vmem S8x4x32x1152 .i8) (scales : Memref sig .tc .vmem S8x4x4x1152 .fp8e4m3)
    (Lc : List (View.Piece (Elt Ideal) S8x4x32x1152 .i8)) (Ls : List (View.Piece (Elt Ideal) S8x4x4x1152 .fp8e4m3))
    (base : Fin 8 → ℕ) (hb : ∀ b, base b + 1152 ≤ 32768) (Gc : (⟨4, ![8, 32768, 4, 32]⟩ : Shape).Idx → BitVec 8) (Gs : (⟨4, ![8, 32768, 4, 4]⟩ : Shape).Idx → EReal)
    (hc : ∀ p ∈ Lc, ∀ x, p.2 x = laid Gc (inCache base hb (p.1.emb x))) (hs : ∀ p ∈ Ls, ∀ x, p.2 x = laid Gs (inCache base hb (p.1.emb x)))
    (cc : ∀ y, ∃ p ∈ Lc, y ∈ p.1.set) (cs : ∀ y, ∃ p ∈ Ls, y ∈ p.1.set) (b : Fin 8) (n o : ℕ) (hn : n ≤ 31744) (ho : o ≤ 128) (e : base b + o = n)
    (k : Fin 4) (d : Fin 64) (t : Fin 1024) :
    (loads codes scales Lc Ls b).tile (BitVec.ofNat 32 o) k (ix2 d t) = Spec.window Gc Gs n hn b k (rot o ho t) d := by
  unfold Loads.tile
  rw [tile_val o ho]
  have key : base b + (fetched o ho t).val = n + (rot o ho t).val := by
    show base b + (if t.val < o then 1024 + t.val else t.val) = n + (1024 + t.val - o) % 1024
    split_ifs <;> omega
  have hS : (loads codes scales Lc Ls b).s k (ix4 0 0 ⟨d.val / 16, by omega⟩ (fetched o ho t))
      = laid Gs (ix4 b k ⟨d.val / 16, by omega⟩ ⟨n + (rot o ho t).val, by omega⟩) := by
    refine (load_val (R := 4) (T := 1152) scales Ls base hb (laid Gs) hs cs b k 0 (by omega) _ _ _).trans (congrArg (laid Gs) ?_)
    congr 1
    apply Fin.ext
    show base b + (0 + (fetched o ho t).val) = n + (rot o ho t).val
    omega
  have hC : byte o ((loads codes scales Lc Ls b).c0 k) ((loads codes scales Lc Ls b).c8 k) ((loads codes scales Lc Ls b).cm k) ⟨d.val / 2, by omega⟩ t
      = laid Gc (ix4 b k ⟨d.val / 2, by omega⟩ ⟨n + (rot o ho t).val, by omega⟩) := by
    have kv : (fetched o ho t).val = if t.val < o then 1024 + t.val else t.val := rfl
    unfold byte
    split_ifs with h1 h2
    · refine (load_val (F := Ideal) (e := .i8) (R := 32) (T := 128) codes Lc base hb (laid Gc) hc cc b k 0 (by omega) _ _ _).trans (congrArg (laid Gc) ?_)
      congr 1
      apply Fin.ext
      show base b + (0 + t.val) = n + (rot o ho t).val
      rw [if_neg (by omega)] at kv
      omega
    · refine (load_val (F := Ideal) (e := .i8) (R := 32) (T := 128) codes Lc base hb (laid Gc) hc cc b k 1024 (by omega) _ _ _).trans (congrArg (laid Gc) ?_)
      congr 1
      apply Fin.ext
      show base b + (1024 + t.val) = n + (rot o ho t).val
      rw [if_pos (by omega)] at kv
      omega
    · refine (load_val (F := Ideal) (e := .i8) (R := 32) (T := 896) codes Lc base hb (laid Gc) hc cc b k 128 (by omega) _ _ _).trans (congrArg (laid Gc) ?_)
      congr 1
      apply Fin.ext
      show base b + (128 + (t.val - 128)) = n + (rot o ho t).val
      rw [if_neg (by omega)] at kv
      omega
  rw [hS, hC]
  rfl

end Cert.KernelIdeal.Batch
-- ==== Proof.KernelOut.lean ====
module

public import proofs.«01_k».proof.Proof.Fetch
public import proofs.«01_k».proof.Proof.Gen.KernelIdeal.Frame

@[expose] public section

set_option maxRecDepth 16384

noncomputable section

namespace Cert.KernelIdeal.Batch

open Idealize.ShloMosaic Cert.KernelIdeal.Gen Cert.Spec

section
variable (kc vc : (⟨4, ![8, 32768, 4, 32]⟩ : Shape).Idx → BitVec 8) (ks vs : (⟨4, ![8, 32768, 4, 4]⟩ : Shape).Idx → EReal)
variable (c : Dev nD) (arg0 : Memref sig .tc .smem S8 .i32) (harg0 : arg0.IsWhole) (arg1 : Memref sig .tc .smem S1 .f32) (harg1 : arg1.IsWhole) (arg2 : Memref sig .tc .smem S1 .f32) (harg2 : arg2.IsWhole) (arg3 : Memref sig .tc .vmem S8x4x32x64 .bf16) (harg3 : arg3.IsWhole) (arg4 : Memref sig .tc .vmem S8x4x4x64 .bf16) (harg4 : arg4.IsWhole) (arg5 : Memref sig .tc .vmem S8x4x4x64 .bf16) (harg5 : arg5.IsWhole) (arg10 : Memref sig .tc .vmem S8x4x2048 .bf16) (harg10 : arg10.IsWhole) (arg11 : Memref sig .tc .vmem S8x4x32x1152 .i8) (harg11 : arg11.IsWhole) (arg12 : Memref sig .tc .vmem S8x4x32x1152 .i8) (harg12 : arg12.IsWhole) (arg13 : Memref sig .tc .vmem S8x4x4x1152 .fp8e4m3) (harg13 : arg13.IsWhole) (arg14 : Memref sig .tc .vmem S8x4x4x1152 .fp8e4m3) (harg14 : arg14.IsWhole)
    (x0 : Vec Ideal S8 .i32) (x1 : Vec Ideal S1 .f32) (x2 : Vec Ideal S1 .f32) (x3 : Vec Ideal S8x4x32x64 .bf16) (x4 : Vec Ideal S8x4x4x64 .bf16) (x5 : Vec Ideal S8x4x4x64 .bf16) (fh0 : HbBuf0 (F := Ideal) c hbM0_0) (fh1 : HbBuf0 (F := Ideal) c hbM0_1) (fh2 : HbBuf0 (F := Ideal) c hbM0_2) (fh3 : HbBuf0 (F := Ideal) c hbM0_3) (k0_hw1 : k0_chk1 (arg0.view.readAt (Elt Ideal) (Rect.unit (s := S8) ![0] S1.size inb_S8_S1_0).toLoadRect (harg0.unread x0) (Shape.Idx.first (numel1_S1.symm ▸ Nat.one_pos)))) (k0_hw2 : k0_chk2 (arg0.view.readAt (Elt Ideal) (Rect.unit (s := S8) ![1] S1.size inb_S8_S1_1).toLoadRect (harg0.unread x0) (Shape.Idx.first (numel1_S1.symm ▸ Nat.one_pos)))) (k0_hw3 : k0_chk3 (arg0.view.readAt (Elt Ideal) (Rect.unit (s := S8) ![2] S1.size inb_S8_S1_2).toLoadRect (harg0.unread x0) (Shape.Idx.first (numel1_S1.symm ▸ Nat.one_pos)))) (k0_hw4 : k0_chk4 (arg0.view.readAt (Elt Ideal) (Rect.unit (s := S8) ![3] S1.size inb_S8_S1_3).toLoadRect (harg0.unread x0) (Shape.Idx.first (numel1_S1.symm ▸ Nat.one_pos)))) (k0_hw5 : k0_chk5 (arg0.view.readAt (Elt Ideal) (Rect.unit (s := S8) ![4] S1.size inb_S8_S1_4).toLoadRect (harg0.unread x0) (Shape.Idx.first (numel1_S1.symm ▸ Nat.one_pos)))) (k0_hw6 : k0_chk6 (arg0.view.readAt (Elt Ideal) (Rect.unit (s := S8) ![5] S1.size inb_S8_S1_5).toLoadRect (harg0.unread x0) (Shape.Idx.first (numel1_S1.symm ▸ Nat.one_pos)))) (k0_hw7 : k0_chk7 (arg0.view.readAt (Elt Ideal) (Rect.unit (s := S8) ![6] S1.size inb_S8_S1_6).toLoadRect (harg0.unread x0) (Shape.Idx.first (numel1_S1.symm ▸ Nat.one_pos)))) (k0_hw8 : k0_chk8 (arg0.view.readAt (Elt Ideal) (Rect.unit (s := S8) ![7] S1.size inb_S8_S1_7).toLoadRect (harg0.unread x0) (Shape.Idx.first (numel1_S1.symm ▸ Nat.one_pos)))) (k0_hw9 : k0_chk9 (arg0.view.readAt (Elt Ideal) (Rect.unit (s := S8) ![0] S1.size inb_S8_S1_0).toLoadRect (harg0.unread x0) (Shape.Idx.first (numel1_S1.symm ▸ Nat.one_pos)))) (k0_hw10 : k0_chk10 (arg0.view.readAt (Elt Ideal) (Rect.unit (s := S8) ![1] S1.size inb_S8_S1_1).toLoadRect (harg0.unread x0) (Shape.Idx.first (numel1_S1.symm ▸ Nat.one_pos)))) (k0_hw11 : k0_chk11 (arg0.view.readAt (Elt Ideal) (Rect.unit (s := S8) ![2] S1.size inb_S8_S1_2).toLoadRect (harg0.unread x0) (Shape.Idx.first (numel1_S1.symm ▸ Nat.one_pos)))) (k0_hw12 : k0_chk12 (arg0.view.readAt (Elt Ideal) (Rect.unit (s := S8) ![3] S1.size inb_S8_S1_3).toLoadRect (harg0.unread x0) (Shape.Idx.first (numel1_S1.symm ▸ Nat.one_pos)))) (k0_hw13 : k0_chk13 (arg0.view.readAt (Elt Ideal) (Rect.unit (s := S8) ![4] S1.size inb_S8_S1_4).toLoadRect (harg0.unread x0) (Shape.Idx.first (numel1_S1.symm ▸ Nat.one_pos)))) (k0_hw14 : k0_chk14 (arg0.view.readAt (Elt Ideal) (Rect.unit (s := S8) ![5] S1.size inb_S8_S1_5).toLoadRect (harg0.unread x0) (Shape.Idx.first (numel1_S1.symm ▸ Nat.one_pos)))) (k0_hw15 : k0_chk15 (arg0.view.readAt (Elt Ideal) (Rect.unit (s := S8) ![6] S1.size inb_S8_S1_6).toLoadRect (harg0.unread x0) (Shape.Idx.first (numel1_S1.symm ▸ Nat.one_pos)))) (k0_hw16 : k0_chk16 (arg0.view.readAt (Elt Ideal) (Rect.unit (s := S8) ![7] S1.size inb_S8_S1_7).toLoadRect (harg0.unread x0) (Shape.Idx.first (numel1_S1.symm ▸ Nat.one_pos))))

/-- A load of one sequence from a whole operand. -/
theorem row_val {M N R : ℕ} (arg : Memref sig .tc .vmem ⟨4, ![8, M, N, R]⟩ .bf16) (harg : arg.IsWhole) (x : Vec Ideal ⟨4, ![8, M, N, R]⟩ .bf16) (b : Fin 8) (h)
    (i : Fin M) (k : Fin N) (d : Fin R) :
    arg.view.readAt (Elt Ideal) (Rect.unit (s := ⟨4, ![8, M, N, R]⟩) ![b.val, 0, 0, 0] ![1, M, N, R] h).toLoadRect (harg.unread x) (ix4 0 i k d)
      = x (ix4 b i k d) := by
  rw [View.readAt_eq_ld, Memref.IsWhole.read_unread]
  refine congrArg x ?_
  funext a
  apply Fin.ext
  fin_cases a
  · show b.val + 1 * 0 = b.val; omega
  · show 0 + 1 * i.val = i.val; omega
  · show 0 + 1 * k.val = k.val; omega
  · show 0 + 1 * d.val = d.val; omega

/-- The word of a length is read from the lengths. -/
theorem lenAt_val (b : Fin 8) : lenAt harg0 x0 b = x0 (ix1 b) := by
  unfold lenAt
  rw [View.readAt_eq_ld, Memref.IsWhole.read_unread]
  refine congrArg x0 ?_
  funext a
  apply Fin.ext
  fin_cases a
  have hz : ∀ q : Fin 1, b.val + 1 * q.val = b.val := fun q => by omega
  exact hz _

/-- A scalar operand is read whole. -/
theorem scalar_val (arg : Memref sig .tc .smem S1 .f32) (harg : arg.IsWhole) (x : Vec Ideal S1 .f32) :
    arg.view.readAt (Elt Ideal) (Rect.unit (s := S1) ![0] S1.size inb_S1_S1_0).toLoadRect (harg.unread x) (Shape.Idx.first (numel1_S1.symm ▸ Nat.one_pos))
      = x (ix1 0) := by
  rw [View.readAt_eq_ld, Memref.IsWhole.read_unread]
  refine congrArg x ?_
  funext a
  apply Fin.ext
  fin_cases a
  have hz : ∀ q : Fin 1, 0 + 1 * q.val = 0 := fun q => by omega
  exact hz _

/-- The kernel's offset into what it fetches is the start less the first fetched position. -/
theorem off_val (b : Fin 8) : ∃ o, o ≤ 128 ∧ baseAt arg0 harg0 x0 b + o = startNat (lenAt harg0 x0 b)
    ∧ Scalar.subi (Words.start (lenAt harg0 x0 b)) (Words.base (lenAt harg0 x0 b)) = BitVec.ofNat 32 o := by
  obtain ⟨n, hn, e⟩ := Words.start_word (lenAt harg0 x0 b)
  have hb := Words.base_word hn e
  refine ⟨n - min (n / 128 * 128) 31616, by omega, ?_, ?_⟩
  · unfold baseAt startNat
    rw [hb, e, BitVec.toNat_ofNat, BitVec.toNat_ofNat]
    omega
  · rw [hb, e]
    apply BitVec.eq_of_toNat_eq
    show (BitVec.ofNat 32 n - BitVec.ofNat 32 _).toNat = _
    rw [BitVec.toNat_sub, BitVec.toNat_ofNat, BitVec.toNat_ofNat, BitVec.toNat_ofNat]
    omega

/-- One store of the kernel, at an element. -/
theorem store_cell (b : Fin 8) (k j i : Fin 4) (l : Fin 128) (h : Fin 32) (h0 : fh0 = laid kc) (h1 : fh1 = laid vc) (h2 : fh2 = laid ks) (h3 : fh3 = laid vs) (hh : h.val = 8 * k.val + 2 * j.val + l.val / 64) :
    (args c arg0 harg0 arg1 harg1 arg2 harg2 arg3 harg3 arg4 harg4 arg5 harg5 arg11 arg12 arg13 arg14 x0 x1 x2 x3 x4 x5 fh0 fh1 fh2 fh3 k0_hw1 k0_hw2 k0_hw3 k0_hw4 k0_hw5 k0_hw6 k0_hw7 k0_hw8 b).store k j (ix3 0 i l)
      = cell x0 (x1 (ix1 0)) (x2 (ix1 0)) x3 x4 x5 kc vc ks vs b i h ⟨l.val % 64, by omega⟩ := by
  subst h0 h1 h2 h3
  obtain ⟨o, ho, he, hoff⟩ := off_val arg0 harg0 x0 b
  have hk : (⟨h.val / 8, by omega⟩ : Fin 4) = k := Fin.ext (by show h.val / 8 = k.val; omega)
  have hh' : (⟨8 * k.val + 2 * j.val + l.val / 64, by omega⟩ : Fin 32) = h := Fin.ext hh.symm
  have hlen := lenAt_val arg0 harg0 x0 b
  refine (store_attn (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b) o ho hoff (fun k τ d => window kc ks _ (startNat_le (lenAt harg0 x0 b)) b k τ d)
    (fun k τ d => window vc vs _ (startNat_le (lenAt harg0 x0 b)) b k τ d) ?_ ?_ k j i l).trans ?_
  · intro k d t
    rw [show (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b).off = BitVec.ofNat 32 o from hoff]
    exact loads_tile arg11 arg13 _ _ _ (baseAt_le arg0 harg0 x0) kc ks (copiesK_val c arg0 harg0 x0 (laid kc) k0_hw1 k0_hw2 k0_hw3 k0_hw4 k0_hw5 k0_hw6 k0_hw7 k0_hw8)
      (copiesKS_val c arg0 harg0 x0 (laid ks) k0_hw1 k0_hw2 k0_hw3 k0_hw4 k0_hw5 k0_hw6 k0_hw7 k0_hw8) (copiesK_cover c arg0 harg0 x0 (laid kc) k0_hw1 k0_hw2 k0_hw3 k0_hw4 k0_hw5 k0_hw6 k0_hw7 k0_hw8) (copiesKS_cover c arg0 harg0 x0 (laid ks) k0_hw1 k0_hw2 k0_hw3 k0_hw4 k0_hw5 k0_hw6 k0_hw7 k0_hw8) b _ o _ ho he k d t
  · intro k d t
    rw [show (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b).off = BitVec.ofNat 32 o from hoff]
    exact loads_tile arg12 arg14 _ _ _ (baseAt_le arg0 harg0 x0) vc vs (copiesV_val c arg0 harg0 x0 (laid vc) k0_hw1 k0_hw2 k0_hw3 k0_hw4 k0_hw5 k0_hw6 k0_hw7 k0_hw8)
      (copiesVS_val c arg0 harg0 x0 (laid vs) k0_hw1 k0_hw2 k0_hw3 k0_hw4 k0_hw5 k0_hw6 k0_hw7 k0_hw8) (copiesV_cover c arg0 harg0 x0 (laid vc) k0_hw1 k0_hw2 k0_hw3 k0_hw4 k0_hw5 k0_hw6 k0_hw7 k0_hw8) (copiesVS_cover c arg0 harg0 x0 (laid vs) k0_hw1 k0_hw2 k0_hw3 k0_hw4 k0_hw5 k0_hw6 k0_hw7 k0_hw8) b _ o _ ho he k d t
  · have hX : ∀ i h d, (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b).X (ix4 0 i h d) = x3 (ix4 b i h d) := fun i h d => row_val (M := 4) (N := 32) (R := 64) arg3 harg3 x3 b _ i h d
    have hKN : ∀ i h d, (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b).KN (ix4 0 i h d) = x4 (ix4 b i h d) := fun i h d => row_val (M := 4) (N := 4) (R := 64) arg4 harg4 x4 b _ i h d
    have hVN : ∀ i h d, (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b).VN (ix4 0 i h d) = x5 (ix4 b i h d) := fun i h d => row_val (M := 4) (N := 4) (R := 64) arg5 harg5 x5 b _ i h d
    have hgk : (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b).gk = x1 (ix1 0) := scalar_val arg1 harg1 x1
    have hgv : (args c arg0 harg0 arg1 harg1 arg2 harg2 arg3 harg3 arg4 harg4 arg5 harg5 arg11 arg12 arg13 arg14 x0 x1 x2 x3 x4 x5 (laid kc) (laid vc) (laid ks) (laid vs) k0_hw1 k0_hw2 k0_hw3 k0_hw4 k0_hw5 k0_hw6 k0_hw7 k0_hw8 b).gv = x2 (ix1 0) := scalar_val arg2 harg2 x2
    simp only [hX, hKN, hVN, hgk, hgv, hh']
    unfold cell
    simp only [hk, hlen]

variable (k0_hw9 : _) (k0_hw10 : _) (k0_hw11 : _) (k0_hw12 : _) (k0_hw13 : _) (k0_hw14 : _) (k0_hw15 : _) (k0_hw16 : _)

/-- What the kernel leaves in its output's buffer, element by element. -/
theorem out_val (h0 : fh0 = laid kc) (h1 : fh1 = laid vc) (h2 : fh2 = laid ks) (h3 : fh3 = laid vs) : out0_A_6 c arg0 harg0 arg1 harg1 arg2 harg2 arg3 harg3 arg4 harg4 arg5 harg5 arg10 harg10 arg11 harg11 arg12 harg12 arg13 harg13 arg14 harg14 x0 x1 x2 x3 x4 x5 fh0 fh1 fh2 fh3 k0_hw1 k0_hw2 k0_hw3 k0_hw4 k0_hw5 k0_hw6 k0_hw7 k0_hw8 k0_hw9 k0_hw10 k0_hw11 k0_hw12 k0_hw13 k0_hw14 k0_hw15 k0_hw16 = colCell x0 (x1 (ix1 0)) (x2 (ix1 0)) x3 x4 x5 kc vc ks vs := by
  funext y
  refine View.read_writes_apply_of_pieces _ _ _ _ ?_ y (cover0_A_6 c arg0 harg0 arg1 harg1 arg2 harg2 arg3 harg3 arg4 harg4 arg5 harg5 arg10 harg10 arg11 harg11 arg12 harg12 arg13 harg13 arg14 harg14 x0 x1 x2 x3 x4 x5 fh0 fh1 fh2 fh3 k0_hw1 k0_hw2 k0_hw3 k0_hw4 k0_hw5 k0_hw6 k0_hw7 k0_hw8 k0_hw9 k0_hw10 k0_hw11 k0_hw12 k0_hw13 k0_hw14 k0_hw15 k0_hw16 y)
  intro p hp
  obtain ⟨b, k, j, rfl⟩ := of_mem_run c arg0 harg0 arg1 harg1 arg2 harg2 arg3 harg3 arg4 harg4 arg5 harg5 arg10 harg10 arg11 harg11 arg12 harg12 arg13 harg13 arg14 harg14 x0 x1 x2 x3 x4 x5 fh0 fh1 fh2 fh3 k0_hw1 k0_hw2 k0_hw3 k0_hw4 k0_hw5 k0_hw6 k0_hw7 k0_hw8 k0_hw9 k0_hw10 k0_hw11 k0_hw12 k0_hw13 k0_hw14 k0_hw15 k0_hw16 hp
  intro x
  obtain ⟨z, i, l, rfl⟩ : ∃ (z : Fin 1) (i : Fin 4) (l : Fin 128), x = ix3 z i l := ⟨x 0, x 1, x 2, by funext a; fin_cases a <;> rfl⟩
  obtain rfl : z = 0 := Subsingleton.elim _ _
  have hcol : (4 * k.val + j.val) * 128 + 1 * l.val < 2048 := by omega
  refine (store_cell kc vc ks vs c arg0 harg0 arg1 harg1 arg2 harg2 arg3 harg3 arg4 harg4 arg5 harg5 arg11 arg12 arg13 arg14 x0 x1 x2 x3 x4 x5 fh0 fh1 fh2 fh3 k0_hw1 k0_hw2 k0_hw3 k0_hw4 k0_hw5 k0_hw6 k0_hw7 k0_hw8 b k j i l ⟨((4 * k.val + j.val) * 128 + 1 * l.val) / 64, by omega⟩ h0 h1 h2 h3 (by show ((4 * k.val + j.val) * 128 + 1 * l.val) / 64 = _; omega)).trans ?_
  unfold colCell
  congr 1
  · exact Fin.ext (by show i.val = 0 + 1 * i.val; omega)
  · exact Fin.ext (by show l.val % 64 = ((4 * k.val + j.val) * 128 + 1 * l.val) % 64; omega)
end

end Cert.KernelIdeal.Batch
-- ==== Proof.KernelVal.lean ====
module

public import proofs.«01_k».proof.Proof.KernelOut
public import proofs.«01_k».proof.Proof.Gen.KernelIdeal.Value
import Idealize.ShloMosaic.Lib.Pipeline.ValueKit.Point
import Idealize.ShloMosaic.Lib.Pointwise
import Idealize.ShloMosaic.Lib.Claim

@[expose] public section

set_option maxRecDepth 16384

noncomputable section

namespace Cert.KernelIdeal.Batch

open Idealize.ShloMosaic Cert.KernelIdeal.Gen Cert.Spec

variable (m : (ℓ : Loc nD τ sig) → Buf (Elt Ideal) ℓ) (c : Dev nD)

/-- The key codes in the layout the kernel fetches from. -/
theorem entry_v2 : V m c main_v2 = laid (α := BitVec 8) (R := 32) (m ((c.tc : Thread nD τ).loc main_arg3)) := by
  entry_read
  funext y
  pointwise [laid]

/-- The value codes in the layout the kernel fetches from. -/
theorem entry_v3 : V m c main_v3 = laid (α := BitVec 8) (R := 32) (m ((c.tc : Thread nD τ).loc main_arg4)) := by
  entry_read
  funext y
  pointwise [laid]

/-- The key scales in that layout. -/
theorem entry_v4 : V m c main_v4 = laid (α := EReal) (R := 4) (m ((c.tc : Thread nD τ).loc main_arg5)) := by
  entry_read
  funext y
  pointwise [laid]

/-- The value scales in that layout. -/
theorem entry_v5 : V m c main_v5 = laid (α := EReal) (R := 4) (m ((c.tc : Thread nD τ).loc main_arg6)) := by
  entry_read
  funext y
  pointwise [laid]

/-- The block of the lengths is the argument. -/
theorem blk0 (t : Fin cfg0.N) : iblk m c 0 t = m ((c.tc : Thread nD τ).loc main_arg9) := by
  funext y
  have e : ∀ a, win0_0.index t a = 0 := fun _ => rfl
  blk_ext! [iblk, V, e]
/-- The block of the queries is the argument. -/
theorem blk3 (t : Fin cfg0.N) : iblk m c 3 t = m ((c.tc : Thread nD τ).loc main_arg0) := by
  funext y
  have e : ∀ a, win0_3.index t a = 0 := fun _ => rfl
  blk_ext! [iblk, V, e]
/-- The block of the new keys is the argument. -/
theorem blk4 (t : Fin cfg0.N) : iblk m c 4 t = m ((c.tc : Thread nD τ).loc main_arg1) := by
  funext y
  have e : ∀ a, win0_4.index t a = 0 := fun _ => rfl
  blk_ext! [iblk, V, e]
/-- The block of the new values is the argument. -/
theorem blk5 (t : Fin cfg0.N) : iblk m c 5 t = m ((c.tc : Thread nD τ).loc main_arg2) := by
  funext y
  have e : ∀ a, win0_5.index t a = 0 := fun _ => rfl
  blk_ext! [iblk, V, e]
/-- The keys' scale is the argument. -/
theorem blk1 (t : Fin cfg0.N) : iblk m c 1 t (ix1 0) = m ((c.tc : Thread nD τ).loc main_arg7) ix0 := by
  have e : ∀ a, win0_1.index t a = 0 := fun _ => rfl
  blk_ext! [iblk, V, e]
/-- The values' scale is the argument. -/
theorem blk2 (t : Fin cfg0.N) : iblk m c 2 t (ix1 0) = m ((c.tc : Thread nD τ).loc main_arg8) ix0 := by
  have e : ∀ a, win0_2.index t a = 0 := fun _ => rfl
  blk_ext! [iblk, V, e]

/-- The array the kernel leaves, element by element. -/
theorem array_val (hH : Hyps m) : (dats m hH 0 c).arrAt 6 cfg0.N = colCell (m ((c.tc : Thread nD τ).loc main_arg9)) (m ((c.tc : Thread nD τ).loc main_arg7) ix0) (m ((c.tc : Thread nD τ).loc main_arg8) ix0) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have key := Cert.KernelIdeal.Value.blocks6 m hH c ⟨0, by decide⟩ (by decide)
  rw [Cert.KernelIdeal.Value.flushed6_A, out_val (h0 := entry_v2 m c) (h1 := entry_v3 m c) (h2 := entry_v4 m c) (h3 := entry_v5 m c),
    blk0, blk1, blk2, blk3, blk4, blk5] at key
  funext y
  have e : ∀ t a, win0_6.index t a = 0 := fun _ _ => rfl
  generalize (dats m hH 0 c).arrAt 6 cfg0.N = A at key ⊢
  have ky := congrFun key y
  refine Eq.trans ?_ ky
  blk_ext [e]
  · show (y 0).val = 0 * 8 + (y 0).val; omega
  · show (y 1).val = 0 * 4 + (y 1).val; omega
  · show (y 2).val = 0 * 2048 + (y 2).val; omega

end Cert.KernelIdeal.Batch
-- ==== Proof.RefDec.lean ====
/-
  The reference's decoding of a four-bit float, and the kernel's.
-/
module

public import proofs.«01_k».proof.Proof.Spec
import Idealize.ShloMosaic.Lib.IdealHost

@[expose] public section

noncomputable section

namespace Cert.Spec

open Idealize.ShloMosaic

/-- The magnitude of a four-bit float, by its exponent and mantissa bits. -/
def refMag (x : BitVec 32) : EReal :=
  Scalar.select (IntOp.cmpi .eq (IntOp.andi (IntOp.shrsi .host x 1#32) 3#32) 0#32)
    (Ideal.ofBits .f32 1056964608#32 * FloatOps.sitofp (F := Ideal) FTy.f32 (IntOp.andi x 1#32))
    ((1 + Ideal.ofBits .f32 1056964608#32 * FloatOps.sitofp (F := Ideal) FTy.f32 (IntOp.andi x 1#32))
      * Scalar.select (IntOp.cmpi .eq (IntOp.andi (IntOp.shrsi .host x 1#32) 3#32) 1#32) (Ideal.ofBits .f32 1065353216#32)
          (Scalar.select (IntOp.cmpi .eq (IntOp.andi (IntOp.shrsi .host x 1#32) 3#32) 2#32) (Ideal.ofBits .f32 1073741824#32)
            (Ideal.ofBits .f32 1082130432#32)))

/-- A four-bit float with its sign. -/
def refDec (x : BitVec 32) : EReal :=
  Scalar.select (IntOp.cmpi .eq (IntOp.andi (IntOp.shrsi .host x 3#32) 1#32) 1#32) (-refMag x) (refMag x)

/-- One half. -/
theorem half_val : Ideal.ofBits .f32 1056964608#32 = ((1 / 2 : ℝ) : EReal) := by
  simp [Ideal.ofBits, Ideal.ieee]; rw [← EReal.coe_mul]; norm_num
/-- One. -/
theorem one_val : Ideal.ofBits .f32 1065353216#32 = ((1 : ℝ) : EReal) := by
  simp [Ideal.ofBits, Ideal.ieee]; rw [← EReal.coe_mul]; norm_num
/-- Two. -/
theorem two_val : Ideal.ofBits .f32 1073741824#32 = ((2 : ℝ) : EReal) := by
  simp [Ideal.ofBits, Ideal.ieee]; rw [← EReal.coe_mul]; norm_num
/-- Four. -/
theorem four_val : Ideal.ofBits .f32 1082130432#32 = ((4 : ℝ) : EReal) := by
  simp [Ideal.ofBits, Ideal.ieee]; rw [← EReal.coe_mul]; norm_num

/-- Both decodings agree on four bits. -/
theorem refDec_eq (x : BitVec 32) (hx : x.toNat < 16) : refDec x = FloatOps.sitofp (F := Ideal) FTy.f32 (twice x) * half := by
  obtain ⟨n, hn, rfl⟩ : ∃ n, n < 16 ∧ x = BitVec.ofNat 32 n := ⟨x.toNat, hx, by simp⟩
  unfold refDec refMag half
  rw [half_val, one_val, two_val, four_val]
  clear hx
  have h1 : (1 : EReal) = ((1 : ℝ) : EReal) := rfl
  rw [h1]
  interval_cases n
  all_goals
    simp [twice, twiceMag, Scalar.select, IntOp.cmpi, IntOp.andi, IntOp.shrsi, IntOp.shli, IntOp.addi, IntOp.subi, FloatOps.sitofp]
    try norm_cast
    try norm_num

set_option maxRecDepth 4096 in
/-- The nibbles of a byte are less than 16, and both shifts give the same high one. -/
theorem nibbles : ∀ c : Fin 256, (IntOp.andi ((BitVec.ofFin (w := 8) c).setWidth 32) 15#32).toNat < 16
    ∧ (IntOp.shrsi .host ((BitVec.ofFin (w := 8) c).setWidth 32) 4#32).toNat < 16
    ∧ IntOp.shrsi .host ((BitVec.ofFin (w := 8) c).setWidth 32) 4#32 = IntOp.shrsi .vector ((BitVec.ofFin (w := 8) c).setWidth 32) 4#32 := by
  decide +kernel

/-- The low nibble is an even column's value. -/
theorem refDec_low (c : BitVec 8) (d : ℕ) (hd : d % 2 = 0) : refDec (IntOp.andi (c.setWidth 32) 15#32) = dec c d := by
  rw [refDec_eq _ (nibbles c.toFin).1]
  unfold dec nib
  rw [if_pos (by omega)]

/-- The high nibble is an odd column's value. -/
theorem refDec_high (c : BitVec 8) (d : ℕ) (hd : d % 2 = 1) : refDec (IntOp.shrsi .host (c.setWidth 32) 4#32) = dec c d := by
  rw [refDec_eq _ (nibbles c.toFin).2.1]
  unfold dec nib
  rw [if_neg (by omega), show IntOp.shrsi .host (c.setWidth 32) 4#32 = IntOp.shrsi .vector (c.setWidth 32) 4#32 from (nibbles c.toFin).2.2]

end Cert.Spec
-- ==== Proof.RefStages.lean ====
/-
  The stages in which the reference's host operations are read.
-/
module

public import proofs.«01_k».proof.Proof.Gen.ReferenceIdeal.Launch
public import proofs.«01_k».proof.Proof.Cell
public import proofs.«01_k».proof.Proof.RefDec
public import Idealize.ShloMosaic.PureOps.Ideal

@[expose] public section

set_option maxRecDepth 16384

noncomputable section

namespace Cert.ReferenceIdeal.Val

open Idealize.ShloMosaic Cert.ReferenceIdeal.Gen

/-- A list of host operations. -/
abbrev Ops := List (HloOp τ sig (Elt Ideal))

/-- The starts of the windows. -/
abbrev opsStart : Ops := hostOps0 ++ hostOps0_1
/-- The keys' codes. -/
abbrev opsKeyCodes : Ops := hostOps0_2.take 6
/-- The keys' code values. -/
abbrev opsKeyVals : Ops := hostOps0_2.drop 6 ++ (hostOps0_3 ++ (hostOps0_4 ++ (hostOps0_5 ++ (hostOps0_6 ++ (hostOps0_7 ++ (hostOps0_8 ++ (hostOps0_9 ++
  (hostOps0_10 ++ (hostOps0_11 ++ (hostOps0_12 ++ (hostOps0_13 ++ (hostOps0_14 ++ (hostOps0_15 ++ (hostOps0_16 ++ hostOps0_17))))))))))))))
/-- The values' codes. -/
abbrev opsValCodes : Ops := hostOps0_18.take 7
/-- The values' code values. -/
abbrev opsValVals : Ops := hostOps0_18.drop 7 ++ (hostOps0_19 ++ (hostOps0_20 ++ (hostOps0_21 ++ (hostOps0_22 ++ (hostOps0_23 ++ (hostOps0_24 ++ (hostOps0_25 ++
  (hostOps0_26 ++ (hostOps0_27 ++ (hostOps0_28 ++ (hostOps0_29 ++ (hostOps0_30 ++ (hostOps0_31 ++ (hostOps0_32 ++ hostOps0_33))))))))))))))
/-- The scales. -/
abbrev opsScales : Ops := hostOps0_34.take 11
/-- The queries, the new keys and values, the masks. -/
abbrev opsNew : Ops := hostOps0_34.drop 11 ++ hostOps0_35
/-- The windows. -/
abbrev opsWindows : Ops := hostOps1.take 10
/-- The scores. -/
abbrev opsScores : Ops := hostOps1.drop 10 ++ hostOps1_1
/-- The greatest scores. -/
abbrev opsTop : Ops := hostOps1_2.take 7
/-- The exponentials. -/
abbrev opsExp : Ops := (hostOps1_2.drop 7).take 6
/-- The totals. -/
abbrev opsDen : Ops := (hostOps1_2.drop 13).take 7
/-- The shares. -/
abbrev opsShares : Ops := hostOps1_2.drop 20 ++ (hostOps1_3 ++ (hostOps1_4 ++ hostOps1_5))

/-- The operations of two lists, one after the other. -/
theorem after_append (l₁ l₂ : Ops) (W : Valuation τ sig (Elt Ideal)) : StableHlo.after (l₁ ++ l₂) W = StableHlo.after l₂ (StableHlo.after l₁ W) := by
  induction l₁ generalizing W with
  | nil => rfl
  | cons op l₁ ih => exact ih _

end Cert.ReferenceIdeal.Val
-- ==== Proof.RefGather.lean ====
/-
  The reference's gather of a window of each sequence, read at an index.
-/
module

public import Idealize.ShloMosaic.Lib.ValueIdxCore
public import Idealize.ShloMosaic.Lib.Pointwise

@[expose] public section

namespace Cert.ReferenceIdeal.Val

open Idealize.ShloMosaic

/-- The dimension numbers of the gather of 1024 positions of each sequence. -/
abbrev windowDims (R : Nat) (wf : GatherDims.WF ⟨4, ![8, 32768, 4, R]⟩ ⟨2, ![8, 2]⟩ ⟨4, ![8, 1024, 4, R]⟩ [1, 2, 3] [0] [] [0, 1] [] 1 ![1, 1024, 4, R]) :
    GatherDims ⟨4, ![8, 32768, 4, R]⟩ ⟨2, ![8, 2]⟩ ⟨4, ![8, 1024, 4, R]⟩ where
  offsetDims := [1, 2, 3]
  collapsedSliceDims := [0]
  operandBatchingDims := []
  startIndicesBatchingDims := []
  startIndexMap := [0, 1]
  indexVectorDim := 1
  sliceSizes := ![1, 1024, 4, R]
  wf := wf

/-- The gather reads, for sequence `b`, from the sequence and the position that the indices say, each kept inside the operand. -/
theorem gather_window {α : Type} {R : Nat}
    (wf : GatherDims.WF ⟨4, ![8, 32768, 4, R]⟩ ⟨2, ![8, 2]⟩ ⟨4, ![8, 1024, 4, R]⟩ [1, 2, 3] [0] [] [0, 1] [] 1 ![1, 1024, 4, R])
    (x : (⟨4, ![8, 32768, 4, R]⟩ : Shape).Idx → α) (idx : IVec ⟨2, ![8, 2]⟩ 32) (b : Fin 8) (t : Fin 1024) (k : Fin 4) (r : Fin R) :
    Host.gather (windowDims R wf) x idx (ix4 b t k r)
      = x (ix4 ⟨min (idx (ix2 b (0 : Fin 2))).toInt.toNat 7, by omega⟩ ⟨min (idx (ix2 b (1 : Fin 2))).toInt.toNat 31744 + t.val, by omega⟩ k r) := by
  unfold Host.gather
  congr 1
  funext a
  refine Fin.ext ?_
  show (windowDims R wf).start (ix4 b t k r) idx a + (windowDims R wf).batchCoord (ix4 b t k r) a + (windowDims R wf).offCoord (ix4 b t k r) a = _
  rw [GatherDims.batchCoord_eq_zero _ _ _ (fun h => by simp at h)]
  simp only [Nat.add_zero]
  have hsi : ∀ (c : Fin 2) , (windowDims R wf).siIdx (ix4 b t k r) c = ix2 b c := by
    intro c
    funext q; refine Fin.ext ?_
    match q with
    | ⟨0, _⟩ => rfl
    | ⟨1, _⟩ => rfl
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · unfold GatherDims.start GatherDims.offCoord
    rw [dif_pos (show (0 : Fin 4) ∈ (windowDims R wf).startIndexMap from (by decide : (0 : Fin 4) ∈ ([0, 1] : List (Fin 4)))), dif_neg (fun h => ((GatherDims.mem_sKept (windowDims R wf) _).mp h).1 (by decide : (0 : Fin 4) ∈ ([0] : List (Fin 4))))]
    show min (idx ((windowDims R wf).siIdx (ix4 b t k r) (0 : Fin 2))).toInt.toNat 7 + 0 = _
    rw [hsi]; rfl
  · unfold GatherDims.start GatherDims.offCoord
    rw [dif_pos (show (1 : Fin 4) ∈ (windowDims R wf).startIndexMap from (by decide : (1 : Fin 4) ∈ ([0, 1] : List (Fin 4)))), dif_pos ((GatherDims.mem_sKept (windowDims R wf) _).mpr ⟨(by decide : (1 : Fin 4) ∉ ([0] : List (Fin 4))), List.not_mem_nil⟩)]
    show min (idx ((windowDims R wf).siIdx (ix4 b t k r) (1 : Fin 2))).toInt.toNat 31744 + t.val = _
    rw [hsi]; rfl
  · unfold GatherDims.start GatherDims.offCoord
    rw [dif_neg (show (2 : Fin 4) ∉ (windowDims R wf).startIndexMap from (by decide : (2 : Fin 4) ∉ ([0, 1] : List (Fin 4)))), dif_pos ((GatherDims.mem_sKept (windowDims R wf) _).mpr ⟨(by decide : (2 : Fin 4) ∉ ([0] : List (Fin 4))), List.not_mem_nil⟩)]
    show 0 + k.val = _
    rw [Nat.zero_add]; rfl
  · unfold GatherDims.start GatherDims.offCoord
    rw [dif_neg (show (3 : Fin 4) ∉ (windowDims R wf).startIndexMap from (by decide : (3 : Fin 4) ∉ ([0, 1] : List (Fin 4)))), dif_pos ((GatherDims.mem_sKept (windowDims R wf) _).mpr ⟨(by decide : (3 : Fin 4) ∉ ([0] : List (Fin 4))), List.not_mem_nil⟩)]
    show 0 + r.val = _
    rw [Nat.zero_add]; rfl

/-- Where the indices say each sequence and a position that fits, the gather reads the sequence's window from that position. -/
theorem gather_from {α : Type} {R : Nat}
    (wf : GatherDims.WF ⟨4, ![8, 32768, 4, R]⟩ ⟨2, ![8, 2]⟩ ⟨4, ![8, 1024, 4, R]⟩ [1, 2, 3] [0] [] [0, 1] [] 1 ![1, 1024, 4, R])
    (x : (⟨4, ![8, 32768, 4, R]⟩ : Shape).Idx → α) (idx : IVec ⟨2, ![8, 2]⟩ 32) (b : Fin 8) (n : ℕ) (hn : n ≤ 31744)
    (h0 : idx (ix2 b (0 : Fin 2)) = BitVec.ofNat 32 b.val) (h1 : idx (ix2 b (1 : Fin 2)) = BitVec.ofNat 32 n) (t : Fin 1024) (k : Fin 4) (r : Fin R) :
    Host.gather (windowDims R wf) x idx (ix4 b t k r) = x (ix4 b ⟨n + t.val, by omega⟩ k r) := by
  rw [gather_window]
  have e : ∀ v : ℕ, v < 2 ^ 31 → (BitVec.ofNat 32 v).toInt.toNat = v := by
    intro v hv
    rw [BitVec.toInt_eq_toNat_cond, BitVec.toNat_ofNat]
    split_ifs <;> omega
  congr 2
  · refine Fin.ext ?_
    show min (idx (ix2 b (0 : Fin 2))).toInt.toNat 7 = b.val
    rw [h0, e _ (by omega)]; omega
  · refine Fin.ext ?_
    show min (idx (ix2 b (1 : Fin 2))).toInt.toNat 31744 + t.val = n + t.val
    rw [h1, e _ (by omega)]; omega

end Cert.ReferenceIdeal.Val
-- ==== Proof.RefCodes.lean ====
/-
  The code values and the scales of the windows that the reference gathers, read at an index.
-/
module

public import proofs.«01_k».proof.Proof.RefStages
public import proofs.«01_k».proof.Proof.RefGather
import Idealize.ShloMosaic.Lib.Pipeline.ValueKit.Point
import Idealize.ShloMosaic.Lib.Pointwise
import Idealize.ShloMosaic.Lib.StableHlo.ReadAt
import Idealize.ShloMosaic.Lib.Claim

@[expose] public section

set_option maxRecDepth 16384

noncomputable section

namespace Cert.ReferenceIdeal.Val

open Idealize.ShloMosaic Cert.ReferenceIdeal.Gen

variable (W : Valuation τ sig (Elt Ideal))

/-- The starts of the windows. -/
theorem start_at (b : Fin 8) : StableHlo.after opsStart W (Proc.tc.devRef main_v2) (ix1 b) = Words.start (W (Proc.tc.devRef main_arg9) (ix1 b)) := by
  after_reads_at
  rfl

section
variable (n : ℕ) (hn : n ≤ 31744) (b : Fin 8) (h : W (Proc.tc.devRef main_v2) (ix1 b) = BitVec.ofNat 32 n) (t : Fin 1024) (k : Fin 4)
include h

/-- The keys' codes: the window's. -/
theorem keyCodes_at (r : Fin 32) :
    StableHlo.after opsKeyCodes W (Proc.tc.devRef main_v8) (ix4 b t k r) = (W (Proc.tc.devRef main_arg3) (ix4 b ⟨n + t.val, by omega⟩ k r) : BitVec 8).setWidth 32 := by
  after_reads_simp
  refine congrArg (BitVec.setWidth 32) (gather_from _ _ _ b n hn ?_ ?_ t k r)
  · pointwise
    after_reads_at
  · pointwise
    after_reads_at
    exact h

/-- The values' codes: the window's. -/
theorem valCodes_at (r : Fin 32) :
    StableHlo.after opsValCodes W (Proc.tc.devRef main_v84) (ix4 b t k r) = (W (Proc.tc.devRef main_arg4) (ix4 b ⟨n + t.val, by omega⟩ k r) : BitVec 8).setWidth 32 := by
  after_reads_simp
  refine congrArg (BitVec.setWidth 32) (gather_from _ _ _ b n hn ?_ ?_ t k r)
  · pointwise
    after_reads_at
  · pointwise
    after_reads_at
    exact h

/-- The keys' scales: the window's. -/
theorem keyScales_at (r : Fin 4) :
    StableHlo.after opsScales W (Proc.tc.devRef main_v159) (ix4 b t k r) = (W (Proc.tc.devRef main_arg5) (ix4 b ⟨n + t.val, by omega⟩ k r) : EReal) := by
  after_reads_simp
  refine gather_from _ _ _ b n hn ?_ ?_ t k r
  · pointwise
    after_reads_at
  · pointwise
    after_reads_at
    exact h

/-- The values' scales: the window's. -/
theorem valScales_at (r : Fin 4) :
    StableHlo.after opsScales W (Proc.tc.devRef main_v164) (ix4 b t k r) = (W (Proc.tc.devRef main_arg6) (ix4 b ⟨n + t.val, by omega⟩ k r) : EReal) := by
  after_reads_simp
  refine gather_from _ _ _ b n hn ?_ ?_ t k r
  · pointwise
    after_reads_at
  · pointwise
    after_reads_at
    exact h
end

/-- The keys' code values are taken over as they are. -/
theorem valCodes_keyHigh (i : S8x1024x4x32.Idx) : StableHlo.after opsValCodes W (Proc.tc.devRef main_v78) i = W (Proc.tc.devRef main_v77) i := by
  after_reads_at

/-- The values' code values are taken over as they are. -/
theorem scales_valHigh (i : S8x1024x4x32.Idx) : StableHlo.after opsScales W (Proc.tc.devRef main_v154) i = W (Proc.tc.devRef main_v153) i := by
  after_reads_at

end Cert.ReferenceIdeal.Val
-- ==== Proof.RefVals.lean ====
/-
  The decoded codes of the reference, read at an index.
-/
module

public import proofs.«01_k».proof.Proof.RefStages
public import proofs.«01_k».proof.Proof.RefGather
import Idealize.ShloMosaic.Lib.Pipeline.ValueKit.Point
import Idealize.ShloMosaic.Lib.Pointwise
import Idealize.ShloMosaic.Lib.StableHlo.ReadAt
import Idealize.ShloMosaic.Lib.Claim

@[expose] public section

set_option maxRecDepth 16384

noncomputable section

namespace Cert.ReferenceIdeal.Val

open Idealize.ShloMosaic Cert.ReferenceIdeal.Gen

variable (W : Valuation τ sig (Elt Ideal))

/-- The keys' low nibbles, decoded. -/
theorem keyLow_at (i : S8x1024x4x32.Idx) :
    StableHlo.after opsKeyVals W (Proc.tc.devRef main_v43) i = Spec.refDec (IntOp.andi (W (Proc.tc.devRef main_v8) i) 15#32) := by
  after_reads_at
  rfl

/-- The keys' high nibbles, decoded. -/
theorem keyHigh_at (i : S8x1024x4x32.Idx) :
    StableHlo.after opsKeyVals W (Proc.tc.devRef main_v77) i = Spec.refDec (IntOp.shrsi .host (W (Proc.tc.devRef main_v8) i) 4#32) := by
  after_reads_at
  rfl

/-- The values' low nibbles, decoded. -/
theorem valLow_at (i : S8x1024x4x32.Idx) :
    StableHlo.after opsValVals W (Proc.tc.devRef main_v119) i = Spec.refDec (IntOp.andi (W (Proc.tc.devRef main_v84) i) 15#32) := by
  after_reads_at
  rfl

/-- The values' high nibbles, decoded. -/
theorem valHigh_at (i : S8x1024x4x32.Idx) :
    StableHlo.after opsValVals W (Proc.tc.devRef main_v153) i = Spec.refDec (IntOp.shrsi .host (W (Proc.tc.devRef main_v84) i) 4#32) := by
  after_reads_at
  rfl

end Cert.ReferenceIdeal.Val
-- ==== Proof.RefKeep.lean ====
/-
  What the reference leaves alone before its region.
-/
module

public import proofs.«01_k».proof.Proof.RefStages
public import proofs.«01_k».proof.Proof.RefGather
import Idealize.ShloMosaic.Lib.Pipeline.ValueKit.Point
import Idealize.ShloMosaic.Lib.Pointwise
import Idealize.ShloMosaic.Lib.StableHlo.ReadAt
import Idealize.ShloMosaic.Lib.Claim

@[expose] public section

set_option maxRecDepth 16384

noncomputable section

namespace Cert.ReferenceIdeal.Val

open Idealize.ShloMosaic Cert.ReferenceIdeal.Gen

variable (W : Valuation τ sig (Elt Ideal))

/-- The arguments. -/
abbrev args : List (Ref sig .tc) := [main_arg0, main_arg1, main_arg2, main_arg3, main_arg4, main_arg5, main_arg6, main_arg9]

/-- Finding the starts leaves the arguments. -/
theorem keep_start (r : Ref sig .tc) (hr : r ∈ args) :
    StableHlo.after opsStart W (Proc.tc.devRef r) = W (Proc.tc.devRef r) := by
  simp only [args, List.mem_cons, List.not_mem_nil, or_false] at hr
  rcases hr with rfl | rfl | rfl | rfl | rfl | rfl | rfl | rfl <;> after_reads_simp

/-- Gathering the keys' codes leaves the arguments and the starts. -/
theorem keep_keyCodes (r : Ref sig .tc) (hr : r ∈ main_v2 :: args) :
    StableHlo.after opsKeyCodes W (Proc.tc.devRef r) = W (Proc.tc.devRef r) := by
  simp only [args, List.mem_cons, List.not_mem_nil, or_false] at hr
  rcases hr with rfl | rfl | rfl | rfl | rfl | rfl | rfl | rfl | rfl <;> after_reads_simp

/-- Decoding the keys' codes leaves the arguments and the starts. -/
theorem keep_keyVals (r : Ref sig .tc) (hr : r ∈ main_v2 :: args) :
    StableHlo.after opsKeyVals W (Proc.tc.devRef r) = W (Proc.tc.devRef r) := by
  simp only [args, List.mem_cons, List.not_mem_nil, or_false] at hr
  rcases hr with rfl | rfl | rfl | rfl | rfl | rfl | rfl | rfl | rfl <;> after_reads_simp

/-- Gathering the values' codes leaves those and the first half of the keys' code values. -/
theorem keep_valCodes (r : Ref sig .tc) (hr : r ∈ main_v43 :: main_v2 :: args) :
    StableHlo.after opsValCodes W (Proc.tc.devRef r) = W (Proc.tc.devRef r) := by
  simp only [args, List.mem_cons, List.not_mem_nil, or_false] at hr
  rcases hr with rfl | rfl | rfl | rfl | rfl | rfl | rfl | rfl | rfl | rfl <;> after_reads_simp

/-- Decoding the values' codes leaves those and the keys' code values. -/
theorem keep_valVals (r : Ref sig .tc) (hr : r ∈ main_v78 :: main_v43 :: main_v2 :: args) :
    StableHlo.after opsValVals W (Proc.tc.devRef r) = W (Proc.tc.devRef r) := by
  simp only [args, List.mem_cons, List.not_mem_nil, or_false] at hr
  rcases hr with rfl | rfl | rfl | rfl | rfl | rfl | rfl | rfl | rfl | rfl | rfl <;> after_reads_simp

/-- Gathering the scales leaves those and the first half of the values' code values. -/
theorem keep_scales (r : Ref sig .tc) (hr : r ∈ main_v119 :: main_v78 :: main_v43 :: main_v2 :: args) :
    StableHlo.after opsScales W (Proc.tc.devRef r) = W (Proc.tc.devRef r) := by
  simp only [args, List.mem_cons, List.not_mem_nil, or_false] at hr
  rcases hr with rfl | rfl | rfl | rfl | rfl | rfl | rfl | rfl | rfl | rfl | rfl | rfl <;> after_reads_simp

/-- Preparing the queries, the new keys and values and the masks leaves the code values and the scales. -/
theorem keep_new (r : Ref sig .tc) (hr : r ∈ [main_v43, main_v78, main_v119, main_v154, main_v159, main_v164]) :
    StableHlo.after opsNew W (Proc.tc.devRef r) = W (Proc.tc.devRef r) := by
  simp only [List.mem_cons, List.not_mem_nil, or_false] at hr
  rcases hr with rfl | rfl | rfl | rfl | rfl | rfl <;> after_reads_simp

end Cert.ReferenceIdeal.Val
-- ==== Proof.RefNew.lean ====
/-
  The queries, the new keys and values and the masks of the reference, read at an index.
-/
module

public import proofs.«01_k».proof.Proof.RefStages
public import proofs.«01_k».proof.Proof.RefGather
import Idealize.ShloMosaic.Lib.Pipeline.ValueKit.Point
import Idealize.ShloMosaic.Lib.Pointwise
import Idealize.ShloMosaic.Lib.StableHlo.ReadAt
import Idealize.ShloMosaic.Lib.Claim

@[expose] public section

set_option maxRecDepth 16384

noncomputable section

namespace Cert.ReferenceIdeal.Val

open Idealize.ShloMosaic Cert.ReferenceIdeal.Gen

variable (W : Valuation τ sig (Elt Ideal))

/-- A product of two reals. -/
abbrev mul (x y : EReal) : EReal := x * y

/-- A sum of products. -/
abbrev dot {n : ℕ} (f g : Fin n → EReal) : EReal := ∑ e, f e * g e

/-- The head dimension that the reference keeps at position `p`: the even ones first, then the odd ones. -/
def col (p : Fin 64) : Fin 64 := if p.val < 32 then ⟨2 * p.val % 64, by omega⟩ else ⟨(2 * (p.val - 32) + 1) % 64, by omega⟩

/-- Below 32, position `p` holds dimension `2 * p`. -/
theorem col_low (p : Fin 64) (h : p.val < 32) : (col p).val = 2 * p.val := by
  unfold col
  rw [if_pos h]
  show 2 * p.val % 64 = _
  omega

/-- From 32 on, position `p` holds dimension `2 * (p - 32) + 1`. -/
theorem col_high (p : Fin 64) (h : ¬ p.val < 32) : (col p).val = 2 * (p.val - 32) + 1 := by
  unfold col
  rw [if_neg h]
  show (2 * (p.val - 32) + 1) % 64 = _
  omega

/-- The positions hold every dimension once. -/
theorem col_bijective : Function.Bijective col := by
  refine (Finite.injective_iff_bijective).mp fun p q h => Fin.ext ?_
  have h' : (col p).val = (col q).val := congrArg Fin.val h
  by_cases hp : p.val < 32 <;> by_cases hq : q.val < 32
  · rw [col_low p hp, col_low q hq] at h'; omega
  · rw [col_low p hp, col_high q hq] at h'; omega
  · rw [col_high p hp, col_low q hq] at h'; omega
  · rw [col_high p hp, col_high q hq] at h'; omega

/-- A sum over the positions is the sum over the dimensions. -/
theorem sum_col (f : Fin 64 → EReal) : ∑ p, f (col p) = ∑ d, f d := Function.Bijective.sum_comp col_bijective f

/-- A signed comparison of two small words. -/
theorem slt_word {a b : ℕ} (ha : a < 2 ^ 31) (hb : b < 2 ^ 31) :
    (BitVec.ofNat 32 a).slt (BitVec.ofNat 32 b) = decide (a < b) := by
  unfold BitVec.slt
  congr 1
  simp only [BitVec.toInt_eq_toNat_cond, BitVec.toNat_ofNat, eq_iff_iff]
  constructor <;> intro h <;> (try split_ifs at h) <;> (try split_ifs) <;> omega

/-- The mask of the window: at a length that fills it, position `t` is open to new position `i` when `i < t`. -/
theorem mask_word (n : ℕ) (hn : n ≤ 31744) (i t : ℕ) (hi : i < 4) (ht : t < 1024) :
    IntOp.andi (IntOp.cmpi .slt (IntOp.addi (BitVec.ofNat 32 n) (BitVec.ofNat 32 t)) (BitVec.ofNat 32 (n + 1024)))
      (IntOp.cmpi .sgt (IntOp.addi (BitVec.ofNat 32 n) (BitVec.ofNat 32 t)) (IntOp.subi (IntOp.addi (BitVec.ofNat 32 (n + 1024)) (BitVec.ofNat 32 i)) 1024#32))
      = if i < t then 1#1 else 0#1 := by
  have e1 : IntOp.addi (BitVec.ofNat 32 n) (BitVec.ofNat 32 t) = BitVec.ofNat 32 (n + t) := (BitVec.ofNat_add n t).symm
  have e2 : IntOp.subi (IntOp.addi (BitVec.ofNat 32 (n + 1024)) (BitVec.ofNat 32 i)) 1024#32 = BitVec.ofNat 32 (n + i) := by
    show BitVec.ofNat 32 (n + 1024) + BitVec.ofNat 32 i - BitVec.ofNat 32 1024 = _
    rw [← BitVec.ofNat_add, show n + 1024 + i = n + i + 1024 by omega, BitVec.ofNat_add, BitVec.add_sub_cancel]
  rw [e1, e2]
  unfold IntOp.andi IntOp.cmpi
  simp only [slt_word (show n + t < 2 ^ 31 by omega) (show n + 1024 < 2 ^ 31 by omega), slt_word (show n + i < 2 ^ 31 by omega) (show n + t < 2 ^ 31 by omega)]
  rw [decide_eq_true (show n + t < n + 1024 by omega)]
  by_cases h : i < t
  · rw [if_pos h, decide_eq_true (show n + i < n + t by omega)]; rfl
  · rw [if_neg h, decide_eq_false (show ¬ n + i < n + t by omega)]; rfl

/-- The mask of the new keys. -/
theorem mask_new : ∀ i j : Fin 4, IntOp.andi (IntOp.cmpi .sle (BitVec.ofNat 32 j.val) (BitVec.ofNat 32 i.val))
    (IntOp.cmpi .slt (IntOp.subi (BitVec.ofNat 32 i.val) (BitVec.ofNat 32 j.val)) 1024#32) = if j.val ≤ i.val then 1#1 else 0#1 := by
  decide

/-- A selection by a decided bit. -/
theorem select_ite {p : Prop} [Decidable p] (x y : EReal) : Scalar.select (if p then 1#1 else 0#1) x y = if p then x else y := by
  by_cases h : p <;> simp [h, Scalar.select]

/-- The queries, the dimensions in the reference's order. -/
theorem query_at (b : Fin 8) (i : Fin 4) (k : Fin 4) (g : Fin 8) (p : Fin 64) :
    StableHlo.after opsNew W (Proc.tc.devRef main_v168) (ix5 b i k g p) = W (Proc.tc.devRef main_arg0) (ix4 b i ⟨k.val * 8 + g.val, by omega⟩ (col p)) := by
  after_reads_at
  by_cases h : p.val < 32
  · rw [dif_pos h]
    congr 2
    exact Fin.ext (col_low p h).symm
  · rw [dif_neg h]
    congr 2
    exact Fin.ext ((Nat.add_comm _ _).trans (col_high p h).symm)

/-- The new values, the dimensions in the reference's order. -/
theorem newVal_at (b : Fin 8) (j : Fin 4) (k : Fin 4) (p : Fin 64) :
    StableHlo.after opsNew W (Proc.tc.devRef main_v171) (ix4 b j k p) = W (Proc.tc.devRef main_arg2) (ix4 b j k (col p)) := by
  after_reads_at
  by_cases h : p.val < 32
  · rw [dif_pos h]
    congr 2
    exact Fin.ext (col_low p h).symm
  · rw [dif_neg h]
    congr 2
    exact Fin.ext ((Nat.add_comm _ _).trans (col_high p h).symm)

/-- The mask of the window. -/
theorem mask_at (n : ℕ) (hn : n ≤ 31744) (b : Fin 8) (h : W (Proc.tc.devRef main_v2) (ix1 b) = BitVec.ofNat 32 n)
    (hl : W (Proc.tc.devRef main_arg9) (ix1 b) = BitVec.ofNat 32 (n + 1024)) (i : Fin 4) (t : Fin 1024) :
    StableHlo.after opsNew W (Proc.tc.devRef main_v196) (ix3 b i t) = if i.val < t.val then 1#1 else 0#1 := by
  after_reads_at
  rw [h, hl]
  exact mask_word n hn i.val t.val i.isLt t.isLt

/-- The scores of the new keys. -/
theorem newScore_at (b : Fin 8) (k : Fin 4) (g : Fin 8) (i j : Fin 4) :
    StableHlo.after opsNew W (Proc.tc.devRef main_v215) (ix5 b k g i j)
      = if j.val ≤ i.val then dot (fun e : Fin 64 => W (Proc.tc.devRef main_arg1) (ix4 b j k e)) (fun e => W (Proc.tc.devRef main_arg0) (ix4 b i ⟨k.val * 8 + g.val, by omega⟩ e)) * Spec.sm else Spec.ninf := by
  after_reads_at
  rw [mask_new i j]
  exact select_ite _ _

end Cert.ReferenceIdeal.Val
-- ==== Proof.RefEntry.lean ====
/-
  What the reference's region finds: the operations before it, together.
-/
module

public import proofs.«01_k».proof.Proof.RefCodes
public import proofs.«01_k».proof.Proof.RefVals
public import proofs.«01_k».proof.Proof.RefKeep
public import proofs.«01_k».proof.Proof.RefNew

@[expose] public section

set_option maxRecDepth 16384

noncomputable section

namespace Cert.ReferenceIdeal.Val

open Idealize.ShloMosaic Cert.ReferenceIdeal.Gen

/-- A list taken apart, in front of another. -/
theorem take_drop_front {α : Type*} (n : ℕ) (l z : List α) : l.take n ++ (l.drop n ++ z) = l ++ z := by
  rw [← List.append_assoc, List.take_append_drop]

/-- The lists of operations before the region, as the stages cut them. -/
theorem entry_list {α : Type*} (a0 a1 a2 a3 a4 a5 a6 a7 a8 a9 a10 a11 a12 a13 a14 a15 a16 a17 a18 a19 a20 a21 a22 a23 a24 a25 a26 a27 a28 a29 a30 a31 a32 a33 a34 a35 : List α) :
    List.flatten [a0, a1, a2, a3, a4, a5, a6, a7, a8, a9, a10, a11, a12, a13, a14, a15, a16, a17, a18, a19, a20, a21, a22, a23, a24, a25, a26, a27, a28, a29, a30, a31, a32, a33, a34, a35]
      = (a0 ++ a1) ++ (a2.take 6 ++ ((a2.drop 6 ++ (a3 ++ (a4 ++ (a5 ++ (a6 ++ (a7 ++ (a8 ++ (a9 ++ (a10 ++ (a11 ++ (a12 ++ (a13 ++ (a14 ++ (a15 ++ (a16 ++ a17))))))))))))))) ++
          (a18.take 7 ++ ((a18.drop 7 ++ (a19 ++ (a20 ++ (a21 ++ (a22 ++ (a23 ++ (a24 ++ (a25 ++ (a26 ++ (a27 ++ (a28 ++ (a29 ++ (a30 ++ (a31 ++ (a32 ++ a33))))))))))))))) ++
            (a34.take 11 ++ (a34.drop 11 ++ a35)))))) := by
  simp only [List.flatten_cons, List.flatten_nil, List.append_nil, List.append_assoc, take_drop_front]

variable (W : Valuation τ sig (Elt Ideal))

/-- After the starts. -/
abbrev st1 : Valuation τ sig (Elt Ideal) := StableHlo.after opsStart W
/-- After the keys' codes. -/
abbrev st2 : Valuation τ sig (Elt Ideal) := StableHlo.after opsKeyCodes (st1 W)
/-- After the keys' code values. -/
abbrev st3 : Valuation τ sig (Elt Ideal) := StableHlo.after opsKeyVals (st2 W)
/-- After the values' codes. -/
abbrev st4 : Valuation τ sig (Elt Ideal) := StableHlo.after opsValCodes (st3 W)
/-- After the values' code values. -/
abbrev st5 : Valuation τ sig (Elt Ideal) := StableHlo.after opsValVals (st4 W)
/-- After the scales. -/
abbrev st6 : Valuation τ sig (Elt Ideal) := StableHlo.after opsScales (st5 W)
/-- What the region finds. -/
abbrev entry : Valuation τ sig (Elt Ideal) := StableHlo.after opsNew (st6 W)

/-- The operations before the region, stage by stage. -/
theorem entry_eq : StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]) W = entry W := by
  rw [entry_list, after_append, after_append, after_append, after_append, after_append, after_append]

/-- Up to the keys' code values, the starts and the arguments stay. -/
theorem keep3 (r : Ref sig .tc) (hr : r ∈ main_v2 :: args) : st3 W (Proc.tc.devRef r) = st1 W (Proc.tc.devRef r) :=
  (keep_keyVals (st2 W) r hr).trans (keep_keyCodes (st1 W) r hr)

/-- Up to the values' code values, too. -/
theorem keep5 (r : Ref sig .tc) (hr : r ∈ main_v2 :: args) : st5 W (Proc.tc.devRef r) = st1 W (Proc.tc.devRef r) :=
  (keep_valVals (st4 W) r (List.mem_cons_of_mem _ (List.mem_cons_of_mem _ hr))).trans
    ((keep_valCodes (st3 W) r (List.mem_cons_of_mem _ hr)).trans (keep3 W r hr))

/-- Up to the scales, too. -/
theorem keep6 (r : Ref sig .tc) (hr : r ∈ main_v2 :: args) : st6 W (Proc.tc.devRef r) = st1 W (Proc.tc.devRef r) :=
  (keep_scales (st5 W) r (List.mem_cons_of_mem _ (List.mem_cons_of_mem _ (List.mem_cons_of_mem _ hr)))).trans (keep5 W r hr)

/-- Up to the scales, the arguments stay. -/
theorem keepArg6 (r : Ref sig .tc) (hr : r ∈ args) : st6 W (Proc.tc.devRef r) = W (Proc.tc.devRef r) :=
  (keep6 W r (List.mem_cons_of_mem _ hr)).trans (keep_start W r hr)

section
variable (n : ℕ) (hn : n ≤ 31744) (b : Fin 8) (h : Words.start (W (Proc.tc.devRef main_arg9) (ix1 b)) = BitVec.ofNat 32 n) (t : Fin 1024) (k : Fin 4)
include h

/-- The start of the window. -/
theorem start1 : st1 W (Proc.tc.devRef main_v2) (ix1 b) = BitVec.ofNat 32 n := (start_at W b).trans h

/-- The even columns of the keys. -/
theorem entry_keyLow (r : Fin 32) : entry W (Proc.tc.devRef main_v43) (ix4 b t k r)
    = Spec.dec (W (Proc.tc.devRef main_arg3) (ix4 b ⟨n + t.val, by omega⟩ k r)) (2 * r.val) :=
  (congrFun (keep_new (st6 W) main_v43 (by simp)) _).trans <| (congrFun (keep_scales (st5 W) main_v43 (by simp)) _).trans <|
    (congrFun (keep_valVals (st4 W) main_v43 (by simp)) _).trans <| (congrFun (keep_valCodes (st3 W) main_v43 (by simp)) _).trans <|
    (keyLow_at (st2 W) _).trans <|
    (congrArg (fun w : BitVec 32 => Spec.refDec (IntOp.andi w 15#32)) (keyCodes_at (st1 W) n hn b (start1 W n b h) t k r)).trans <|
    (Spec.refDec_low _ (2 * r.val) (by omega)).trans (congrArg (fun x : BitVec 8 => Spec.dec x (2 * r.val)) (congrFun (keep_start W main_arg3 (by simp)) _))

/-- The odd columns of the keys. -/
theorem entry_keyHigh (r : Fin 32) : entry W (Proc.tc.devRef main_v78) (ix4 b t k r)
    = Spec.dec (W (Proc.tc.devRef main_arg3) (ix4 b ⟨n + t.val, by omega⟩ k r)) (2 * r.val + 1) :=
  (congrFun (keep_new (st6 W) main_v78 (by simp)) _).trans <| (congrFun (keep_scales (st5 W) main_v78 (by simp)) _).trans <|
    (congrFun (keep_valVals (st4 W) main_v78 (by simp)) _).trans <| (valCodes_keyHigh (st3 W) _).trans <|
    (keyHigh_at (st2 W) _).trans <|
    (congrArg (fun w : BitVec 32 => Spec.refDec (IntOp.shrsi .host w 4#32)) (keyCodes_at (st1 W) n hn b (start1 W n b h) t k r)).trans <|
    (Spec.refDec_high _ (2 * r.val + 1) (by omega)).trans (congrArg (fun x : BitVec 8 => Spec.dec x (2 * r.val + 1)) (congrFun (keep_start W main_arg3 (by simp)) _))

/-- The even columns of the values. -/
theorem entry_valLow (r : Fin 32) : entry W (Proc.tc.devRef main_v119) (ix4 b t k r)
    = Spec.dec (W (Proc.tc.devRef main_arg4) (ix4 b ⟨n + t.val, by omega⟩ k r)) (2 * r.val) :=
  (congrFun (keep_new (st6 W) main_v119 (by simp)) _).trans <| (congrFun (keep_scales (st5 W) main_v119 (by simp)) _).trans <|
    (valLow_at (st4 W) _).trans <|
    (congrArg (fun w : BitVec 32 => Spec.refDec (IntOp.andi w 15#32)) (valCodes_at (st3 W) n hn b ((congrFun (keep3 W main_v2 (by simp)) _).trans (start1 W n b h)) t k r)).trans <|
    (Spec.refDec_low _ (2 * r.val) (by omega)).trans (congrArg (fun x : BitVec 8 => Spec.dec x (2 * r.val))
      ((congrFun (keep3 W main_arg4 (by simp)) _).trans (congrFun (keep_start W main_arg4 (by simp)) _)))

/-- The odd columns of the values. -/
theorem entry_valHigh (r : Fin 32) : entry W (Proc.tc.devRef main_v154) (ix4 b t k r)
    = Spec.dec (W (Proc.tc.devRef main_arg4) (ix4 b ⟨n + t.val, by omega⟩ k r)) (2 * r.val + 1) :=
  (congrFun (keep_new (st6 W) main_v154 (by simp)) _).trans <| (scales_valHigh (st5 W) _).trans <|
    (valHigh_at (st4 W) _).trans <|
    (congrArg (fun w : BitVec 32 => Spec.refDec (IntOp.shrsi .host w 4#32)) (valCodes_at (st3 W) n hn b ((congrFun (keep3 W main_v2 (by simp)) _).trans (start1 W n b h)) t k r)).trans <|
    (Spec.refDec_high _ (2 * r.val + 1) (by omega)).trans (congrArg (fun x : BitVec 8 => Spec.dec x (2 * r.val + 1))
      ((congrFun (keep3 W main_arg4 (by simp)) _).trans (congrFun (keep_start W main_arg4 (by simp)) _)))

/-- The scales of the keys. -/
theorem entry_keyScale (r : Fin 4) : entry W (Proc.tc.devRef main_v159) (ix4 b t k r) = W (Proc.tc.devRef main_arg5) (ix4 b ⟨n + t.val, by omega⟩ k r) :=
  (congrFun (keep_new (st6 W) main_v159 (by simp)) _).trans <|
    (keyScales_at (st5 W) n hn b ((congrFun (keep5 W main_v2 (by simp)) _).trans (start1 W n b h)) t k r).trans
      ((congrFun (keep5 W main_arg5 (by simp)) _).trans (congrFun (keep_start W main_arg5 (by simp)) _))

/-- The scales of the values. -/
theorem entry_valScale (r : Fin 4) : entry W (Proc.tc.devRef main_v164) (ix4 b t k r) = W (Proc.tc.devRef main_arg6) (ix4 b ⟨n + t.val, by omega⟩ k r) :=
  (congrFun (keep_new (st6 W) main_v164 (by simp)) _).trans <|
    (valScales_at (st5 W) n hn b ((congrFun (keep5 W main_v2 (by simp)) _).trans (start1 W n b h)) t k r).trans
      ((congrFun (keep5 W main_arg6 (by simp)) _).trans (congrFun (keep_start W main_arg6 (by simp)) _))

include hn in
/-- The mask of the window. -/
theorem entry_mask (hl : W (Proc.tc.devRef main_arg9) (ix1 b) = BitVec.ofNat 32 (n + 1024)) (i : Fin 4) :
    entry W (Proc.tc.devRef main_v196) (ix3 b i t) = if i.val < t.val then 1#1 else 0#1 :=
  mask_at (st6 W) n hn b ((congrFun (keep6 W main_v2 (by simp)) _).trans (start1 W n b h)) ((congrFun (keepArg6 W main_arg9 (by simp)) _).trans hl) i t

end

/-- The queries. -/
theorem entry_query (b : Fin 8) (i : Fin 4) (k : Fin 4) (g : Fin 8) (p : Fin 64) :
    entry W (Proc.tc.devRef main_v168) (ix5 b i k g p) = W (Proc.tc.devRef main_arg0) (ix4 b i ⟨k.val * 8 + g.val, by omega⟩ (col p)) :=
  (query_at (st6 W) b i k g p).trans (congrFun (keepArg6 W main_arg0 (by simp)) _)

/-- The new values. -/
theorem entry_newVal (b : Fin 8) (j : Fin 4) (k : Fin 4) (p : Fin 64) :
    entry W (Proc.tc.devRef main_v171) (ix4 b j k p) = W (Proc.tc.devRef main_arg2) (ix4 b j k (col p)) :=
  (newVal_at (st6 W) b j k p).trans (congrFun (keepArg6 W main_arg2 (by simp)) _)

/-- The scores of the new keys. -/
theorem entry_newScore (b : Fin 8) (k : Fin 4) (g : Fin 8) (i j : Fin 4) :
    entry W (Proc.tc.devRef main_v215) (ix5 b k g i j)
      = if j.val ≤ i.val then dot (fun e : Fin 64 => W (Proc.tc.devRef main_arg0) (ix4 b i ⟨k.val * 8 + g.val, by omega⟩ e)) (fun e => W (Proc.tc.devRef main_arg1) (ix4 b j k e)) * Spec.sm else Spec.ninf := by
  refine (newScore_at (st6 W) b k g i j).trans (if_congr Iff.rfl (congrArg (fun x : EReal => x * Spec.sm) (Finset.sum_congr rfl fun e _ => ?_)) rfl)
  exact (congrArg₂ mul (congrFun (keepArg6 W main_arg1 (by simp)) _) (congrFun (keepArg6 W main_arg0 (by simp)) _)).trans (mul_comm _ _)

end Cert.ReferenceIdeal.Val
-- ==== Proof.RefTail.lean ====
/-
  The operations of the reference after its region, read at an index.
-/
module

public import proofs.«01_k».proof.Proof.RefStages
public import proofs.«01_k».proof.Proof.RefNew
import Idealize.ShloMosaic.Lib.Pipeline.ValueKit.Point
import Idealize.ShloMosaic.Lib.Pointwise
import Idealize.ShloMosaic.Lib.StableHlo.ReadAt
import Idealize.ShloMosaic.Lib.Claim

@[expose] public section

set_option maxRecDepth 16384

noncomputable section

namespace Cert.ReferenceIdeal.Val

open Idealize.ShloMosaic Cert.ReferenceIdeal.Gen

variable (W : Valuation τ sig (Elt Ideal))

/-- The keys of the window, as the operations read. -/
theorem keyWindow_raw (b : Fin 8) (t : Fin 1024) (k : Fin 4) (p : Fin 64) :
    StableHlo.after opsWindows W (Proc.tc.devRef main_v221) (ix4 b t k p)
      = if h : p.val < 32 then mul (W (Proc.tc.devRef main_v43) (ix4 b t k (⟨p.val, h⟩ : Fin 32))) (W (Proc.tc.devRef main_v216_0) (ix4 b t k (⟨p.val / 8, by omega⟩ : Fin 4)))
        else mul (W (Proc.tc.devRef main_v78) (ix4 b t k (⟨p.val - 32, by omega⟩ : Fin 32))) (W (Proc.tc.devRef main_v216_0) (ix4 b t k (⟨(p.val - 32) / 8, by omega⟩ : Fin 4))) := by
  after_reads_at

/-- The keys of the window: the column's code value times its block's scale. -/
theorem keyWindow_at (b : Fin 8) (t : Fin 1024) (k : Fin 4) (p : Fin 64) (X : Fin 64 → EReal) (S : Fin 4 → EReal)
    (h0 : ∀ r : Fin 32, W (Proc.tc.devRef main_v43) (ix4 b t k r) = X ⟨2 * r.val, by omega⟩)
    (h1 : ∀ r : Fin 32, W (Proc.tc.devRef main_v78) (ix4 b t k r) = X ⟨2 * r.val + 1, by omega⟩)
    (hs : ∀ r : Fin 4, W (Proc.tc.devRef main_v216_0) (ix4 b t k r) = S r) :
    StableHlo.after opsWindows W (Proc.tc.devRef main_v221) (ix4 b t k p) = mul (X (col p)) (S ⟨(col p).val / 16, by omega⟩) := by
  refine (keyWindow_raw W b t k p).trans ?_
  by_cases h : p.val < 32
  · have e := col_low p h
    refine (dif_pos h).trans ((congrArg₂ mul (h0 ⟨p.val, h⟩) (hs ⟨p.val / 8, by omega⟩)).trans ?_)
    refine congrArg₂ mul (congrArg X (Fin.ext ?_)) (congrArg S (Fin.ext ?_))
    · show 2 * p.val = (col p).val
      omega
    · show p.val / 8 = (col p).val / 16
      omega
  · have e := col_high p h
    refine (dif_neg h).trans ((congrArg₂ mul (h1 ⟨p.val - 32, by omega⟩) (hs ⟨(p.val - 32) / 8, by omega⟩)).trans ?_)
    refine congrArg₂ mul (congrArg X (Fin.ext ?_)) (congrArg S (Fin.ext ?_))
    · show 2 * (p.val - 32) + 1 = (col p).val
      omega
    · show (p.val - 32) / 8 = (col p).val / 16
      omega

/-- The values of the window, as the operations read. -/
theorem valWindow_raw (b : Fin 8) (t : Fin 1024) (k : Fin 4) (p : Fin 64) :
    StableHlo.after opsWindows W (Proc.tc.devRef main_v226) (ix4 b t k p)
      = if h : p.val < 32 then mul (W (Proc.tc.devRef main_v119) (ix4 b t k (⟨p.val, h⟩ : Fin 32))) (W (Proc.tc.devRef main_v216_1) (ix4 b t k (⟨p.val / 8, by omega⟩ : Fin 4)))
        else mul (W (Proc.tc.devRef main_v154) (ix4 b t k (⟨p.val - 32, by omega⟩ : Fin 32))) (W (Proc.tc.devRef main_v216_1) (ix4 b t k (⟨(p.val - 32) / 8, by omega⟩ : Fin 4))) := by
  after_reads_at

/-- The values of the window: the column's code value times its block's scale. -/
theorem valWindow_at (b : Fin 8) (t : Fin 1024) (k : Fin 4) (p : Fin 64) (X : Fin 64 → EReal) (S : Fin 4 → EReal)
    (h0 : ∀ r : Fin 32, W (Proc.tc.devRef main_v119) (ix4 b t k r) = X ⟨2 * r.val, by omega⟩)
    (h1 : ∀ r : Fin 32, W (Proc.tc.devRef main_v154) (ix4 b t k r) = X ⟨2 * r.val + 1, by omega⟩)
    (hs : ∀ r : Fin 4, W (Proc.tc.devRef main_v216_1) (ix4 b t k r) = S r) :
    StableHlo.after opsWindows W (Proc.tc.devRef main_v226) (ix4 b t k p) = mul (X (col p)) (S ⟨(col p).val / 16, by omega⟩) := by
  refine (valWindow_raw W b t k p).trans ?_
  by_cases h : p.val < 32
  · have e := col_low p h
    refine (dif_pos h).trans ((congrArg₂ mul (h0 ⟨p.val, h⟩) (hs ⟨p.val / 8, by omega⟩)).trans ?_)
    refine congrArg₂ mul (congrArg X (Fin.ext ?_)) (congrArg S (Fin.ext ?_))
    · show 2 * p.val = (col p).val
      omega
    · show p.val / 8 = (col p).val / 16
      omega
  · have e := col_high p h
    refine (dif_neg h).trans ((congrArg₂ mul (h1 ⟨p.val - 32, by omega⟩) (hs ⟨(p.val - 32) / 8, by omega⟩)).trans ?_)
    refine congrArg₂ mul (congrArg X (Fin.ext ?_)) (congrArg S (Fin.ext ?_))
    · show 2 * (p.val - 32) + 1 = (col p).val
      omega
    · show (p.val - 32) / 8 = (col p).val / 16
      omega

/-- The scores of the window. -/
theorem score_at (b : Fin 8) (k : Fin 4) (g : Fin 8) (i : Fin 4) (t : Fin 1024)
    (hm : W (Proc.tc.devRef main_v196) (ix3 b i t) = if i.val < t.val then 1#1 else 0#1) :
    StableHlo.after opsScores W (Proc.tc.devRef main_v233) (ix5 b k g i t)
      = if i.val < t.val then dot (fun p : Fin 64 => W (Proc.tc.devRef main_v221) (ix4 b t k p)) (fun p => W (Proc.tc.devRef main_v168) (ix5 b i k g p))
          * mul Spec.sm (W (Proc.tc.devRef main_arg7) ix0) else Spec.ninf := by
  after_reads_at
  rw [hm]
  exact select_ite _ _

/-- A maximum along the last of five axes. -/
theorem max_at {n : ℕ} (x : FVec Ideal (⟨5, ![8, 4, 8, 4, n]⟩ : Shape) .f32)
    (h : (⟨5, ![8, 4, 8, 4, n]⟩ : Shape).ReducesTo [4] (⟨4, ![8, 4, 8, 4]⟩ : Shape)) (hu : 0 < (⟨0, ![]⟩ : Shape).numel)
    (b : Fin 8) (k : Fin 4) (g : Fin 8) (i : Fin 4) :
    Host.reduce FloatOps.maximumf x (constant (F := Ideal) (⟨0, ![]⟩ : Shape) .f32 0xFF800000#32) h hu (ix4 b k g i)
      = Finset.univ.fold max Spec.ninf fun t : Fin n => x (ix5 b k g i t) := by
  simp only [pointwise]
  rfl

/-- The greater of two tables, each spread over one more axis. -/
theorem spread_max (h : (⟨4, ![8, 4, 8, 4]⟩ : Shape).BroadcastsInDim (⟨5, ![8, 4, 8, 4, 1]⟩ : Shape) ![0, 1, 2, 3])
    (x x' : FVec Ideal (⟨4, ![8, 4, 8, 4]⟩ : Shape) .f32) (b : Fin 8) (k : Fin 4) (g : Fin 8) (i : Fin 4) :
    maximumf (broadcastInDim (⟨5, ![8, 4, 8, 4, 1]⟩ : Shape) ![0, 1, 2, 3] h x) (broadcastInDim (⟨5, ![8, 4, 8, 4, 1]⟩ : Shape) ![0, 1, 2, 3] h x') (ix5 b k g i (0 : Fin 1))
      = max (x (ix4 b k g i)) (x' (ix4 b k g i)) := by
  pointwise

/-- The greatest score. -/
theorem top_at (b : Fin 8) (k : Fin 4) (g : Fin 8) (i : Fin 4) :
    StableHlo.after opsTop W (Proc.tc.devRef main_v238) (ix5 b k g i (0 : Fin 1))
      = Spec.top (fun t : Fin 1024 => W (Proc.tc.devRef main_v233) (ix5 b k g i t)) (fun j : Fin 4 => W (Proc.tc.devRef main_v215) (ix5 b k g i j)) := by
  after_reads_simp
  refine (spread_max _ _ _ b k g i).trans ?_
  unfold Spec.top
  refine congrArg₂ max ?_ ?_
  · exact max_at (n := 1024) _ _ _ b k g i
  · exact max_at (n := 4) _ _ _ b k g i

/-- The exponential of a score less the greatest. -/
abbrev shifted (s t : EReal) : EReal := Ideal.exp (s - t)

/-- The sum of a family. -/
abbrev total {n : ℕ} (f : Fin n → EReal) : EReal := ∑ e, f e

/-- The exponentials of the window's scores. -/
theorem exp_at (b : Fin 8) (k : Fin 4) (g : Fin 8) (i : Fin 4) (t : Fin 1024) :
    StableHlo.after opsExp W (Proc.tc.devRef main_v241) (ix5 b k g i t)
      = shifted (W (Proc.tc.devRef main_v233) (ix5 b k g i t)) (W (Proc.tc.devRef main_v238) (ix5 b k g i (0 : Fin 1))) := by
  after_reads_at

/-- The exponentials of the new keys' scores. -/
theorem newExp_at (b : Fin 8) (k : Fin 4) (g : Fin 8) (i : Fin 4) (j : Fin 4) :
    StableHlo.after opsExp W (Proc.tc.devRef main_v244) (ix5 b k g i j)
      = shifted (W (Proc.tc.devRef main_v215) (ix5 b k g i j)) (W (Proc.tc.devRef main_v238) (ix5 b k g i (0 : Fin 1))) := by
  after_reads_at

/-- The total. -/
theorem den_at (b : Fin 8) (k : Fin 4) (g : Fin 8) (i : Fin 4) :
    StableHlo.after opsDen W (Proc.tc.devRef main_v249) (ix5 b k g i (0 : Fin 1))
      = total (fun t : Fin 1024 => W (Proc.tc.devRef main_v241) (ix5 b k g i t)) + total fun j : Fin 4 => W (Proc.tc.devRef main_v244) (ix5 b k g i j) := by
  after_reads_at

/-- The shares of the window, scaled. -/
theorem share_at (b : Fin 8) (k : Fin 4) (g : Fin 8) (i : Fin 4) (t : Fin 1024) :
    StableHlo.after opsShares W (Proc.tc.devRef main_v257) (ix5 b k g i t)
      = mul (Spec.share (W (Proc.tc.devRef main_v241) (ix5 b k g i t)) (W (Proc.tc.devRef main_v249) (ix5 b k g i (0 : Fin 1)))) (W (Proc.tc.devRef main_arg8) ix0) := by
  after_reads_at
  refine congrArg (· * _) ?_
  unfold Spec.share
  refine if_congr Iff.rfl ?_ rfl
  show Ideal.ofBits .f32 0#32 = 0
  simp [Ideal.ofBits, Ideal.ieee]

/-- The shares of the new keys. -/
theorem newShare_at (b : Fin 8) (k : Fin 4) (g : Fin 8) (i : Fin 4) (j : Fin 4) :
    StableHlo.after opsShares W (Proc.tc.devRef main_v262) (ix5 b k g i j)
      = Spec.share (W (Proc.tc.devRef main_v244) (ix5 b k g i j)) (W (Proc.tc.devRef main_v249) (ix5 b k g i (0 : Fin 1))) := by
  after_reads_at
  unfold Spec.share
  refine if_congr Iff.rfl ?_ rfl
  show Ideal.ofBits .f32 0#32 = 0
  simp [Ideal.ofBits, Ideal.ieee]

/-- The position that holds dimension `d`. -/
def pos (d : ℕ) : Fin 64 := ⟨d % 2 * 32 + d / 2 % 32, by omega⟩

/-- It does. -/
theorem col_pos (d : ℕ) : (col (pos d)).val = d % 64 := by
  have hp : (pos d).val = d % 2 * 32 + d / 2 % 32 := rfl
  have hd : d / 2 / 32 = d / 64 := by rw [Nat.div_div_eq_div_mul]
  by_cases h : (pos d).val < 32
  · rw [col_low _ h]; omega
  · rw [col_high _ h]; omega

/-- The result. -/
theorem out_at (y : S8x4x2048.Idx) :
    StableHlo.after hostOps1_6 W (Proc.tc.devRef main_v272) y
      = dot (fun t : Fin 1024 => W (Proc.tc.devRef main_v226) (ix4 (y 0 : Fin 8) t (⟨(y 2).val / 512, by have : (y 2).val < 2048 := (y 2).isLt; omega⟩ : Fin 4) (pos (y 2).val)))
          (fun t => W (Proc.tc.devRef main_v257) (ix5 (y 0 : Fin 8) (⟨(y 2).val / 512, by have : (y 2).val < 2048 := (y 2).isLt; omega⟩ : Fin 4) (⟨(y 2).val / 64 % 8, by omega⟩ : Fin 8) (y 1 : Fin 4) t))
        + dot (fun j : Fin 4 => W (Proc.tc.devRef main_v171) (ix4 (y 0 : Fin 8) j (⟨(y 2).val / 512, by have : (y 2).val < 2048 := (y 2).isLt; omega⟩ : Fin 4) (pos (y 2).val)))
          (fun j => W (Proc.tc.devRef main_v262) (ix5 (y 0 : Fin 8) (⟨(y 2).val / 512, by have : (y 2).val < 2048 := (y 2).isLt; omega⟩ : Fin 4) (⟨(y 2).val / 64 % 8, by omega⟩ : Fin 8) (y 1 : Fin 4) j)) := by
  after_reads_at
  rfl

/-- Forming the windows leaves the queries, the mask, the new keys' scores, the new values and the two scales. -/
theorem keep_windows (r : Ref sig .tc) (hr : r ∈ [main_v168, main_v196, main_v215, main_v171, main_arg7, main_arg8]) :
    StableHlo.after opsWindows W (Proc.tc.devRef r) = W (Proc.tc.devRef r) := by
  simp only [List.mem_cons, List.not_mem_nil, or_false] at hr
  rcases hr with rfl | rfl | rfl | rfl | rfl | rfl <;> after_reads_simp

/-- Scoring leaves the values, the new keys' scores, the new values and the values' scale. -/
theorem keep_scores (r : Ref sig .tc) (hr : r ∈ [main_v226, main_v215, main_v171, main_arg8]) :
    StableHlo.after opsScores W (Proc.tc.devRef r) = W (Proc.tc.devRef r) := by
  simp only [List.mem_cons, List.not_mem_nil, or_false] at hr
  rcases hr with rfl | rfl | rfl | rfl <;> after_reads_simp

/-- The maximum leaves the scores and the rest. -/
theorem keep_top (r : Ref sig .tc) (hr : r ∈ [main_v233, main_v226, main_v215, main_v171, main_arg8]) :
    StableHlo.after opsTop W (Proc.tc.devRef r) = W (Proc.tc.devRef r) := by
  simp only [List.mem_cons, List.not_mem_nil, or_false] at hr
  rcases hr with rfl | rfl | rfl | rfl | rfl <;> after_reads_simp

/-- The exponentials leave the values and their scale. -/
theorem keep_exp (r : Ref sig .tc) (hr : r ∈ [main_v226, main_v171, main_arg8]) :
    StableHlo.after opsExp W (Proc.tc.devRef r) = W (Proc.tc.devRef r) := by
  simp only [List.mem_cons, List.not_mem_nil, or_false] at hr
  rcases hr with rfl | rfl | rfl <;> after_reads_simp

/-- The total leaves the exponentials and the rest. -/
theorem keep_den (r : Ref sig .tc) (hr : r ∈ [main_v241, main_v244, main_v226, main_v171, main_arg8]) :
    StableHlo.after opsDen W (Proc.tc.devRef r) = W (Proc.tc.devRef r) := by
  simp only [List.mem_cons, List.not_mem_nil, or_false] at hr
  rcases hr with rfl | rfl | rfl | rfl | rfl <;> after_reads_simp

/-- The shares leave the values. -/
theorem keep_shares (r : Ref sig .tc) (hr : r ∈ [main_v226, main_v171]) :
    StableHlo.after opsShares W (Proc.tc.devRef r) = W (Proc.tc.devRef r) := by
  simp only [List.mem_cons, List.not_mem_nil, or_false] at hr
  rcases hr with rfl | rfl <;> after_reads_simp

end Cert.ReferenceIdeal.Val
-- ==== Proof.RefOut.lean ====
/-
  The operations of the reference after its region, together: the closed form of the attention.
-/
module

public import proofs.«01_k».proof.Proof.RefTail

@[expose] public section

set_option maxRecDepth 16384

noncomputable section

namespace Cert.ReferenceIdeal.Val

open Idealize.ShloMosaic Cert.ReferenceIdeal.Gen

/-- A list, taken apart and put together. -/
theorem take_drop_app {α : Type*} (n : ℕ) (l z : List α) : l.take n ++ (l.drop n ++ z) = l ++ z := by
  rw [← List.append_assoc, List.take_append_drop]

/-- The same, inside a list. -/
theorem take_drop_mid {α : Type*} (a b : ℕ) (l z : List α) : (l.drop a).take b ++ (l.drop (a + b) ++ z) = l.drop a ++ z := by
  rw [← List.drop_drop, take_drop_app]

/-- The lists of operations after the region, as the stages cut them. -/
theorem tail_list {α : Type*} (a a1 a2 a3 a4 a5 a6 : List α) :
    List.flatten [a, a1, a2, a3, a4, a5, a6] = a.take 10 ++ ((a.drop 10 ++ a1) ++ (a2.take 7 ++ ((a2.drop 7).take 6 ++ ((a2.drop 13).take 7 ++ ((a2.drop 20 ++ (a3 ++ (a4 ++ a5))) ++ a6))))) := by
  simp only [List.flatten_cons, List.flatten_nil, List.append_nil, List.append_assoc]
  rw [take_drop_mid 13 7, take_drop_mid 7 6, take_drop_app, take_drop_app]

variable (W : Valuation τ sig (Elt Ideal))

/-- After the windows. -/
abbrev tl1 : Valuation τ sig (Elt Ideal) := StableHlo.after opsWindows W
/-- After the scores. -/
abbrev tl2 : Valuation τ sig (Elt Ideal) := StableHlo.after opsScores (tl1 W)
/-- After the greatest scores. -/
abbrev tl3 : Valuation τ sig (Elt Ideal) := StableHlo.after opsTop (tl2 W)
/-- After the exponentials. -/
abbrev tl4 : Valuation τ sig (Elt Ideal) := StableHlo.after opsExp (tl3 W)
/-- After the totals. -/
abbrev tl5 : Valuation τ sig (Elt Ideal) := StableHlo.after opsDen (tl4 W)
/-- After the shares. -/
abbrev tl6 : Valuation τ sig (Elt Ideal) := StableHlo.after opsShares (tl5 W)

/-- The operations after the region, stage by stage. -/
theorem tail_eq : StableHlo.after (List.flatten [hostOps1, hostOps1_1, hostOps1_2, hostOps1_3, hostOps1_4, hostOps1_5, hostOps1_6]) W
    = StableHlo.after hostOps1_6 (tl6 W) := by
  rw [tail_list, after_append, after_append, after_append, after_append, after_append, after_append]

/-- The attention, from what the region leaves: for the sequence `b`, the new position `i`, the key head `k`, the query head `g` of it. -/
theorem tail_at (b : Fin 8) (i : Fin 4) (k : Fin 4) (g : Fin 8) (KX VX : Fin 1024 → Fin 64 → EReal) (KS VS : Fin 1024 → Fin 4 → EReal)
    (Q : Fin 64 → EReal) (VN : Fin 4 → Fin 64 → EReal) (SN : Fin 4 → EReal) (gk gv : EReal)
    (hk0 : ∀ t, ∀ r : Fin 32, W (Proc.tc.devRef main_v43) (ix4 b t k r) = KX t ⟨2 * r.val, by omega⟩)
    (hk1 : ∀ t, ∀ r : Fin 32, W (Proc.tc.devRef main_v78) (ix4 b t k r) = KX t ⟨2 * r.val + 1, by omega⟩)
    (hks : ∀ t, ∀ r : Fin 4, W (Proc.tc.devRef main_v216_0) (ix4 b t k r) = KS t r)
    (hv0 : ∀ t, ∀ r : Fin 32, W (Proc.tc.devRef main_v119) (ix4 b t k r) = VX t ⟨2 * r.val, by omega⟩)
    (hv1 : ∀ t, ∀ r : Fin 32, W (Proc.tc.devRef main_v154) (ix4 b t k r) = VX t ⟨2 * r.val + 1, by omega⟩)
    (hvs : ∀ t, ∀ r : Fin 4, W (Proc.tc.devRef main_v216_1) (ix4 b t k r) = VS t r)
    (hq : ∀ p, W (Proc.tc.devRef main_v168) (ix5 b i k g p) = Q (col p))
    (hvn : ∀ j p, W (Proc.tc.devRef main_v171) (ix4 b j k p) = VN j (col p))
    (hm : ∀ t : Fin 1024, W (Proc.tc.devRef main_v196) (ix3 b i t) = if i.val < t.val then 1#1 else 0#1)
    (hsn : ∀ j, W (Proc.tc.devRef main_v215) (ix5 b k g i j) = SN j)
    (hgk : W (Proc.tc.devRef main_arg7) ix0 = gk) (hgv : W (Proc.tc.devRef main_arg8) ix0 = gv) (p : Fin 64) :
    dot (fun t : Fin 1024 => tl6 W (Proc.tc.devRef main_v226) (ix4 b t k p)) (fun t => tl6 W (Proc.tc.devRef main_v257) (ix5 b k g i t))
      + dot (fun j : Fin 4 => tl6 W (Proc.tc.devRef main_v171) (ix4 b j k p)) (fun j => tl6 W (Proc.tc.devRef main_v262) (ix5 b k g i j))
    = Spec.attn (fun t => if i.val < t.val then (∑ d, Q d * (KX t d * KS t ⟨d.val / 16, by omega⟩)) * (gk * Spec.sm) else Spec.ninf) SN gv
        (fun t => VX t (col p) * VS t ⟨(col p).val / 16, by omega⟩) (fun j => VN j (col p)) := by
  set sc : Fin 1024 → EReal := fun t => if i.val < t.val then (∑ d, Q d * (KX t d * KS t ⟨d.val / 16, by omega⟩)) * (gk * Spec.sm) else Spec.ninf with hsc
  have e233 : ∀ t, tl2 W (Proc.tc.devRef main_v233) (ix5 b k g i t) = sc t := fun t => by
    refine (score_at (tl1 W) b k g i t ((congrFun (keep_windows W main_v196 (by simp)) _).trans (hm t))).trans ?_
    refine if_congr Iff.rfl (congrArg₂ mul ?_ ?_) rfl
    · refine Eq.trans ?_ (sum_col fun d => Q d * (KX t d * KS t ⟨d.val / 16, by omega⟩))
      refine Finset.sum_congr rfl fun q _ => ?_
      refine (congrArg₂ mul (keyWindow_at W b t k q (KX t) (KS t) (hk0 t) (hk1 t) (hks t)) ((congrFun (keep_windows W main_v168 (by simp)) _).trans (hq q))).trans ?_
      exact mul_comm _ _
    · exact (congrArg (mul Spec.sm) ((congrFun (keep_windows W main_arg7 (by simp)) _).trans hgk)).trans (mul_comm _ _)
  have e215 : ∀ j, tl2 W (Proc.tc.devRef main_v215) (ix5 b k g i j) = SN j := fun j =>
    (congrFun (keep_scores (tl1 W) main_v215 (by simp)) _).trans ((congrFun (keep_windows W main_v215 (by simp)) _).trans (hsn j))
  have e238 : tl3 W (Proc.tc.devRef main_v238) (ix5 b k g i (0 : Fin 1)) = Spec.top sc SN :=
    (top_at (tl2 W) b k g i).trans (congrArg₂ Spec.top (funext e233) (funext e215))
  have e241 : ∀ t, tl4 W (Proc.tc.devRef main_v241) (ix5 b k g i t) = shifted (sc t) (Spec.top sc SN) := fun t =>
    (exp_at (tl3 W) b k g i t).trans (congrArg₂ shifted ((congrFun (keep_top (tl2 W) main_v233 (by simp)) _).trans (e233 t)) e238)
  have e244 : ∀ j, tl4 W (Proc.tc.devRef main_v244) (ix5 b k g i j) = shifted (SN j) (Spec.top sc SN) := fun j =>
    (newExp_at (tl3 W) b k g i j).trans (congrArg₂ shifted ((congrFun (keep_top (tl2 W) main_v215 (by simp)) _).trans (e215 j)) e238)
  have e249 : tl5 W (Proc.tc.devRef main_v249) (ix5 b k g i (0 : Fin 1)) = Spec.den sc SN :=
    (den_at (tl4 W) b k g i).trans (congrArg₂ (fun x y : EReal => x + y) (congrArg total (funext e241)) (congrArg total (funext e244)))
  have e8 : tl5 W (Proc.tc.devRef main_arg8) ix0 = gv :=
    (congrFun (keep_den (tl4 W) main_arg8 (by simp)) _).trans ((congrFun (keep_exp (tl3 W) main_arg8 (by simp)) _).trans
      ((congrFun (keep_top (tl2 W) main_arg8 (by simp)) _).trans ((congrFun (keep_scores (tl1 W) main_arg8 (by simp)) _).trans
        ((congrFun (keep_windows W main_arg8 (by simp)) _).trans hgv))))
  have e257 : ∀ t, tl6 W (Proc.tc.devRef main_v257) (ix5 b k g i t) = mul (Spec.share (shifted (sc t) (Spec.top sc SN)) (Spec.den sc SN)) gv := fun t =>
    (share_at (tl5 W) b k g i t).trans (congrArg₂ mul (congrArg₂ Spec.share ((congrFun (keep_den (tl4 W) main_v241 (by simp)) _).trans (e241 t)) e249) e8)
  have e262 : ∀ j, tl6 W (Proc.tc.devRef main_v262) (ix5 b k g i j) = Spec.share (shifted (SN j) (Spec.top sc SN)) (Spec.den sc SN) := fun j =>
    (newShare_at (tl5 W) b k g i j).trans (congrArg₂ Spec.share ((congrFun (keep_den (tl4 W) main_v244 (by simp)) _).trans (e244 j)) e249)
  have e226 : ∀ t, tl6 W (Proc.tc.devRef main_v226) (ix4 b t k p) = mul (VX t (col p)) (VS t ⟨(col p).val / 16, by omega⟩) := fun t =>
    (congrFun (keep_shares (tl5 W) main_v226 (by simp)) _).trans ((congrFun (keep_den (tl4 W) main_v226 (by simp)) _).trans
      ((congrFun (keep_exp (tl3 W) main_v226 (by simp)) _).trans ((congrFun (keep_top (tl2 W) main_v226 (by simp)) _).trans
        ((congrFun (keep_scores (tl1 W) main_v226 (by simp)) _).trans (valWindow_at W b t k p (VX t) (VS t) (hv0 t) (hv1 t) (hvs t))))))
  have e171 : ∀ j, tl6 W (Proc.tc.devRef main_v171) (ix4 b j k p) = VN j (col p) := fun j =>
    (congrFun (keep_shares (tl5 W) main_v171 (by simp)) _).trans ((congrFun (keep_den (tl4 W) main_v171 (by simp)) _).trans
      ((congrFun (keep_exp (tl3 W) main_v171 (by simp)) _).trans ((congrFun (keep_top (tl2 W) main_v171 (by simp)) _).trans
        ((congrFun (keep_scores (tl1 W) main_v171 (by simp)) _).trans ((congrFun (keep_windows W main_v171 (by simp)) _).trans (hvn j p))))))
  unfold Spec.attn
  refine congrArg₂ (fun x y : EReal => x + y) (Finset.sum_congr rfl fun t _ => ?_) (Finset.sum_congr rfl fun j _ => ?_)
  · exact (congrArg₂ mul (e226 t) (e257 t)).trans (mul_comm _ _)
  · exact (congrArg₂ mul (e171 j) (e262 j)).trans (mul_comm _ _)

end Cert.ReferenceIdeal.Val
-- ==== Proof.RefCell.lean ====
/-
  The closed form of the attention, with the heads and the dimensions as the reference numbers them.
-/
module

public import proofs.«01_k».proof.Proof.RefNew

@[expose] public section

set_option maxRecDepth 16384

noncomputable section

namespace Cert.ReferenceIdeal.Val

open Idealize.ShloMosaic

/-- At a length that fills the window, the window starts 1024 positions before the end. -/
theorem start_full (n : ℕ) (hn : n ≤ 31744) : Words.start (BitVec.ofNat 32 (n + 1024)) = BitVec.ofNat 32 n := by
  unfold Words.start
  have e : Scalar.subi (BitVec.ofNat 32 (n + 1024)) 1024#32 = BitVec.ofNat 32 n := by
    show BitVec.ofNat 32 (n + 1024) - BitVec.ofNat 32 1024 = _
    rw [BitVec.ofNat_add, BitVec.add_sub_cancel]
  rw [e]
  have e1 : Scalar.maxsi 0#32 (BitVec.ofNat 32 n) = BitVec.ofNat 32 n := by
    show (if (BitVec.ofNat 32 n).slt (BitVec.ofNat 32 0) then 0#32 else BitVec.ofNat 32 n) = _
    rw [slt_word (by omega) (by omega), if_neg (by simp)]
  rw [e1]
  refine (Words.minsi_word (a := 31744) (b := n) (by omega) (by omega)).trans (congrArg _ ?_)
  omega

/-- The element, with its window at `n`, its head as a key head and a query head of it, its dimension by name. -/
theorem cell_eq (len : (⟨1, ![8]⟩ : Shape).Idx → BitVec 32) (gk gv : EReal) (X : (⟨4, ![8, 4, 32, 64]⟩ : Shape).Idx → EReal)
    (KN VN : (⟨4, ![8, 4, 4, 64]⟩ : Shape).Idx → EReal)
    (kc vc : (⟨4, ![8, 32768, 4, 32]⟩ : Shape).Idx → BitVec 8) (ks vs : (⟨4, ![8, 32768, 4, 4]⟩ : Shape).Idx → EReal)
    (b : Fin 8) (i : Fin 4) (y : ℕ) (hy : y < 2048) (n : ℕ) (hn : n ≤ 31744) (hs : Spec.startNat (len (ix1 b)) = n) (d : Fin 64) (hd : d.val = y % 64) :
    Spec.attn (fun t : Fin 1024 => if i.val < t.val then (∑ e : Fin 64, X (ix4 b i ⟨y / 512 * 8 + y / 64 % 8, by omega⟩ e)
          * (Spec.dec (kc (ix4 b ⟨n + t.val, by omega⟩ ⟨y / 512, by omega⟩ ⟨e.val / 2, by omega⟩)) e.val * ks (ix4 b ⟨n + t.val, by omega⟩ ⟨y / 512, by omega⟩ ⟨e.val / 16, by omega⟩))) * (gk * Spec.sm) else Spec.ninf)
        (fun j : Fin 4 => if j.val ≤ i.val then dot (fun e : Fin 64 => X (ix4 b i ⟨y / 512 * 8 + y / 64 % 8, by omega⟩ e)) (fun e => KN (ix4 b j ⟨y / 512, by omega⟩ e)) * Spec.sm else Spec.ninf)
        gv (fun t : Fin 1024 => Spec.dec (vc (ix4 b ⟨n + t.val, by omega⟩ ⟨y / 512, by omega⟩ ⟨d.val / 2, by omega⟩)) d.val * vs (ix4 b ⟨n + t.val, by omega⟩ ⟨y / 512, by omega⟩ ⟨d.val / 16, by omega⟩))
        (fun j : Fin 4 => VN (ix4 b j ⟨y / 512, by omega⟩ d))
      = Spec.cell len gk gv X KN VN kc vc ks vs b i ⟨y / 64, by omega⟩ ⟨y % 64, by omega⟩ := by
  have hh : (⟨y / 512 * 8 + y / 64 % 8, by omega⟩ : Fin 32) = ⟨y / 64, by omega⟩ := Fin.ext (by show y / 512 * 8 + y / 64 % 8 = y / 64; omega)
  have hk : (⟨y / 512, by omega⟩ : Fin 4) = ⟨y / 64 / 8, by omega⟩ := Fin.ext (by show y / 512 = y / 64 / 8; omega)
  have hd' : (⟨y % 64, by omega⟩ : Fin 64) = d := Fin.ext hd.symm
  subst hs
  rw [hh, hk, hd']
  rfl

end Cert.ReferenceIdeal.Val
-- ==== Proof.RefResult.lean ====
/-
  The reference's result, from what its region leaves.
-/
module

public import proofs.«01_k».proof.Proof.RefEntry
public import proofs.«01_k».proof.Proof.RefOut
public import proofs.«01_k».proof.Proof.RefCell

@[expose] public section

set_option maxRecDepth 16384

noncomputable section

namespace Cert.ReferenceIdeal.Val

open Idealize.ShloMosaic Cert.ReferenceIdeal.Gen

/-- The result, from what the region leaves, at lengths that fill the window. -/
theorem result_of (W E : Valuation τ sig (Elt Ideal))
    (hE : ∀ r ∈ [main_v43, main_v78, main_v119, main_v154, main_v168, main_v171, main_v196, main_v215], E (Proc.tc.devRef r) = entry W (Proc.tc.devRef r))
    (hks : ∀ y : S8x1024x4x4.Idx, E (Proc.tc.devRef main_v216_0) y = entry W (Proc.tc.devRef main_v159) y)
    (hvs : ∀ y : S8x1024x4x4.Idx, E (Proc.tc.devRef main_v216_1) y = entry W (Proc.tc.devRef main_v164) y)
    (h7 : E (Proc.tc.devRef main_arg7) = W (Proc.tc.devRef main_arg7)) (h8 : E (Proc.tc.devRef main_arg8) = W (Proc.tc.devRef main_arg8))
    (hlen : ∀ b : Fin 8, ∃ n, n ≤ 31744 ∧ W (Proc.tc.devRef main_arg9) (ix1 b) = BitVec.ofNat 32 (n + 1024)) (y : S8x4x2048.Idx) :
    StableHlo.after (List.flatten [hostOps1, hostOps1_1, hostOps1_2, hostOps1_3, hostOps1_4, hostOps1_5, hostOps1_6]) E (Proc.tc.devRef main_v272) y
      = Spec.colCell (W (Proc.tc.devRef main_arg9)) (W (Proc.tc.devRef main_arg7) ix0) (W (Proc.tc.devRef main_arg8) ix0)
          (W (Proc.tc.devRef main_arg0)) (W (Proc.tc.devRef main_arg1)) (W (Proc.tc.devRef main_arg2)) (W (Proc.tc.devRef main_arg3)) (W (Proc.tc.devRef main_arg4)) (W (Proc.tc.devRef main_arg5)) (W (Proc.tc.devRef main_arg6)) y := by
  have h2 : (y 2).val < 2048 := (y 2).isLt
  obtain ⟨n, hn, hl⟩ := hlen (y 0)
  have hs : Words.start (W (Proc.tc.devRef main_arg9) (ix1 (y 0))) = BitVec.ofNat 32 n := by
    rw [hl]
    exact start_full n hn
  have hsn : Spec.startNat (W (Proc.tc.devRef main_arg9) (ix1 (y 0))) = n := by
    unfold Spec.startNat
    rw [hs, BitVec.toNat_ofNat]
    omega
  refine (congrFun (congrFun (tail_eq E) (Proc.tc.devRef main_v272)) y).trans ?_
  refine (out_at (tl6 E) y).trans ?_
  refine (tail_at E (y 0) (y 1) ⟨(y 2).val / 512, by omega⟩ ⟨(y 2).val / 64 % 8, by omega⟩
    (fun t d => Spec.dec (W (Proc.tc.devRef main_arg3) (ix4 (y 0 : Fin 8) (⟨n + t.val, by omega⟩ : Fin 32768) (⟨(y 2).val / 512, by omega⟩ : Fin 4) (⟨d.val / 2, by omega⟩ : Fin 32))) d.val)
    (fun t d => Spec.dec (W (Proc.tc.devRef main_arg4) (ix4 (y 0 : Fin 8) (⟨n + t.val, by omega⟩ : Fin 32768) (⟨(y 2).val / 512, by omega⟩ : Fin 4) (⟨d.val / 2, by omega⟩ : Fin 32))) d.val)
    (fun t r => W (Proc.tc.devRef main_arg5) (ix4 (y 0 : Fin 8) (⟨n + t.val, by omega⟩ : Fin 32768) (⟨(y 2).val / 512, by omega⟩ : Fin 4) r))
    (fun t r => W (Proc.tc.devRef main_arg6) (ix4 (y 0 : Fin 8) (⟨n + t.val, by omega⟩ : Fin 32768) (⟨(y 2).val / 512, by omega⟩ : Fin 4) r))
    (fun d => W (Proc.tc.devRef main_arg0) (ix4 (y 0 : Fin 8) (y 1 : Fin 4) (⟨(y 2).val / 512 * 8 + (y 2).val / 64 % 8, by omega⟩ : Fin 32) d))
    (fun j d => W (Proc.tc.devRef main_arg2) (ix4 (y 0 : Fin 8) j (⟨(y 2).val / 512, by omega⟩ : Fin 4) d))
    (fun j => if j.val ≤ (y 1).val then dot (fun e : Fin 64 => W (Proc.tc.devRef main_arg0) (ix4 (y 0 : Fin 8) (y 1 : Fin 4) (⟨(y 2).val / 512 * 8 + (y 2).val / 64 % 8, by omega⟩ : Fin 32) e))
      (fun e => W (Proc.tc.devRef main_arg1) (ix4 (y 0 : Fin 8) j (⟨(y 2).val / 512, by omega⟩ : Fin 4) e)) * Spec.sm else Spec.ninf)
    (W (Proc.tc.devRef main_arg7) ix0) (W (Proc.tc.devRef main_arg8) ix0)
    ?_ ?_ ?_ ?_ ?_ ?_ ?_ ?_ ?_ ?_ ?_ ?_ (pos (y 2).val)).trans ?_
  · intro t r
    refine (congrFun (hE main_v43 (by simp)) _).trans ((entry_keyLow W n hn (y 0) hs t _ r).trans ?_)
    refine congrArg (fun q : Fin 32 => Spec.dec (W (Proc.tc.devRef main_arg3) (ix4 (y 0 : Fin 8) (⟨n + t.val, by omega⟩ : Fin 32768) (⟨(y 2).val / 512, by omega⟩ : Fin 4) q)) (2 * r.val)) (Fin.ext ?_)
    show r.val = 2 * r.val / 2
    omega
  · intro t r
    refine (congrFun (hE main_v78 (by simp)) _).trans ((entry_keyHigh W n hn (y 0) hs t _ r).trans ?_)
    refine congrArg (fun q : Fin 32 => Spec.dec (W (Proc.tc.devRef main_arg3) (ix4 (y 0 : Fin 8) (⟨n + t.val, by omega⟩ : Fin 32768) (⟨(y 2).val / 512, by omega⟩ : Fin 4) q)) (2 * r.val + 1)) (Fin.ext ?_)
    show r.val = (2 * r.val + 1) / 2
    omega
  · intro t r
    exact (hks _).trans (entry_keyScale W n hn (y 0) hs t _ r)
  · intro t r
    refine (congrFun (hE main_v119 (by simp)) _).trans ((entry_valLow W n hn (y 0) hs t _ r).trans ?_)
    refine congrArg (fun q : Fin 32 => Spec.dec (W (Proc.tc.devRef main_arg4) (ix4 (y 0 : Fin 8) (⟨n + t.val, by omega⟩ : Fin 32768) (⟨(y 2).val / 512, by omega⟩ : Fin 4) q)) (2 * r.val)) (Fin.ext ?_)
    show r.val = 2 * r.val / 2
    omega
  · intro t r
    refine (congrFun (hE main_v154 (by simp)) _).trans ((entry_valHigh W n hn (y 0) hs t _ r).trans ?_)
    refine congrArg (fun q : Fin 32 => Spec.dec (W (Proc.tc.devRef main_arg4) (ix4 (y 0 : Fin 8) (⟨n + t.val, by omega⟩ : Fin 32768) (⟨(y 2).val / 512, by omega⟩ : Fin 4) q)) (2 * r.val + 1)) (Fin.ext ?_)
    show r.val = (2 * r.val + 1) / 2
    omega
  · intro t r
    exact (hvs _).trans (entry_valScale W n hn (y 0) hs t _ r)
  · intro p
    exact (congrFun (hE main_v168 (by simp)) _).trans (entry_query W (y 0) (y 1) _ _ p)
  · intro j p
    exact (congrFun (hE main_v171 (by simp)) _).trans (entry_newVal W (y 0) j _ p)
  · intro t
    exact (congrFun (hE main_v196 (by simp)) _).trans (entry_mask W n hn (y 0) hs t hl (y 1))
  · intro j
    exact (congrFun (hE main_v215 (by simp)) _).trans (entry_newScore W (y 0) _ _ (y 1) j)
  · exact congrFun h7 _
  · exact congrFun h8 _
  · exact cell_eq (W (Proc.tc.devRef main_arg9)) (W (Proc.tc.devRef main_arg7) ix0) (W (Proc.tc.devRef main_arg8) ix0) (W (Proc.tc.devRef main_arg0)) (W (Proc.tc.devRef main_arg1)) (W (Proc.tc.devRef main_arg2))
      (W (Proc.tc.devRef main_arg3)) (W (Proc.tc.devRef main_arg4)) (W (Proc.tc.devRef main_arg5)) (W (Proc.tc.devRef main_arg6)) (y 0) (y 1) (y 2).val h2 n hn hsn _ (col_pos _)

end Cert.ReferenceIdeal.Val
-- ==== Proof.RefRegion.lean ====
/-
  What the reference's region leaves: the scales, unchanged.
-/
module

public import proofs.«01_k».proof.Proof.Gen.ReferenceIdeal.Frame
public import Idealize.ShloMosaic.PureOps.Ideal
import Idealize.ShloMosaic.Lib.Pipeline.ValueKit.Point
import Idealize.ShloMosaic.Lib.Pointwise
import Idealize.ShloMosaic.Lib.Claim
import Idealize.ShloMosaic.Lib.Pipeline.Value

@[expose] public section

set_option maxRecDepth 16384

noncomputable section

namespace Cert.ReferenceIdeal.Val

open Idealize.ShloMosaic Cert.ReferenceIdeal.Gen

variable (m : (ℓ : Loc nD τ sig) → Buf (Elt Ideal) ℓ) (c : Dev nD)

/-- The block of the keys' scales is the whole array. -/
theorem block0 (t : Fin cfg0.N) (y : S8x1024x4x4.Idx) : iblk m c 0 t y = V m c main_v159 y := by
  have e : ∀ a, win0_0.index t a = 0 := fun _ => rfl
  blk_ext! [iblk, e]

/-- The block of the values' scales, too. -/
theorem block1 (t : Fin cfg0.N) (y : S8x1024x4x4.Idx) : iblk m c 1 t y = V m c main_v164 y := by
  have e : ∀ a, win0_1.index t a = 0 := fun _ => rfl
  blk_ext! [iblk, e]

/-- Different points, different blocks: there is one point. -/
theorem apart2 : ∀ t t' : Fin cfg0.N, (cfg0.win 2).flush t = true → (cfg0.win 2).flush t' = true → t ≠ t' →
    Disjoint ((cfg0.win 2).blk t).view.set ((cfg0.win 2).blk t').view.set :=
  fun t t' _ _ hne => absurd ((by decide +kernel : ∀ t t' : Fin grid0.N, t = t') t t') hne

/-- The same for the other result. -/
theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => absurd ((by decide +kernel : ∀ t t' : Fin grid0.N, t = t') t t') hne

/-- The offsets of the body's accesses are zero. -/
theorem zeros : (![0, 0, 0, 0] : Fin S8x1024x4x4.rank → Nat) = fun _ => 0 := by
  funext a
  fin_cases a <;> rfl

/-- What the body leaves of the keys' scales. -/
theorem left2 (x0 x1 : Vec Ideal S8x1024x4x4 .fp8e4m3) (y : S8x1024x4x4.Idx) : out0_2 x0 x1 y = x0 y := by
  unfold out0_2 r0_0
  rw [View.canon_unit_zero zeros, View.ld_unit_zero zeros]
  exact congrFun (shapeCast_self _ _) y

/-- What the body leaves of the values' scales. -/
theorem left3 (x0 x1 : Vec Ideal S8x1024x4x4 .fp8e4m3) (y : S8x1024x4x4.Idx) : out0_3 x0 x1 y = x1 y := by
  unfold out0_3 r0_0
  rw [View.canon_unit_zero zeros, View.ld_unit_zero zeros]
  exact congrFun (shapeCast_self _ _) y

/-- The first result: the keys' scales. -/
theorem region2 (y : S8x1024x4x4.Idx) : (dats m 0 c).arrAt 2 cfg0.N y = V m c main_v159 y := by
  have key := (dats m 0 c).read_blk_arrAt_eq_flushed 2 apart2 cfg0.N ⟨0, by decide⟩ (by decide) (flush0_2 _)
  have fl : (dats m 0 c).flushed 2 ⟨0, by decide⟩ = (cfg0.win 2).cut (grid0.coords ⟨0, by decide⟩) (out0_2 (iblk m c 0 ⟨0, by decide⟩) (iblk m c 1 ⟨0, by decide⟩)) := by
    show (cfg0.win 2).cut (grid0.coords _) ((dats m 0 c).after 2 _) = _
    rw [after0_2]
  rw [fl] at key
  have e : ∀ t a, win0_2.index t a = 0 := fun _ _ => rfl
  generalize (dats m 0 c).arrAt 2 cfg0.N = A at key ⊢
  have ky := (congrFun key y).trans ((left2 _ _ _).trans (block0 m c _ _))
  refine Eq.trans ?_ (ky.trans ?_)
  · blk_ext [e]
    all_goals first | (show (y 0).val = 0 * 8 + (y 0).val; omega) | (show (y 1).val = 0 * 1024 + (y 1).val; omega) | (show (y 2).val = 0 * 4 + (y 2).val; omega) | (show (y 3).val = 0 * 4 + (y 3).val; omega)
  · rfl

/-- The second result: the values' scales. -/
theorem region3 (y : S8x1024x4x4.Idx) : (dats m 0 c).arrAt 3 cfg0.N y = V m c main_v164 y := by
  have key := (dats m 0 c).read_blk_arrAt_eq_flushed 3 apart3 cfg0.N ⟨0, by decide⟩ (by decide) (flush0_3 _)
  have fl : (dats m 0 c).flushed 3 ⟨0, by decide⟩ = (cfg0.win 3).cut (grid0.coords ⟨0, by decide⟩) (out0_3 (iblk m c 0 ⟨0, by decide⟩) (iblk m c 1 ⟨0, by decide⟩)) := by
    show (cfg0.win 3).cut (grid0.coords _) ((dats m 0 c).after 3 _) = _
    rw [after0_3]
  rw [fl] at key
  have e : ∀ t a, win0_3.index t a = 0 := fun _ _ => rfl
  generalize (dats m 0 c).arrAt 3 cfg0.N = A at key ⊢
  have ky := (congrFun key y).trans ((left3 _ _ _).trans (block1 m c _ _))
  refine Eq.trans ?_ (ky.trans ?_)
  · blk_ext [e]
    all_goals first | (show (y 0).val = 0 * 8 + (y 0).val; omega) | (show (y 1).val = 0 * 1024 + (y 1).val; omega) | (show (y 2).val = 0 * 4 + (y 2).val; omega) | (show (y 3).val = 0 * 4 + (y 3).val; omega)
  · rfl

end Cert.ReferenceIdeal.Val
-- ==== Proof.RefVal.lean ====
/-
  The reference's result, element by element.
-/
module

public import proofs.«01_k».proof.Proof.RefResult
public import proofs.«01_k».proof.Proof.RefRegion

@[expose] public section

set_option maxRecDepth 16384

noncomputable section

namespace Cert.ReferenceIdeal.Val

open Idealize.ShloMosaic Cert.ReferenceIdeal.Gen

variable (m : (ℓ : Loc nD τ sig) → Buf (Elt Ideal) ℓ) (c : Dev nD)

/-- What the region leaves. -/
abbrev exit : Valuation τ sig (Elt Ideal) := Pipeline.withArrays (cfgs 0).spec c (V0 m c) fun w => (dats m 0 c).arrAt w (cfgs 0).N

/-- A buffer that is not the region's is as the region found it. -/
theorem exit_of_ne (r : Ref sig .tc) (hr : ∀ w, Pipeline.arrRef spec0 w ≠ r) : exit m c (Proc.tc.devRef r) = V0 m c (Proc.tc.devRef r) :=
  Pipeline.withArrays_of_ne spec0 c (V0 m c) _ r hr

/-- The region's arrays are different buffers. -/
theorem arr_inj : Function.Injective (Pipeline.arrRef spec0) := by decide

/-- The keys' scales after the region. -/
theorem exit_key (y : S8x1024x4x4.Idx) : exit m c (Proc.tc.devRef main_v216_0) y = V0 m c (Proc.tc.devRef main_v159) y :=
  (congrFun (Pipeline.withArrays_arr spec0 arr_inj c (V0 m c) (fun w => (dats m 0 c).arrAt w (cfgs 0).N) 2) y).trans (region2 m c y)

/-- The values' scales after the region. -/
theorem exit_val (y : S8x1024x4x4.Idx) : exit m c (Proc.tc.devRef main_v216_1) y = V0 m c (Proc.tc.devRef main_v164) y :=
  (congrFun (Pipeline.withArrays_arr spec0 arr_inj c (V0 m c) (fun w => (dats m 0 c).arrAt w (cfgs 0).N) 3) y).trans (region3 m c y)

/-- What the region finds, stage by stage. -/
theorem found (r : Ref sig .tc) : V0 m c (Proc.tc.devRef r) = entry (fun b => m (c, b)) (Proc.tc.devRef r) :=
  congrFun (entry_eq (fun b => m (c, b))) (Proc.tc.devRef r)

/-- A buffer the operations before the region write and the region leaves. -/
theorem exit_entry (r : Ref sig .tc) (hr : ∀ w, Pipeline.arrRef spec0 w ≠ r) : exit m c (Proc.tc.devRef r) = entry (fun b => m (c, b)) (Proc.tc.devRef r) :=
  (exit_of_ne m c r hr).trans (found m c r)

/-- The result, at lengths that fill the window. -/
theorem result_val (hlen : ∀ b : Fin 8, ∃ n, n ≤ 31744 ∧ m ((c.tc : Thread nD τ).loc main_arg9) (ix1 b) = BitVec.ofNat 32 (n + 1024)) (y : S8x4x2048.Idx) :
    Pipeline.afterTail₀ cfgs (dats m) 0 (V0 m) [hostOps1, hostOps1_1, hostOps1_2, hostOps1_3, hostOps1_4, hostOps1_5, hostOps1_6] c main_v272 y
      = Spec.colCell (m ((c.tc : Thread nD τ).loc main_arg9)) (m ((c.tc : Thread nD τ).loc main_arg7) ix0) (m ((c.tc : Thread nD τ).loc main_arg8) ix0)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) y := by
  exact result_of (fun b => m (c, b)) (exit m c)
    (fun r hr => exit_entry m c r (by
      simp only [List.mem_cons, List.not_mem_nil, or_false] at hr
      rcases hr with rfl | rfl | rfl | rfl | rfl | rfl | rfl | rfl <;> decide))
    (fun y => (exit_key m c y).trans (congrFun (found m c main_v159) y)) (fun y => (exit_val m c y).trans (congrFun (found m c main_v164) y))
    ((exit_of_ne m c main_arg7 (by decide)).trans (V_main_arg7 m c)) ((exit_of_ne m c main_arg8 (by decide)).trans (V_main_arg8 m c)) hlen y

end Cert.ReferenceIdeal.Val
-- ==== Proof.RefRun.lean ====
/-
  The reference's run: its result and its arguments.
-/
module

public import proofs.«01_k».proof.Proof.RefVal

@[expose] public section

set_option maxRecDepth 16384

noncomputable section

namespace Cert.ReferenceIdeal.Val

open Idealize.ShloMosaic Cert.ReferenceIdeal.Gen
open Idealize.ShloMosaic.TcCoe Idealize.SL Idealize.SL.Sem

variable (m : (ℓ : Loc nD τ sig) → Buf (Elt Ideal) ℓ) (ρ : Dev nD → PrngReg)

/-- At lengths that fill the window, every run ends with the result at the closed form and the arguments as they were. -/
theorem run_val (hlen : ∀ (c : Dev nD) (b : Fin 8), ∃ n, n ≤ 31744 ∧ m ((c.tc : Thread nD τ).loc main_arg9) (ix1 b) = BitVec.ofNat 32 (n + 1024)) :
    θ_run defs (onTc (τ := τ) (main (F := Ideal))) ⟨m, fun _ => 0, ρ⟩ (fun r => ∀ c : Dev nD,
      r.2.mem ((c.tc : Thread nD τ).loc main_v272) = Spec.colCell (m ((c.tc : Thread nD τ).loc main_arg9)) (m ((c.tc : Thread nD τ).loc main_arg7) ix0) (m ((c.tc : Thread nD τ).loc main_arg8) ix0)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v272 (Pipeline.mem_restRefs_of main_v272 (by decide) (by decide))).trans (funext (result_val m c (hlen c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.ReferenceIdeal.Val
-- ==== Proof.Full.lean ====
/-
  What the precondition says of the lengths.
-/
module

public import proofs.«01_k».proof.Pre_window_full
public import Idealize.ShloMosaic.Lib.ReduceAll
public import Idealize.ShloMosaic.Lib.Affine
public import Idealize.ShloMosaic.PureOps.Ideal
import Idealize.ShloMosaic.Lib.Pointwise

@[expose] public section

noncomputable section

namespace Cert.Pre_window_full

open Idealize.ShloMosaic

/-- The side conditions of the predicate. -/
theorem facts : Facts where
  bcast_S_S8 := by decide
  reducesTo_S8_S_d0 := by decide
  h_S_ := by decide

/-- A table without axes has one element. -/
theorem one_idx : Subsingleton S_.Idx := ⟨fun _ _ => funext fun a => a.elim0⟩

/-- Every length is between 1024 and 32768. -/
theorem lengths [Facts] (x0 : FVec Ideal S8x4x32x64 .bf16) (x1 x2 : FVec Ideal S8x4x4x64 .bf16) (x3 x4 : IVec S8x32768x4x32 8) (x5 x6 : FVec Ideal S8x32768x4x4 .fp8e4m3)
    (x7 x8 : FVec Ideal S_ .f32) (x9 : IVec S8 32) (h : fn (F := Ideal) x0 x1 x2 x3 x4 x5 x6 x7 x8 x9 = fun _ => 1#1) (b : S8.Idx) :
    ∃ n, n ≤ 31744 ∧ x9 b = BitVec.ofNat 32 (n + 1024) := by
  haveI := one_idx
  have hb := Host.reduce_andi_all _ _ _ _ (fun a => a.elim0) (congrFun h fun a => a.elim0) b
  obtain ⟨h1, h2⟩ := IntOp.andi_eq_one.1 hb
  have h1' : (1024#32).toInt ≤ (x9 b).toInt := IntOp.cmpi_sge.1 h1
  have h2' : (x9 b).toInt ≤ (32768#32).toInt := IntOp.cmpi_sle.1 h2
  have e1 : (1024#32).toInt = 1024 := by decide
  have e2 : (32768#32).toInt = 32768 := by decide
  rw [e1] at h1'
  rw [e2] at h2'
  have ht : (x9 b).toInt = (x9 b).toNat := by
    have hlt := (x9 b).isLt
    rw [BitVec.toInt_eq_toNat_cond] at h1' ⊢
    split_ifs at h1' ⊢ <;> omega
  rw [ht] at h1' h2'
  refine ⟨(x9 b).toNat - 1024, by omega, ?_⟩
  rw [show (x9 b).toNat - 1024 + 1024 = (x9 b).toNat by omega]
  rw [BitVec.ofNat_toNat, BitVec.setWidth_eq]

end Cert.Pre_window_full
-- ==== Proof.Value.lean ====
/-
  The kernel and the reference, idealized, compute the same values.
-/
module

public import proofs.«01_k».proof.Defs
public import proofs.«01_k».proof.Proof.HypsKernelIdeal
public import proofs.«01_k».proof.Proof.KernelVal
public import proofs.«01_k».proof.Proof.RefRun
public import proofs.«01_k».proof.Proof.Full

@[expose] public section

noncomputable section

namespace Cert

open Idealize.ShloMosaic Idealize.SL Idealize.SL.Sem

/-- At lengths that fill the window, from the same arguments, both end with the same result. -/
theorem algebraic : algebraic_KernelIdeal_ReferenceIdeal_pre_window_full (hKernelIdeal := Cert.KernelIdeal.Gen.facts) (hReferenceIdeal := Cert.ReferenceIdeal.Gen.facts)
    (hPre_window_full := Cert.Pre_window_full.facts) := by
  intro m g m' g' hpre hargs
  have hlen : ∀ (c : Dev Cert.ReferenceIdeal.nD) (b : Fin 8), ∃ n, n ≤ 31744 ∧
      m' ((c.tc : Thread Cert.ReferenceIdeal.nD Cert.ReferenceIdeal.τ).loc Cert.ReferenceIdeal.main_arg9) (ix1 b) = BitVec.ofNat 32 (n + 1024) := fun c b => by
    obtain ⟨n, hn, e⟩ := @Cert.Pre_window_full.lengths Cert.Pre_window_full.facts _ _ _ _ _ _ _ _ _ _ (hpre c) (ix1 b)
    exact ⟨n, hn, (congrFun (hargs c).2.2.2.2.2.2.2.2.2 (ix1 b)).trans e⟩
  refine ⟨_, (θ_run _ _ _).mono (fun r h c => ⟨(h c).1.trans (Cert.KernelIdeal.Batch.array_val m c _), (h c).2⟩) (Cert.KernelIdeal.Value.run_blocks m g (Cert.KernelIdeal.Gen.hyps m)),
    (θ_run _ _ _).mono (fun r h c => ⟨(h c).1.trans ?_, (h c).2⟩) (Cert.ReferenceIdeal.Val.run_val m' g' hlen)⟩
  obtain ⟨e0, e1, e2, e3, e4, e5, e6, e7, e8, e9⟩ := hargs c
  rw [e0, e1, e2, e3, e4, e5, e6, e7, e8, e9]

end Cert
-- ==== Proof.lean ====
module

public import proofs.«01_k».proof.Defs
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.HypsKernel
public import proofs.«01_k».proof.Proof.HypsKernelIdeal

public import proofs.«01_k».proof.Proof.Value

public import Idealize.ShloMosaic.Adequacy
public import Idealize.ShloMosaic.Init

@[expose] public section

noncomputable section

namespace Cert.Proof

open Idealize.ShloMosaic Idealize.SL.Sem Cert.Kernel

/-- The claims, each from its own theorem: the frames, the two programs being one, and the kernel and the reference computing the same. -/
theorem claim : Cert.Claim :=
  ⟨Cert.Kernel.Gen.facts, Cert.KernelIdeal.Gen.facts, Cert.ReferenceIdeal.Gen.facts, Cert.Pre_window_full.facts,
    fun m ρ _ => Cert.Kernel.Gen.frame m ρ (Cert.Kernel.Gen.hyps m),
    fun m ρ _ => Cert.KernelIdeal.Gen.frame m ρ (Cert.KernelIdeal.Gen.hyps m),
    fun m ρ _ => Cert.KernelIdeal.Gen.frame m ρ (Cert.KernelIdeal.Gen.hyps m),
    fun m ρ _ => Cert.ReferenceIdeal.Gen.frame m ρ,
    fun m ρ _ => Cert.ReferenceIdeal.Gen.frame m ρ,
    trivial, Cert.algebraic⟩

end Cert.Proof

end
